-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Combine [hPre_planned : Cert.Pre_planned.Facts] (m : (ℓ : Loc Cert.Combine.nD Cert.Combine.τ Cert.Combine.sig) → Buf (Elt Bits) ℓ) : Prop :=
  ∀ c : Dev Cert.Combine.nD,
    (Cert.Pre_planned.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4)) (m ((c.tc : Thread Cert.Combine.nD Cert.Combine.τ).loc Cert.Combine.main_arg5)) (m ((c.tc : Thread Cert.Combine.nD Cert.Combine.τ).loc Cert.Combine.main_arg6)) (m ((c.tc : Thread Cert.Combine.nD Cert.Combine.τ).loc Cert.Combine.main_arg7)) (m ((c.tc : Thread Cert.Combine.nD Cert.Combine.τ).loc Cert.Combine.main_arg8)) (m ((c.tc : Thread Cert.Combine.nD Cert.Combine.τ).loc Cert.Combine.main_arg9)) (m ((c.tc : Thread Cert.Combine.nD Cert.Combine.τ).loc Cert.Combine.main_arg10)) (m ((c.tc : Thread Cert.Combine.nD Cert.Combine.τ).loc Cert.Combine.main_arg11))) = (fun _ => 1#1)

def Pre_CombineIdeal [hPre_planned : Cert.Pre_planned.Facts] (m : (ℓ : Loc Cert.CombineIdeal.nD Cert.CombineIdeal.τ Cert.CombineIdeal.sig) → Buf (Elt Ideal) ℓ) : Prop :=
  ∀ c : Dev Cert.CombineIdeal.nD,
    (Cert.Pre_planned.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5)) (m ((c.tc : Thread Cert.CombineIdeal.nD Cert.CombineIdeal.τ).loc Cert.CombineIdeal.main_arg6)) (m ((c.tc : Thread Cert.CombineIdeal.nD Cert.CombineIdeal.τ).loc Cert.CombineIdeal.main_arg7)) (m ((c.tc : Thread Cert.CombineIdeal.nD Cert.CombineIdeal.τ).loc Cert.CombineIdeal.main_arg8)) (m ((c.tc : Thread Cert.CombineIdeal.nD Cert.CombineIdeal.τ).loc Cert.CombineIdeal.main_arg9)) (m ((c.tc : Thread Cert.CombineIdeal.nD Cert.CombineIdeal.τ).loc Cert.CombineIdeal.main_arg10)) (m ((c.tc : Thread Cert.CombineIdeal.nD Cert.CombineIdeal.τ).loc Cert.CombineIdeal.main_arg11))) = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_planned [hPre_planned : Cert.Pre_planned.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_planned.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4)) (m ((c.tc : Thread Cert.CombineRefIdeal.nD Cert.CombineRefIdeal.τ).loc Cert.CombineRefIdeal.main_arg5)) (m ((c.tc : Thread Cert.CombineRefIdeal.nD Cert.CombineRefIdeal.τ).loc Cert.CombineRefIdeal.main_arg6)) (m ((c.tc : Thread Cert.CombineRefIdeal.nD Cert.CombineRefIdeal.τ).loc Cert.CombineRefIdeal.main_arg7)) (m ((c.tc : Thread Cert.CombineRefIdeal.nD Cert.CombineRefIdeal.τ).loc Cert.CombineRefIdeal.main_arg8)) (m ((c.tc : Thread Cert.CombineRefIdeal.nD Cert.CombineRefIdeal.τ).loc Cert.CombineRefIdeal.main_arg9)) (m ((c.tc : Thread Cert.CombineRefIdeal.nD Cert.CombineRefIdeal.τ).loc Cert.CombineRefIdeal.main_arg10)) (m ((c.tc : Thread Cert.CombineRefIdeal.nD Cert.CombineRefIdeal.τ).loc Cert.CombineRefIdeal.main_arg11))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Combine [hCombine : Cert.Combine.Facts] [hPre_planned : Cert.Pre_planned.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7)
      ∧ r.2.mem ((c.tc : Thread Cert.Combine.nD Cert.Combine.τ).loc Cert.Combine.main_arg8) = m ((c.tc : Thread Cert.Combine.nD Cert.Combine.τ).loc Cert.Combine.main_arg8)
      ∧ r.2.mem ((c.tc : Thread Cert.Combine.nD Cert.Combine.τ).loc Cert.Combine.main_arg9) = m ((c.tc : Thread Cert.Combine.nD Cert.Combine.τ).loc Cert.Combine.main_arg9)
      ∧ r.2.mem ((c.tc : Thread Cert.Combine.nD Cert.Combine.τ).loc Cert.Combine.main_arg10) = m ((c.tc : Thread Cert.Combine.nD Cert.Combine.τ).loc Cert.Combine.main_arg10)
      ∧ r.2.mem ((c.tc : Thread Cert.Combine.nD Cert.Combine.τ).loc Cert.Combine.main_arg11) = m ((c.tc : Thread Cert.Combine.nD Cert.Combine.τ).loc Cert.Combine.main_arg11))
      ∧ r.2.sem = fun _ => 0)

def quiescent_CombineIdeal [hCombineIdeal : Cert.CombineIdeal.Facts] [hPre_planned : Cert.Pre_planned.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
      ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9)
      ∧ r.2.mem ((c.tc : Thread Cert.CombineIdeal.nD Cert.CombineIdeal.τ).loc Cert.CombineIdeal.main_arg10) = m ((c.tc : Thread Cert.CombineIdeal.nD Cert.CombineIdeal.τ).loc Cert.CombineIdeal.main_arg10)
      ∧ r.2.mem ((c.tc : Thread Cert.CombineIdeal.nD Cert.CombineIdeal.τ).loc Cert.CombineIdeal.main_arg11) = m ((c.tc : Thread Cert.CombineIdeal.nD Cert.CombineIdeal.τ).loc Cert.CombineIdeal.main_arg11))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6)
      ∧ r.2.mem ((c.tc : Thread Cert.CombineRefIdeal.nD Cert.CombineRefIdeal.τ).loc Cert.CombineRefIdeal.main_arg7) = m ((c.tc : Thread Cert.CombineRefIdeal.nD Cert.CombineRefIdeal.τ).loc Cert.CombineRefIdeal.main_arg7)
      ∧ r.2.mem ((c.tc : Thread Cert.CombineRefIdeal.nD Cert.CombineRefIdeal.τ).loc Cert.CombineRefIdeal.main_arg8) = m ((c.tc : Thread Cert.CombineRefIdeal.nD Cert.CombineRefIdeal.τ).loc Cert.CombineRefIdeal.main_arg8)
      ∧ r.2.mem ((c.tc : Thread Cert.CombineRefIdeal.nD Cert.CombineRefIdeal.τ).loc Cert.CombineRefIdeal.main_arg9) = m ((c.tc : Thread Cert.CombineRefIdeal.nD Cert.CombineRefIdeal.τ).loc Cert.CombineRefIdeal.main_arg9)
      ∧ r.2.mem ((c.tc : Thread Cert.CombineRefIdeal.nD Cert.CombineRefIdeal.τ).loc Cert.CombineRefIdeal.main_arg10) = m ((c.tc : Thread Cert.CombineRefIdeal.nD Cert.CombineRefIdeal.τ).loc Cert.CombineRefIdeal.main_arg10)
      ∧ r.2.mem ((c.tc : Thread Cert.CombineRefIdeal.nD Cert.CombineRefIdeal.τ).loc Cert.CombineRefIdeal.main_arg11) = m ((c.tc : Thread Cert.CombineRefIdeal.nD Cert.CombineRefIdeal.τ).loc Cert.CombineRefIdeal.main_arg11))
      ∧ r.2.sem = fun _ => 0)

def quiescent_CombineRefIdeal_pre_planned [hCombineRefIdeal : Cert.CombineRefIdeal.Facts] [hPre_planned : Cert.Pre_planned.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_planned m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6)
      ∧ r.2.mem ((c.tc : Thread Cert.CombineRefIdeal.nD Cert.CombineRefIdeal.τ).loc Cert.CombineRefIdeal.main_arg7) = m ((c.tc : Thread Cert.CombineRefIdeal.nD Cert.CombineRefIdeal.τ).loc Cert.CombineRefIdeal.main_arg7)
      ∧ r.2.mem ((c.tc : Thread Cert.CombineRefIdeal.nD Cert.CombineRefIdeal.τ).loc Cert.CombineRefIdeal.main_arg8) = m ((c.tc : Thread Cert.CombineRefIdeal.nD Cert.CombineRefIdeal.τ).loc Cert.CombineRefIdeal.main_arg8)
      ∧ r.2.mem ((c.tc : Thread Cert.CombineRefIdeal.nD Cert.CombineRefIdeal.τ).loc Cert.CombineRefIdeal.main_arg9) = m ((c.tc : Thread Cert.CombineRefIdeal.nD Cert.CombineRefIdeal.τ).loc Cert.CombineRefIdeal.main_arg9)
      ∧ r.2.mem ((c.tc : Thread Cert.CombineRefIdeal.nD Cert.CombineRefIdeal.τ).loc Cert.CombineRefIdeal.main_arg10) = m ((c.tc : Thread Cert.CombineRefIdeal.nD Cert.CombineRefIdeal.τ).loc Cert.CombineRefIdeal.main_arg10)
      ∧ r.2.mem ((c.tc : Thread Cert.CombineRefIdeal.nD Cert.CombineRefIdeal.τ).loc Cert.CombineRefIdeal.main_arg11) = m ((c.tc : Thread Cert.CombineRefIdeal.nD Cert.CombineRefIdeal.τ).loc Cert.CombineRefIdeal.main_arg11))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def preserves_Kernel_KernelIdeal : Prop :=
  True

def algebraic_KernelIdeal_ReferenceIdeal_on_used_rows [hKernelIdeal : Cert.KernelIdeal.Facts] [hReferenceIdeal : Cert.ReferenceIdeal.Facts] [hPre_routed : Cert.Pre_routed.Facts] [hOn_used_rows : Cert.On_used_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![40960, 1024]⟩ : Shape).Idx, (Cert.On_used_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![40960, 1024]⟩ : Shape).Idx, (Cert.On_used_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.ReferenceIdeal.nD Cert.ReferenceIdeal.τ).loc Cert.ReferenceIdeal.main_v19) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v29) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Combine_CombineIdeal : Prop :=
  True

def algebraic_CombineIdeal_CombineRefIdeal [hCombineIdeal : Cert.CombineIdeal.Facts] [hCombineRefIdeal : Cert.CombineRefIdeal.Facts] [hPre_planned : Cert.Pre_planned.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)
      ∧ m' ((c.tc : Thread Cert.CombineRefIdeal.nD Cert.CombineRefIdeal.τ).loc Cert.CombineRefIdeal.main_arg6) = m ((c.tc : Thread Cert.CombineIdeal.nD Cert.CombineIdeal.τ).loc Cert.CombineIdeal.main_arg6)
      ∧ m' ((c.tc : Thread Cert.CombineRefIdeal.nD Cert.CombineRefIdeal.τ).loc Cert.CombineRefIdeal.main_arg7) = m ((c.tc : Thread Cert.CombineIdeal.nD Cert.CombineIdeal.τ).loc Cert.CombineIdeal.main_arg7)
      ∧ m' ((c.tc : Thread Cert.CombineRefIdeal.nD Cert.CombineRefIdeal.τ).loc Cert.CombineRefIdeal.main_arg8) = m ((c.tc : Thread Cert.CombineIdeal.nD Cert.CombineIdeal.τ).loc Cert.CombineIdeal.main_arg8)
      ∧ m' ((c.tc : Thread Cert.CombineRefIdeal.nD Cert.CombineRefIdeal.τ).loc Cert.CombineRefIdeal.main_arg9) = m ((c.tc : Thread Cert.CombineIdeal.nD Cert.CombineIdeal.τ).loc Cert.CombineIdeal.main_arg9)
      ∧ m' ((c.tc : Thread Cert.CombineRefIdeal.nD Cert.CombineRefIdeal.τ).loc Cert.CombineRefIdeal.main_arg10) = m ((c.tc : Thread Cert.CombineIdeal.nD Cert.CombineIdeal.τ).loc Cert.CombineIdeal.main_arg10)
      ∧ m' ((c.tc : Thread Cert.CombineRefIdeal.nD Cert.CombineRefIdeal.τ).loc Cert.CombineRefIdeal.main_arg11) = m ((c.tc : Thread Cert.CombineIdeal.nD Cert.CombineIdeal.τ).loc Cert.CombineIdeal.main_arg11)) →
    ∃ (v0 : (c : Dev Cert.CombineIdeal.nD) → Buf (Elt Ideal) ((c.tc : Thread Cert.CombineIdeal.nD Cert.CombineIdeal.τ).loc Cert.CombineIdeal.main_v4)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v4) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
          ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
          ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9)
          ∧ r.2.mem ((c.tc : Thread Cert.CombineIdeal.nD Cert.CombineIdeal.τ).loc Cert.CombineIdeal.main_arg10) = m ((c.tc : Thread Cert.CombineIdeal.nD Cert.CombineIdeal.τ).loc Cert.CombineIdeal.main_arg10)
          ∧ r.2.mem ((c.tc : Thread Cert.CombineIdeal.nD Cert.CombineIdeal.τ).loc Cert.CombineIdeal.main_arg11) = m ((c.tc : Thread Cert.CombineIdeal.nD Cert.CombineIdeal.τ).loc Cert.CombineIdeal.main_arg11))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v35) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5)
          ∧ r.2.mem ((c.tc : Thread Cert.CombineRefIdeal.nD Cert.CombineRefIdeal.τ).loc Cert.CombineRefIdeal.main_arg6) = m' ((c.tc : Thread Cert.CombineRefIdeal.nD Cert.CombineRefIdeal.τ).loc Cert.CombineRefIdeal.main_arg6)
          ∧ r.2.mem ((c.tc : Thread Cert.CombineRefIdeal.nD Cert.CombineRefIdeal.τ).loc Cert.CombineRefIdeal.main_arg7) = m' ((c.tc : Thread Cert.CombineRefIdeal.nD Cert.CombineRefIdeal.τ).loc Cert.CombineRefIdeal.main_arg7)
          ∧ r.2.mem ((c.tc : Thread Cert.CombineRefIdeal.nD Cert.CombineRefIdeal.τ).loc Cert.CombineRefIdeal.main_arg8) = m' ((c.tc : Thread Cert.CombineRefIdeal.nD Cert.CombineRefIdeal.τ).loc Cert.CombineRefIdeal.main_arg8)
          ∧ r.2.mem ((c.tc : Thread Cert.CombineRefIdeal.nD Cert.CombineRefIdeal.τ).loc Cert.CombineRefIdeal.main_arg9) = m' ((c.tc : Thread Cert.CombineRefIdeal.nD Cert.CombineRefIdeal.τ).loc Cert.CombineRefIdeal.main_arg9)
          ∧ r.2.mem ((c.tc : Thread Cert.CombineRefIdeal.nD Cert.CombineRefIdeal.τ).loc Cert.CombineRefIdeal.main_arg10) = m' ((c.tc : Thread Cert.CombineRefIdeal.nD Cert.CombineRefIdeal.τ).loc Cert.CombineRefIdeal.main_arg10)
          ∧ r.2.mem ((c.tc : Thread Cert.CombineRefIdeal.nD Cert.CombineRefIdeal.τ).loc Cert.CombineRefIdeal.main_arg11) = m' ((c.tc : Thread Cert.CombineRefIdeal.nD Cert.CombineRefIdeal.τ).loc Cert.CombineRefIdeal.main_arg11))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v11_0)) (v1 : (c : Dev Cert.InprojIdeal.nD) → Buf (Elt Ideal) ((c.tc : Thread Cert.InprojIdeal.nD Cert.InprojIdeal.τ).loc Cert.InprojIdeal.main_v11_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v11_0) = v0 c
          ∧ r.2.mem ((c.tc : Thread Cert.InprojIdeal.nD Cert.InprojIdeal.τ).loc Cert.InprojIdeal.main_v11_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v28) = v0 c
          ∧ r.2.mem ((c.tc : Thread Cert.InprojRefIdeal.nD Cert.InprojRefIdeal.τ).loc Cert.InprojRefIdeal.main_v30) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hCombine : Cert.Combine.Facts) (hCombineIdeal : Cert.CombineIdeal.Facts) (hCombineRefIdeal : Cert.CombineRefIdeal.Facts) (hInproj : Cert.Inproj.Facts) (hInprojIdeal : Cert.InprojIdeal.Facts) (hInprojRefIdeal : Cert.InprojRefIdeal.Facts) (hPre_routed : Cert.Pre_routed.Facts) (hPre_planned : Cert.Pre_planned.Facts) (hOn_used_rows : Cert.On_used_rows.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Ffn (hFfn := hFfn)
    ∧ quiescent_FfnIdeal (hFfnIdeal := hFfnIdeal)
    ∧ quiescent_FfnRefIdeal (hFfnRefIdeal := hFfnRefIdeal)
    ∧ quiescent_Combine (hCombine := hCombine) (hPre_planned := hPre_planned)
    ∧ quiescent_CombineIdeal (hCombineIdeal := hCombineIdeal) (hPre_planned := hPre_planned)
    ∧ quiescent_CombineRefIdeal (hCombineRefIdeal := hCombineRefIdeal)
    ∧ quiescent_CombineRefIdeal_pre_planned (hCombineRefIdeal := hCombineRefIdeal) (hPre_planned := hPre_planned)
    ∧ quiescent_Inproj (hInproj := hInproj)
    ∧ quiescent_InprojIdeal (hInprojIdeal := hInprojIdeal)
    ∧ quiescent_InprojRefIdeal (hInprojRefIdeal := hInprojRefIdeal)
    ∧ preserves_Kernel_KernelIdeal
    ∧ algebraic_KernelIdeal_ReferenceIdeal_on_used_rows (hKernelIdeal := hKernelIdeal) (hReferenceIdeal := hReferenceIdeal) (hPre_routed := hPre_routed) (hOn_used_rows := hOn_used_rows)
    ∧ preserves_Ffn_FfnIdeal
    ∧ algebraic_FfnIdeal_FfnRefIdeal (hFfnIdeal := hFfnIdeal) (hFfnRefIdeal := hFfnRefIdeal)
    ∧ preserves_Combine_CombineIdeal
    ∧ algebraic_CombineIdeal_CombineRefIdeal (hCombineIdeal := hCombineIdeal) (hCombineRefIdeal := hCombineRefIdeal) (hPre_planned := hPre_planned)
    ∧ preserves_Inproj_InprojIdeal
    ∧ algebraic_InprojIdeal_InprojRefIdeal (hInprojIdeal := hInprojIdeal) (hInprojRefIdeal := hInprojRefIdeal)
-- ==== On_used_rows.lean ====
abbrev S40 : Shape := ⟨1, ![40]⟩
abbrev S1 : Shape := ⟨1, ![1]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S40960 : Shape := ⟨1, ![40960]⟩
abbrev S40960x1 : Shape := ⟨2, ![40960, 1]⟩
abbrev S_ : Shape := ⟨0, ![]⟩

class Facts : Prop where
  bcast_S40960_S40960x1_0 : S40960.BroadcastsInDim S40960x1 (![0] : Fin 1 → Fin S40960x1.rank)
  shapeCasts_S1_S_ : S1.ShapeCasts S_
  bcast_S_S40960x1 : S_.BroadcastsInDim S40960x1 (![] : Fin 0 → Fin S40960x1.rank)
  bcast_S40960x1_S40960x1024_0_1 : S40960x1.BroadcastsInDim S40960x1024 (![0, 1] : Fin 2 → Fin S40960x1024.rank)

variable [Facts]

def fn {F : FTy → Type} [FloatOps F] (main_arg0 : IVec S40 32) (main_arg1 : IVec S1 32) (main_arg2 : FVec F S40960x1024 .bf16) (main_arg3 : FVec F S8x1024x3584 .f32) (main_arg4 : FVec F S8x1024x3584 .f32) (main_arg5 : FVec F S8x3584x1024 .f32) : IVec S40960x1024 1 :=
  let main_v0 : IVec S40960 32 := iotaInDim S40960 32 0
  let main_v1 : IVec S40960x1 32 := broadcastInDim S40960x1 ![0] bcast_S40960_S40960x1_0 main_v0
  let main_v2 : IVec S_ 32 := shapeCast S_ main_arg1 shapeCasts_S1_S_
  let main_c : IVec S_ 32 := constantI S_ 32 1024#32
  let main_v3 : IVec S_ 32 := muli main_v2 main_c
  let main_v4 : IVec S40960x1 32 := broadcastInDim S40960x1 ![] bcast_S_S40960x1 main_v3
  let main_v5 : IVec S40960x1 1 := cmpi .slt main_v1 main_v4
  let main_v6 : IVec S40960x1024 1 := broadcastInDim S40960x1024 ![0, 1] bcast_S40960x1_S40960x1024_0_1 main_v5
  main_v6
-- ==== Pre_planned.lean ====
abbrev S208 : Shape := ⟨1, ![208]⟩
abbrev S40960x1024 : Shape := ⟨2, ![40960, 1024]⟩
abbrev S16384x8 : Shape := ⟨2, ![16384, 8]⟩
abbrev S2x8192x1024 : Shape := ⟨3, ![2, 8192, 1024]⟩
abbrev S2x6x1024 : Shape := ⟨3, ![2, 6, 1024]⟩
abbrev S1024 : Shape := ⟨1, ![1024]⟩
abbrev S_ : Shape := ⟨0, ![]⟩
abbrev S1x208 : Shape := ⟨2, ![1, 208]⟩
abbrev S208x1 : Shape := ⟨2, ![208, 1]⟩
abbrev S208x208 : Shape := ⟨2, ![208, 208]⟩
abbrev S16384 : Shape := ⟨1, ![16384]⟩
abbrev S16384x1x1 : Shape := ⟨3, ![16384, 1, 1]⟩
abbrev S8 : Shape := ⟨1, ![8]⟩
abbrev S1x8x1 : Shape := ⟨3, ![1, 8, 1]⟩
abbrev S16384x8x1 : Shape := ⟨3, ![16384, 8, 1]⟩
abbrev S1x1x208 : Shape := ⟨3, ![1, 1, 208]⟩
abbrev S16384x1x208 : Shape := ⟨3, ![16384, 1, 208]⟩
abbrev S1x8x208 : Shape := ⟨3, ![1, 8, 208]⟩
abbrev S16384x8x208 : Shape := ⟨3, ![16384, 8, 208]⟩

class Facts : Prop where
  bcast_S_S208 : S_.BroadcastsInDim S208 (![] : Fin 0 → Fin S208.rank)
  bcast_S208_S1x208_1 : S208.BroadcastsInDim S1x208 (![1] : Fin 1 → Fin S1x208.rank)
  bcast_S208_S208x1_0 : S208.BroadcastsInDim S208x1 (![0] : Fin 1 → Fin S208x1.rank)
  bcast_S_S208x1 : S_.BroadcastsInDim S208x1 (![] : Fin 0 → Fin S208x1.rank)
  bcast_S1x208_S208x208_0_1 : S1x208.BroadcastsInDim S208x208 (![0, 1] : Fin 2 → Fin S208x208.rank)
  bcast_S208x1_S208x208_0_1 : S208x1.BroadcastsInDim S208x208 (![0, 1] : Fin 2 → Fin S208x208.rank)
  bcast_S16384_S16384x1x1_0 : S16384.BroadcastsInDim S16384x1x1 (![0] : Fin 1 → Fin S16384x1x1.rank)
  bcast_S8_S1x8x1_1 : S8.BroadcastsInDim S1x8x1 (![1] : Fin 1 → Fin S1x8x1.rank)
  bcast_S16384x8_S16384x8x1_0_1 : S16384x8.BroadcastsInDim S16384x8x1 (![0, 1] : Fin 2 → Fin S16384x8x1.rank)
  bcast_S208_S1x1x208_2 : S208.BroadcastsInDim S1x1x208 (![2] : Fin 1 → Fin S1x1x208.rank)
  bcast_S_S1x1x208 : S_.BroadcastsInDim S1x1x208 (![] : Fin 0 → Fin S1x1x208.rank)
  bcast_S1x1x208_S16384x1x208_0_1_2 : S1x1x208.BroadcastsInDim S16384x1x208 (![0, 1, 2] : Fin 3 → Fin S16384x1x208.rank)
  bcast_S16384x1x1_S16384x1x208_0_1_2 : S16384x1x1.BroadcastsInDim S16384x1x208 (![0, 1, 2] : Fin 3 → Fin S16384x1x208.rank)
  bcast_S1x1x208_S1x8x208_0_1_2 : S1x1x208.BroadcastsInDim S1x8x208 (![0, 1, 2] : Fin 3 → Fin S1x8x208.rank)
  bcast_S1x8x1_S1x8x208_0_1_2 : S1x8x1.BroadcastsInDim S1x8x208 (![0, 1, 2] : Fin 3 → Fin S1x8x208.rank)
  bcast_S16384x1x208_S16384x8x208_0_1_2 : S16384x1x208.BroadcastsInDim S16384x8x208 (![0, 1, 2] : Fin 3 → Fin S16384x8x208.rank)
  bcast_S1x8x208_S16384x8x208_0_1_2 : S1x8x208.BroadcastsInDim S16384x8x208 (![0, 1, 2] : Fin 3 → Fin S16384x8x208.rank)
  bcast_S1x1x208_S16384x8x208_0_1_2 : S1x1x208.BroadcastsInDim S16384x8x208 (![0, 1, 2] : Fin 3 → Fin S16384x8x208.rank)
  bcast_S16384x8x1_S16384x8x208_0_1_2 : S16384x8x1.BroadcastsInDim S16384x8x208 (![0, 1, 2] : Fin 3 → Fin S16384x8x208.rank)
  bcast_S_S16384x8 : S_.BroadcastsInDim S16384x8 (![] : Fin 0 → Fin S16384x8.rank)
  reducesTo_S16384x8x208_S16384x8_d2 : S16384x8x208.ReducesTo [2] S16384x8
  h_S_ : 0 < S_.numel
  reducesTo_S208_S_d0 : S208.ReducesTo [0] S_
  reducesTo_S208x208_S_d0_1 : S208x208.ReducesTo [0, 1] S_
  reducesTo_S16384x8_S_d0_1 : S16384x8.ReducesTo [0, 1] S_

variable [Facts]

def fn_part8 {F : FTy → Type} [FloatOps F] (main_v84 : IVec S208x208 1) (main_v109 : IVec S208x208 1) (main_v159 : IVec S16384x8 1) (main_v164 : IVec S_ 1) (main_c_25 : IVec S_ 1) : IVec S_ 1 :=
  let main_v165 : IVec S_ 1 := (fun x v => Host.reduce IntOp.andi x v reducesTo_S208x208_S_d0_1 h_S_) main_v84 main_c_25
  let main_v166 : IVec S_ 1 := andi main_v164 main_v165
  let main_c_26 : IVec S_ 1 := constantI S_ 1 1#1
  let main_v167 : IVec S_ 1 := (fun x v => Host.reduce IntOp.andi x v reducesTo_S208x208_S_d0_1 h_S_) main_v109 main_c_26
  let main_v168 : IVec S_ 1 := andi main_v166 main_v167
  let main_c_27 : IVec S_ 1 := constantI S_ 1 1#1
  let main_v169 : IVec S_ 1 := (fun x v => Host.reduce IntOp.andi x v reducesTo_S16384x8_S_d0_1 h_S_) main_v159 main_c_27
  let main_v170 : IVec S_ 1 := andi main_v168 main_v169
  main_v170

def fn_part7 {F : FTy → Type} [FloatOps F] (main_arg7 : IVec S16384x8 32) (main_v23 : IVec S208 1) (main_v30 : IVec S208 1) (main_v37 : IVec S208 1) (main_v84 : IVec S208x208 1) (main_v109 : IVec S208x208 1) (main_v114 : IVec S16384x8x1 32) (main_v145 : IVec S16384x8x208 1) (main_v147 : IVec S1x1x208 32) : IVec S_ 1 :=
  let main_c_19 : IVec S_ 32 := constantI S_ 32 512#32
  let main_v148 : IVec S1x1x208 32 := broadcastInDim S1x1x208 ![] bcast_S_S1x1x208 main_c_19
  let main_v149 : IVec S1x1x208 32 := addi main_v147 main_v148
  let main_v150 : IVec S16384x8x208 32 := broadcastInDim S16384x8x208 ![0, 1, 2] bcast_S16384x8x1_S16384x8x208_0_1_2 main_v114
  let main_v151 : IVec S16384x8x208 32 := broadcastInDim S16384x8x208 ![0, 1, 2] bcast_S1x1x208_S16384x8x208_0_1_2 main_v149
  let main_v152 : IVec S16384x8x208 1 := cmpi .slt main_v150 main_v151
  let main_v153 : IVec S16384x8x208 1 := andi main_v145 main_v152
  let main_c_20 : IVec S_ 32 := constantI S_ 32 0#32
  let main_v154 : IVec S16384x8 32 := broadcastInDim S16384x8 ![] bcast_S_S16384x8 main_c_20
  let main_v155 : IVec S16384x8 1 := cmpi .slt main_arg7 main_v154
  let main_v156 : IVec S16384x8x208 1 := noti main_v153
  let main_c_21 : IVec S_ 1 := constantI S_ 1 1#1
  let main_v157 : IVec S16384x8 1 := (fun x v => Host.reduce IntOp.andi x v reducesTo_S16384x8x208_S16384x8_d2 h_S_) main_v156 main_c_21
  let main_v158 : IVec S16384x8 1 := noti main_v157
  let main_v159 : IVec S16384x8 1 := ori main_v155 main_v158
  let main_c_22 : IVec S_ 1 := constantI S_ 1 1#1
  let main_v160 : IVec S_ 1 := (fun x v => Host.reduce IntOp.andi x v reducesTo_S208_S_d0 h_S_) main_v23 main_c_22
  let main_c_23 : IVec S_ 1 := constantI S_ 1 1#1
  let main_v161 : IVec S_ 1 := (fun x v => Host.reduce IntOp.andi x v reducesTo_S208_S_d0 h_S_) main_v30 main_c_23
  let main_v162 : IVec S_ 1 := andi main_v160 main_v161
  let main_c_24 : IVec S_ 1 := constantI S_ 1 1#1
  let main_v163 : IVec S_ 1 := (fun x v => Host.reduce IntOp.andi x v reducesTo_S208_S_d0 h_S_) main_v37 main_c_24
  let main_v164 : IVec S_ 1 := andi main_v162 main_v163
  let main_c_25 : IVec S_ 1 := constantI S_ 1 1#1
  fn_part8 (F := F) main_v84 main_v109 main_v159 main_v164 main_c_25

def fn_part6 {F : FTy → Type} [FloatOps F] (main_arg2 : IVec S208 32) (main_arg7 : IVec S16384x8 32) (main_v23 : IVec S208 1) (main_v30 : IVec S208 1) (main_v37 : IVec S208 1) (main_v84 : IVec S208x208 1) (main_v109 : IVec S208x208 1) (main_v111 : IVec S16384x1x1 32) (main_v113 : IVec S1x8x1 32) (main_v114 : IVec S16384x8x1 32) (main_v116 : IVec S1x1x208 32) (main_v124 : IVec S16384x1x208 1) (main_v126 : IVec S1x1x208 32) : IVec S_ 1 :=
  let main_c_16 : IVec S_ 32 := constantI S_ 32 1024#32
  let main_v127 : IVec S1x1x208 32 := broadcastInDim S1x1x208 ![] bcast_S_S1x1x208 main_c_16
  let main_v128 : IVec S1x1x208 32 := addi main_v126 main_v127
  let main_v129 : IVec S16384x1x208 32 := broadcastInDim S16384x1x208 ![0, 1, 2] bcast_S16384x1x1_S16384x1x208_0_1_2 main_v111
  let main_v130 : IVec S16384x1x208 32 := broadcastInDim S16384x1x208 ![0, 1, 2] bcast_S1x1x208_S16384x1x208_0_1_2 main_v128
  let main_v131 : IVec S16384x1x208 1 := cmpi .slt main_v129 main_v130
  let main_v132 : IVec S16384x1x208 1 := andi main_v124 main_v131
  let main_v133 : IVec S1x1x208 32 := broadcastInDim S1x1x208 ![2] bcast_S208_S1x1x208_2 main_arg2
  let main_v134 : IVec S1x8x208 32 := broadcastInDim S1x8x208 ![0, 1, 2] bcast_S1x1x208_S1x8x208_0_1_2 main_v133
  let main_v135 : IVec S1x8x208 32 := broadcastInDim S1x8x208 ![0, 1, 2] bcast_S1x8x1_S1x8x208_0_1_2 main_v113
  let main_v136 : IVec S1x8x208 1 := cmpi .eq main_v134 main_v135
  let main_v137 : IVec S16384x8x208 1 := broadcastInDim S16384x8x208 ![0, 1, 2] bcast_S16384x1x208_S16384x8x208_0_1_2 main_v132
  let main_v138 : IVec S16384x8x208 1 := broadcastInDim S16384x8x208 ![0, 1, 2] bcast_S1x8x208_S16384x8x208_0_1_2 main_v136
  let main_v139 : IVec S16384x8x208 1 := andi main_v137 main_v138
  let main_c_17 : IVec S_ 32 := constantI S_ 32 512#32
  let main_v140 : IVec S1x1x208 32 := broadcastInDim S1x1x208 ![] bcast_S_S1x1x208 main_c_17
  let main_v141 : IVec S1x1x208 32 := muli main_v140 main_v116
  let main_v142 : IVec S16384x8x208 32 := broadcastInDim S16384x8x208 ![0, 1, 2] bcast_S1x1x208_S16384x8x208_0_1_2 main_v141
  let main_v143 : IVec S16384x8x208 32 := broadcastInDim S16384x8x208 ![0, 1, 2] bcast_S16384x8x1_S16384x8x208_0_1_2 main_v114
  let main_v144 : IVec S16384x8x208 1 := cmpi .sle main_v142 main_v143
  let main_v145 : IVec S16384x8x208 1 := andi main_v139 main_v144
  let main_c_18 : IVec S_ 32 := constantI S_ 32 512#32
  let main_v146 : IVec S1x1x208 32 := broadcastInDim S1x1x208 ![] bcast_S_S1x1x208 main_c_18
  let main_v147 : IVec S1x1x208 32 := muli main_v146 main_v116
  fn_part7 (F := F) main_arg7 main_v23 main_v30 main_v37 main_v84 main_v109 main_v114 main_v145 main_v147

def fn_part5 {F : FTy → Type} [FloatOps F] (main_arg0 : IVec S208 32) (main_arg1 : IVec S208 32) (main_arg2 : IVec S208 32) (main_arg7 : IVec S16384x8 32) (main_v6 : IVec S208 1) (main_v23 : IVec S208 1) (main_v30 : IVec S208 1) (main_v37 : IVec S208 1) (main_v84 : IVec S208x208 1) (main_v89 : IVec S208x208 1) (main_v101 : IVec S208x208 1) (main_v103 : IVec S1x208 32) (main_v104 : IVec S208x208 32) : IVec S_ 1 :=
  let main_v105 : IVec S208x208 32 := broadcastInDim S208x208 ![0, 1] bcast_S1x208_S208x208_0_1 main_v103
  let main_v106 : IVec S208x208 1 := cmpi .eq main_v104 main_v105
  let main_v107 : IVec S208x208 1 := andi main_v101 main_v106
  let main_v108 : IVec S208x208 1 := noti main_v107
  let main_v109 : IVec S208x208 1 := ori main_v89 main_v108
  let main_v110 : IVec S16384 32 := iotaInDim S16384 32 0
  let main_v111 : IVec S16384x1x1 32 := broadcastInDim S16384x1x1 ![0] bcast_S16384_S16384x1x1_0 main_v110
  let main_v112 : IVec S8 32 := iotaInDim S8 32 0
  let main_v113 : IVec S1x8x1 32 := broadcastInDim S1x8x1 ![1] bcast_S8_S1x8x1_1 main_v112
  let main_v114 : IVec S16384x8x1 32 := broadcastInDim S16384x8x1 ![0, 1] bcast_S16384x8_S16384x8x1_0_1 main_arg7
  let main_v115 : IVec S1x1x208 32 := broadcastInDim S1x1x208 ![2] bcast_S208_S1x1x208_2 main_arg0
  let main_v116 : IVec S1x1x208 32 := broadcastInDim S1x1x208 ![2] bcast_S208_S1x1x208_2 main_arg1
  let main_v117 : IVec S1x1x208 1 := broadcastInDim S1x1x208 ![2] bcast_S208_S1x1x208_2 main_v6
  let main_c_14 : IVec S_ 32 := constantI S_ 32 1024#32
  let main_v118 : IVec S1x1x208 32 := broadcastInDim S1x1x208 ![] bcast_S_S1x1x208 main_c_14
  let main_v119 : IVec S1x1x208 32 := muli main_v118 main_v115
  let main_v120 : IVec S16384x1x208 32 := broadcastInDim S16384x1x208 ![0, 1, 2] bcast_S1x1x208_S16384x1x208_0_1_2 main_v119
  let main_v121 : IVec S16384x1x208 32 := broadcastInDim S16384x1x208 ![0, 1, 2] bcast_S16384x1x1_S16384x1x208_0_1_2 main_v111
  let main_v122 : IVec S16384x1x208 1 := cmpi .sle main_v120 main_v121
  let main_v123 : IVec S16384x1x208 1 := broadcastInDim S16384x1x208 ![0, 1, 2] bcast_S1x1x208_S16384x1x208_0_1_2 main_v117
  let main_v124 : IVec S16384x1x208 1 := andi main_v123 main_v122
  let main_c_15 : IVec S_ 32 := constantI S_ 32 1024#32
  let main_v125 : IVec S1x1x208 32 := broadcastInDim S1x1x208 ![] bcast_S_S1x1x208 main_c_15
  let main_v126 : IVec S1x1x208 32 := muli main_v125 main_v115
  fn_part6 (F := F) main_arg2 main_arg7 main_v23 main_v30 main_v37 main_v84 main_v109 main_v111 main_v113 main_v114 main_v116 main_v124 main_v126

def fn_part4 {F : FTy → Type} [FloatOps F] (main_arg0 : IVec S208 32) (main_arg1 : IVec S208 32) (main_arg2 : IVec S208 32) (main_arg7 : IVec S16384x8 32) (main_v0 : IVec S208 32) (main_v6 : IVec S208 1) (main_v23 : IVec S208 1) (main_v30 : IVec S208 1) (main_v37 : IVec S208 1) (main_v44 : IVec S208x208 1) (main_v49 : IVec S208x208 1) (main_v72 : IVec S208x208 1) (main_v73 : IVec S208x1 1) (main_v80 : IVec S208x208 1) : IVec S_ 1 :=
  let main_v81 : IVec S208x208 1 := broadcastInDim S208x208 ![0, 1] bcast_S208x1_S208x208_0_1 main_v73
  let main_v82 : IVec S208x208 1 := cmpi .eq main_v81 main_v80
  let main_v83 : IVec S208x208 1 := andi main_v72 main_v82
  let main_v84 : IVec S208x208 1 := ori main_v44 main_v83
  let main_v85 : IVec S208x1 32 := broadcastInDim S208x1 ![0] bcast_S208_S208x1_0 main_v0
  let main_v86 : IVec S1x208 32 := broadcastInDim S1x208 ![1] bcast_S208_S1x208_1 main_v0
  let main_v87 : IVec S208x208 32 := broadcastInDim S208x208 ![0, 1] bcast_S208x1_S208x208_0_1 main_v85
  let main_v88 : IVec S208x208 32 := broadcastInDim S208x208 ![0, 1] bcast_S1x208_S208x208_0_1 main_v86
  let main_v89 : IVec S208x208 1 := cmpi .eq main_v87 main_v88
  let main_v90 : IVec S208x1 1 := broadcastInDim S208x1 ![0] bcast_S208_S208x1_0 main_v6
  let main_v91 : IVec S1x208 1 := broadcastInDim S1x208 ![1] bcast_S208_S1x208_1 main_v6
  let main_v92 : IVec S208x208 1 := broadcastInDim S208x208 ![0, 1] bcast_S208x1_S208x208_0_1 main_v90
  let main_v93 : IVec S208x208 1 := broadcastInDim S208x208 ![0, 1] bcast_S1x208_S208x208_0_1 main_v91
  let main_v94 : IVec S208x208 1 := andi main_v92 main_v93
  let main_v95 : IVec S208x208 1 := andi main_v94 main_v49
  let main_v96 : IVec S208x1 32 := broadcastInDim S208x1 ![0] bcast_S208_S208x1_0 main_arg2
  let main_v97 : IVec S1x208 32 := broadcastInDim S1x208 ![1] bcast_S208_S1x208_1 main_arg2
  let main_v98 : IVec S208x208 32 := broadcastInDim S208x208 ![0, 1] bcast_S208x1_S208x208_0_1 main_v96
  let main_v99 : IVec S208x208 32 := broadcastInDim S208x208 ![0, 1] bcast_S1x208_S208x208_0_1 main_v97
  let main_v100 : IVec S208x208 1 := cmpi .eq main_v98 main_v99
  let main_v101 : IVec S208x208 1 := andi main_v95 main_v100
  let main_v102 : IVec S208x1 32 := broadcastInDim S208x1 ![0] bcast_S208_S208x1_0 main_arg1
  let main_v103 : IVec S1x208 32 := broadcastInDim S1x208 ![1] bcast_S208_S1x208_1 main_arg1
  let main_v104 : IVec S208x208 32 := broadcastInDim S208x208 ![0, 1] bcast_S208x1_S208x208_0_1 main_v102
  fn_part5 (F := F) main_arg0 main_arg1 main_arg2 main_arg7 main_v6 main_v23 main_v30 main_v37 main_v84 main_v89 main_v101 main_v103 main_v104

def fn_part3 {F : FTy → Type} [FloatOps F] (main_arg0 : IVec S208 32) (main_arg1 : IVec S208 32) (main_arg2 : IVec S208 32) (main_arg7 : IVec S16384x8 32) (main_v0 : IVec S208 32) (main_v2 : IVec S208 1) (main_v4 : IVec S208 1) (main_v6 : IVec S208 1) (main_v23 : IVec S208 1) (main_v30 : IVec S208 1) (main_v37 : IVec S208 1) (main_v44 : IVec S208x208 1) (main_v49 : IVec S208x208 1) (main_v56 : IVec S208x208 1) : IVec S_ 1 :=
  let main_v57 : IVec S208x208 1 := ori main_v49 main_v56
  let main_v58 : IVec S208x1 1 := broadcastInDim S208x1 ![0] bcast_S208_S208x1_0 main_v6
  let main_v59 : IVec S1x208 1 := broadcastInDim S1x208 ![1] bcast_S208_S1x208_1 main_v6
  let main_v60 : IVec S1x208 1 := noti main_v59
  let main_v61 : IVec S208x208 1 := broadcastInDim S208x208 ![0, 1] bcast_S208x1_S208x208_0_1 main_v58
  let main_v62 : IVec S208x208 1 := broadcastInDim S208x208 ![0, 1] bcast_S1x208_S208x208_0_1 main_v60
  let main_v63 : IVec S208x208 1 := ori main_v61 main_v62
  let main_v64 : IVec S208x208 1 := andi main_v57 main_v63
  let main_v65 : IVec S1x208 1 := broadcastInDim S1x208 ![1] bcast_S208_S1x208_1 main_v6
  let main_v66 : IVec S208x208 1 := broadcastInDim S208x208 ![0, 1] bcast_S1x208_S208x208_0_1 main_v65
  let main_v67 : IVec S208x208 1 := ori main_v66 main_v49
  let main_v68 : IVec S208x208 1 := andi main_v64 main_v67
  let main_v69 : IVec S1x208 1 := broadcastInDim S1x208 ![1] bcast_S208_S1x208_1 main_v2
  let main_v70 : IVec S208x208 1 := broadcastInDim S208x208 ![0, 1] bcast_S1x208_S208x208_0_1 main_v69
  let main_v71 : IVec S208x208 1 := cmpi .eq main_v70 main_v56
  let main_v72 : IVec S208x208 1 := andi main_v68 main_v71
  let main_v73 : IVec S208x1 1 := broadcastInDim S208x1 ![0] bcast_S208_S208x1_0 main_v4
  let main_v74 : IVec S208x1 1 := broadcastInDim S208x1 ![0] bcast_S208_S208x1_0 main_v6
  let main_v75 : IVec S1x208 1 := broadcastInDim S1x208 ![1] bcast_S208_S1x208_1 main_v6
  let main_v76 : IVec S208x208 1 := broadcastInDim S208x208 ![0, 1] bcast_S1x208_S208x208_0_1 main_v75
  let main_v77 : IVec S208x208 1 := andi main_v76 main_v49
  let main_v78 : IVec S208x208 1 := noti main_v77
  let main_v79 : IVec S208x208 1 := broadcastInDim S208x208 ![0, 1] bcast_S208x1_S208x208_0_1 main_v74
  let main_v80 : IVec S208x208 1 := andi main_v79 main_v78
  fn_part4 (F := F) main_arg0 main_arg1 main_arg2 main_arg7 main_v0 main_v6 main_v23 main_v30 main_v37 main_v44 main_v49 main_v72 main_v73 main_v80

def fn_part2 {F : FTy → Type} [FloatOps F] (main_arg0 : IVec S208 32) (main_arg1 : IVec S208 32) (main_arg2 : IVec S208 32) (main_arg7 : IVec S16384x8 32) (main_v0 : IVec S208 32) (main_v2 : IVec S208 1) (main_v4 : IVec S208 1) (main_v6 : IVec S208 1) (main_v23 : IVec S208 1) (main_v30 : IVec S208 1) (main_v32 : IVec S208 1) (main_v34 : IVec S208 1) : IVec S_ 1 :=
  let main_v35 : IVec S208 1 := cmpi .eq main_v4 main_v6
  let main_v36 : IVec S208 1 := andi main_v34 main_v35
  let main_v37 : IVec S208 1 := ori main_v32 main_v36
  let main_v38 : IVec S1x208 32 := broadcastInDim S1x208 ![1] bcast_S208_S1x208_1 main_v0
  let main_v39 : IVec S208x1 32 := broadcastInDim S208x1 ![0] bcast_S208_S208x1_0 main_v0
  let main_c_12 : IVec S_ 32 := constantI S_ 32 1#32
  let main_v40 : IVec S208x1 32 := broadcastInDim S208x1 ![] bcast_S_S208x1 main_c_12
  let main_v41 : IVec S208x1 32 := addi main_v39 main_v40
  let main_v42 : IVec S208x208 32 := broadcastInDim S208x208 ![0, 1] bcast_S1x208_S208x208_0_1 main_v38
  let main_v43 : IVec S208x208 32 := broadcastInDim S208x208 ![0, 1] bcast_S208x1_S208x208_0_1 main_v41
  let main_v44 : IVec S208x208 1 := cmpi .ne main_v42 main_v43
  let main_v45 : IVec S1x208 32 := broadcastInDim S1x208 ![1] bcast_S208_S1x208_1 main_arg0
  let main_v46 : IVec S208x1 32 := broadcastInDim S208x1 ![0] bcast_S208_S208x1_0 main_arg0
  let main_v47 : IVec S208x208 32 := broadcastInDim S208x208 ![0, 1] bcast_S1x208_S208x208_0_1 main_v45
  let main_v48 : IVec S208x208 32 := broadcastInDim S208x208 ![0, 1] bcast_S208x1_S208x208_0_1 main_v46
  let main_v49 : IVec S208x208 1 := cmpi .eq main_v47 main_v48
  let main_v50 : IVec S1x208 32 := broadcastInDim S1x208 ![1] bcast_S208_S1x208_1 main_arg0
  let main_v51 : IVec S208x1 32 := broadcastInDim S208x1 ![0] bcast_S208_S208x1_0 main_arg0
  let main_c_13 : IVec S_ 32 := constantI S_ 32 1#32
  let main_v52 : IVec S208x1 32 := broadcastInDim S208x1 ![] bcast_S_S208x1 main_c_13
  let main_v53 : IVec S208x1 32 := addi main_v51 main_v52
  let main_v54 : IVec S208x208 32 := broadcastInDim S208x208 ![0, 1] bcast_S1x208_S208x208_0_1 main_v50
  let main_v55 : IVec S208x208 32 := broadcastInDim S208x208 ![0, 1] bcast_S208x1_S208x208_0_1 main_v53
  let main_v56 : IVec S208x208 1 := cmpi .eq main_v54 main_v55
  fn_part3 (F := F) main_arg0 main_arg1 main_arg2 main_arg7 main_v0 main_v2 main_v4 main_v6 main_v23 main_v30 main_v37 main_v44 main_v49 main_v56

def fn_part1 {F : FTy → Type} [FloatOps F] (main_arg0 : IVec S208 32) (main_arg1 : IVec S208 32) (main_arg2 : IVec S208 32) (main_arg7 : IVec S16384x8 32) (main_v0 : IVec S208 32) (main_v2 : IVec S208 1) (main_v4 : IVec S208 1) (main_v6 : IVec S208 1) (main_v14 : IVec S208 1) (main_v16 : IVec S208 1) : IVec S_ 1 :=
  let main_v17 : IVec S208 1 := andi main_v14 main_v16
  let main_c_6 : IVec S_ 32 := constantI S_ 32 0#32
  let main_v18 : IVec S208 32 := broadcastInDim S208 ![] bcast_S_S208 main_c_6
  let main_v19 : IVec S208 1 := cmpi .sge main_arg2 main_v18
  let main_v20 : IVec S208 1 := andi main_v17 main_v19
  let main_c_7 : IVec S_ 32 := constantI S_ 32 8#32
  let main_v21 : IVec S208 32 := broadcastInDim S208 ![] bcast_S_S208 main_c_7
  let main_v22 : IVec S208 1 := cmpi .slt main_arg2 main_v21
  let main_v23 : IVec S208 1 := andi main_v20 main_v22
  let main_c_8 : IVec S_ 32 := constantI S_ 32 0#32
  let main_v24 : IVec S208 32 := broadcastInDim S208 ![] bcast_S_S208 main_c_8
  let main_v25 : IVec S208 1 := cmpi .ne main_v0 main_v24
  let main_c_9 : IVec S_ 32 := constantI S_ 32 0#32
  let main_v26 : IVec S208 32 := broadcastInDim S208 ![] bcast_S_S208 main_c_9
  let main_v27 : IVec S208 1 := cmpi .eq main_arg0 main_v26
  let main_v28 : IVec S208 1 := andi main_v27 main_v6
  let main_v29 : IVec S208 1 := andi main_v28 main_v2
  let main_v30 : IVec S208 1 := ori main_v25 main_v29
  let main_c_10 : IVec S_ 32 := constantI S_ 32 207#32
  let main_v31 : IVec S208 32 := broadcastInDim S208 ![] bcast_S_S208 main_c_10
  let main_v32 : IVec S208 1 := cmpi .ne main_v0 main_v31
  let main_c_11 : IVec S_ 32 := constantI S_ 32 15#32
  let main_v33 : IVec S208 32 := broadcastInDim S208 ![] bcast_S_S208 main_c_11
  let main_v34 : IVec S208 1 := cmpi .eq main_arg0 main_v33
  fn_part2 (F := F) main_arg0 main_arg1 main_arg2 main_arg7 main_v0 main_v2 main_v4 main_v6 main_v23 main_v30 main_v32 main_v34

def fn {F : FTy → Type} [FloatOps F] (main_arg0 : IVec S208 32) (main_arg1 : IVec S208 32) (main_arg2 : IVec S208 32) (main_arg3 : IVec S208 32) (main_arg4 : IVec S208 32) (main_arg5 : IVec S208 32) (main_arg6 : FVec F S40960x1024 .bf16) (main_arg7 : IVec S16384x8 32) (main_arg8 : FVec F S16384x8 .f32) (main_arg9 : FVec F S2x8192x1024 .f32) (main_arg10 : FVec F S2x6x1024 .f32) (main_arg11 : FVec F S1024 .f32) : IVec S_ 1 :=
  let main_v0 : IVec S208 32 := iotaInDim S208 32 0
  let main_c : IVec S_ 32 := constantI S_ 32 1#32
  let main_v1 : IVec S208 32 := broadcastInDim S208 ![] bcast_S_S208 main_c
  let main_v2 : IVec S208 1 := cmpi .eq main_arg3 main_v1
  let main_c_0 : IVec S_ 32 := constantI S_ 32 1#32
  let main_v3 : IVec S208 32 := broadcastInDim S208 ![] bcast_S_S208 main_c_0
  let main_v4 : IVec S208 1 := cmpi .eq main_arg4 main_v3
  let main_c_1 : IVec S_ 32 := constantI S_ 32 1#32
  let main_v5 : IVec S208 32 := broadcastInDim S208 ![] bcast_S_S208 main_c_1
  let main_v6 : IVec S208 1 := cmpi .eq main_arg5 main_v5
  let main_c_2 : IVec S_ 32 := constantI S_ 32 0#32
  let main_v7 : IVec S208 32 := broadcastInDim S208 ![] bcast_S_S208 main_c_2
  let main_v8 : IVec S208 1 := cmpi .sge main_arg0 main_v7
  let main_c_3 : IVec S_ 32 := constantI S_ 32 16#32
  let main_v9 : IVec S208 32 := broadcastInDim S208 ![] bcast_S_S208 main_c_3
  let main_v10 : IVec S208 1 := cmpi .slt main_arg0 main_v9
  let main_v11 : IVec S208 1 := andi main_v8 main_v10
  let main_c_4 : IVec S_ 32 := constantI S_ 32 0#32
  let main_v12 : IVec S208 32 := broadcastInDim S208 ![] bcast_S_S208 main_c_4
  let main_v13 : IVec S208 1 := cmpi .sge main_arg1 main_v12
  let main_v14 : IVec S208 1 := andi main_v11 main_v13
  let main_c_5 : IVec S_ 32 := constantI S_ 32 80#32
  let main_v15 : IVec S208 32 := broadcastInDim S208 ![] bcast_S_S208 main_c_5
  let main_v16 : IVec S208 1 := cmpi .slt main_arg1 main_v15
  fn_part1 (F := F) main_arg0 main_arg1 main_arg2 main_arg7 main_v0 main_v2 main_v4 main_v6 main_v14 main_v16
-- ==== Pre_routed.lean ====
abbrev S40 : Shape := ⟨1, ![40]⟩
abbrev S1 : Shape := ⟨1, ![1]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  shapeCasts_S1_S_ : S1.ShapeCasts S_
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : IVec S40 32) (main_arg1 : IVec S1 32) (main_arg2 : FVec F S40960x1024 .bf16) (main_arg3 : FVec F S8x1024x3584 .f32) (main_arg4 : FVec F S8x1024x3584 .f32) (main_arg5 : FVec F S8x3584x1024 .f32) : IVec S_ 1 :=
  let main_v0 : IVec S_ 32 := shapeCast S_ main_arg1 shapeCasts_S1_S_
  let main_c : IVec S_ 32 := constantI S_ 32 1#32
  let main_v1 : IVec S_ 1 := cmpi .sge main_v0 main_c
  let main_v2 : IVec S_ 32 := shapeCast S_ main_arg1 shapeCasts_S1_S_
  let main_c_0 : IVec S_ 32 := constantI S_ 32 40#32
  let main_v3 : IVec S_ 1 := cmpi .sle main_v2 main_c_0
  let main_v4 : IVec S_ 1 := andi main_v1 main_v3
  let main_c_1 : IVec S_ 32 := constantI S_ 32 0#32
  let main_v5 : IVec S40 32 := broadcastInDim S40 ![] bcast_S_S40 main_c_1
  let main_v6 : IVec S40 1 := cmpi .sge main_arg0 main_v5
  let main_c_2 : IVec S_ 1 := constantI S_ 1 1#1
  let main_v7 : IVec S_ 1 := (fun x v => Host.reduce IntOp.andi x v reducesTo_S40_S_d0 h_S_) main_v6 main_c_2
  let main_v8 : IVec S_ 1 := andi main_v4 main_v7
  let main_c_3 : IVec S_ 32 := constantI S_ 32 8#32
  let main_v9 : IVec S40 32 := broadcastInDim S40 ![] bcast_S_S40 main_c_3
  let main_v10 : IVec S40 1 := cmpi .slt main_arg0 main_v9
  let main_c_4 : IVec S_ 1 := constantI S_ 1 1#1
  let main_v11 : IVec S_ 1 := (fun x v => Host.reduce IntOp.andi x v reducesTo_S40_S_d0 h_S_) main_v10 main_c_4
  let main_v12 : IVec S_ 1 := andi main_v8 main_v11
  main_v12
-- ==== Kernel.lean ====
abbrev S40 : Shape := ⟨1, ![40]⟩
abbrev S1 : Shape := ⟨1, ![1]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 5
  | .vmem => 11
  | .smem => 2
  | _ => 0

abbrev bufTy : (tb : Table) → Fin (tcTables nBuf tb) → BufTy
  | .hbm, ⟨0, _⟩ => ⟨S40960x1024, .bf16⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S40960x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .smem, ⟨0, _⟩ => ⟨S40, .i32⟩
  | .local _ .smem, ⟨1, _⟩ => ⟨S1, .i32⟩
  | _, _ => ⟨S40960x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c6_i32 : BitVec 32 := 6#32
  let v29 : BitVec 1 := Scalar.cmpi .eq arg1 c6_i32
  let v30 : BitVec 32 := Scalar.extui v29
  let c0_i32_19 : BitVec 32 := 0#32
  let v31 : BitVec 1 := Scalar.cmpi .ne v30 c0_i32_19
  v31

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S40 : Shape := ⟨1, ![40]⟩
abbrev S1 : Shape := ⟨1, ![1]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S40x1024 : Shape := ⟨2, ![40, 1024]⟩
abbrev S40960 : Shape := ⟨1, ![40960]⟩
abbrev S40960x8x3584 : Shape := ⟨3, ![40960, 8, 3584]⟩
abbrev S_ : Shape := ⟨0, ![]⟩
abbrev S8x40960x1024 : Shape := ⟨3, ![8, 40960, 1024]⟩
abbrev S1x40960x1 : Shape := ⟨3, ![1, 40960, 1]⟩
abbrev S8 : Shape := ⟨1, ![8]⟩
abbrev S8x1x1 : Shape := ⟨3, ![8, 1, 1]⟩
abbrev S8x40960x1 : Shape := ⟨3, ![8, 40960, 1]⟩

abbrev nBuf : Space → Nat
  | .hbm => 39
  | .vmem => 0
  | .smem => 0
  | _ => 0

abbrev bufTy : (tb : Table) → Fin (tcTables nBuf tb) → BufTy
  | .hbm, ⟨0, _⟩ => ⟨S40, .i32⟩
  | .hbm, ⟨1, _⟩ => ⟨S1, .i32⟩
  | .hbm, ⟨2, _⟩ => ⟨S40960x1024, .bf16⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S40x1024, .i32⟩
  | .hbm, ⟨7, _⟩ => ⟨S40960, .i32⟩
  | .hbm, ⟨8, _⟩ => ⟨S8x1024x3584, .bf16⟩
  | .hbm, ⟨9, _⟩ => ⟨S40960x8x3584, .f32⟩
  | .hbm, ⟨10, _⟩ => ⟨S8x1024x3584, .bf16⟩
  | .hbm, ⟨11, _⟩ => ⟨S40960x8x3584, .f32⟩
  | .hbm, ⟨12, _⟩ => ⟨S40960x8x3584, .f32⟩
  | .hbm, ⟨13, _⟩ => ⟨S40960x8x3584, .f32⟩
  | .hbm, ⟨14, _⟩ => ⟨S_, .f32⟩
  | .hbm, ⟨15, _⟩ => ⟨S40960x8x3584, .f32⟩
  | .hbm, ⟨16, _⟩ => ⟨S40960x8x3584, .f32⟩
  | .hbm, ⟨17, _⟩ => ⟨S_, .f32⟩
  | .hbm, ⟨18, _⟩ => ⟨S40960x8x3584, .f32⟩
  | .hbm, ⟨19, _⟩ => ⟨S40960x8x3584, .f32⟩
  | .hbm, ⟨20, _⟩ => ⟨S40960x8x3584, .f32⟩
  | .hbm, ⟨21, _⟩ => ⟨S40960x8x3584, .f32⟩
  | .hbm, ⟨22, _⟩ => ⟨S40960x8x3584, .bf16⟩
  | .hbm, ⟨23, _⟩ => ⟨S8x3584x1024, .bf16⟩
  | .hbm, ⟨24, _⟩ => ⟨S8x40960x1024, .f32⟩
  | .hbm, ⟨25, _⟩ => ⟨S1x40960x1, .i32⟩
  | .hbm, ⟨26, _⟩ => ⟨S8, .i32⟩
  | .hbm, ⟨27, _⟩ => ⟨S8x1x1, .i32⟩
  | .hbm, ⟨28, _⟩ => ⟨S8x40960x1, .i32⟩
  | .hbm, ⟨29, _⟩ => ⟨S8x40960x1, .i32⟩
  | .hbm, ⟨30, _⟩ => ⟨S8x40960x1, .i1⟩
  | .hbm, ⟨31, _⟩ => ⟨S_, .f32⟩
  | .hbm, ⟨32, _⟩ => ⟨S_, .f32⟩
  | .hbm, ⟨33, _⟩ => ⟨S8x40960x1024, .i1⟩
  | .hbm, ⟨34, _⟩ => ⟨S8x40960x1024, .f32⟩
  | .hbm, ⟨35, _⟩ => ⟨S8x40960x1024, .f32⟩
  | .hbm, ⟨36, _⟩ => ⟨S_, .f32⟩
  | .hbm, ⟨37, _⟩ => ⟨S40960x1024, .f32⟩
  | .hbm, ⟨38, _⟩ => ⟨S40960x1024, .bf16⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩

abbrev nD : Nat := 1
abbrev τ : Topo := Topo.v7x

variable {F : FTy → Type} [FloatOps F]
-- ==== Ffn.lean ====
abbrev S2x8192x1024 : Shape := ⟨3, ![2, 8192, 1024]⟩
abbrev S2x6x1024 : Shape := ⟨3, ![2, 6, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x8x1024 : Shape := ⟨3, ![2, 8, 1024]⟩
abbrev S1x1024 : Shape := ⟨2, ![1, 1024]⟩
abbrev S1x512x1024 : Shape := ⟨3, ![1, 512, 1024]⟩
abbrev S1x8x1024 : Shape := ⟨3, ![1, 8, 1024]⟩
abbrev S1024x1408 : Shape := ⟨2, ![1024, 1408]⟩
abbrev S1408x1024 : Shape := ⟨2, ![1408, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x1408 : Shape := ⟨2, ![512, 1408]⟩

abbrev nBuf : Space → Nat
  | .hbm => 16
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x6x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S_, .i32⟩
  | .hbm, ⟨8, _⟩ => ⟨S_, .f32⟩
  | .hbm, ⟨9, _⟩ => ⟨S2x8x1024, .f32⟩
  | .hbm, ⟨10, _⟩ => ⟨S1x1024, .f32⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S1x1024, .f32⟩
  | .hbm, ⟨15, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1408x1024, .bf16⟩
  | .local _ .vmem, ⟨10, _⟩ => ⟨S1408x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .bf16⟩
  | .local _ .vmem, ⟨15, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 16, 2], ![false, false, false]⟩

def k0_cond2 (i : grid0.Coords) : BitVec 1 :=
  let arg2 : BitVec 32 := BitVec.ofNat 32 (i 2).val
  let c1_i32 : BitVec 32 := 1#32
  let v22 : BitVec 1 := Scalar.cmpi .eq arg2 c1_i32
  let v23 : BitVec 32 := Scalar.extui v22
  let c0_i32_14 : BitVec 32 := 0#32
  let v24 : BitVec 1 := Scalar.cmpi .ne v23 c0_i32_14
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== FfnRefIdeal.lean ====
abbrev S2x8192x1024 : Shape := ⟨3, ![2, 8192, 1024]⟩
abbrev S2x6x1024 : Shape := ⟨3, ![2, 6, 1024]⟩
abbrev S1024 : Shape := ⟨1, ![1024]⟩
abbrev S1024x2816 : Shape := ⟨2, ![1024, 2816]⟩
abbrev S2816x1024 : Shape := ⟨2, ![2816, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x2816, .f32⟩
  | .hbm, ⟨34, _⟩ => ⟨S2x8192x2816, .f32⟩
  | .hbm, ⟨35, _⟩ => ⟨S2x8192x2816, .f32⟩
  | .hbm, ⟨36, _⟩ => ⟨S_, .f32⟩
  | .hbm, ⟨37, _⟩ => ⟨S2x8192x2816, .f32⟩
  | .hbm, ⟨38, _⟩ => ⟨S2x8192x2816, .f32⟩
  | .hbm, ⟨39, _⟩ => ⟨S_, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== Combine.lean ====
abbrev S208 : Shape := ⟨1, ![208]⟩
abbrev S40960x1024 : Shape := ⟨2, ![40960, 1024]⟩
abbrev S16384x8 : Shape := ⟨2, ![16384, 8]⟩
abbrev S2x8192x1024 : Shape := ⟨3, ![2, 8192, 1024]⟩
abbrev S2x6x1024 : Shape := ⟨3, ![2, 6, 1024]⟩
abbrev S1024 : Shape := ⟨1, ![1024]⟩
abbrev S_ : Shape := ⟨0, ![]⟩
abbrev S2x8x1024 : Shape := ⟨3, ![2, 8, 1024]⟩
abbrev S16384x1024 : Shape := ⟨2, ![16384, 1024]⟩
abbrev S1x1024 : Shape := ⟨2, ![1, 1024]⟩
abbrev S512x1024 : Shape := ⟨2, ![512, 1024]⟩
abbrev S1 : Shape := ⟨1, ![1]⟩
abbrev S1024x8 : Shape := ⟨2, ![1024, 8]⟩
abbrev S1024x1024 : Shape := ⟨2, ![1024, 1024]⟩
abbrev S1x8x1024 : Shape := ⟨3, ![1, 8, 1024]⟩
abbrev S1024x1 : Shape := ⟨2, ![1024, 1]⟩
abbrev S1x512 : Shape := ⟨2, ![1, 512]⟩
abbrev S1024x512 : Shape := ⟨2, ![1024, 512]⟩
abbrev S1x1x1024 : Shape := ⟨3, ![1, 1, 1024]⟩

abbrev nBuf : Space → Nat
  | .hbm => 13
  | .vmem => 14
  | .smem => 6
  | _ => 0

abbrev bufTy : (tb : Table) → Fin (tcTables nBuf tb) → BufTy
  | .hbm, ⟨0, _⟩ => ⟨S40960x1024, .bf16⟩
  | .hbm, ⟨1, _⟩ => ⟨S16384x8, .i32⟩
  | .hbm, ⟨2, _⟩ => ⟨S16384x8, .f32⟩
  | .hbm, ⟨3, _⟩ => ⟨S2x8192x1024, .f32⟩
  | .hbm, ⟨4, _⟩ => ⟨S2x6x1024, .f32⟩
  | .hbm, ⟨5, _⟩ => ⟨S1024, .f32⟩
  | .hbm, ⟨6, _⟩ => ⟨S_, .i32⟩
  | .hbm, ⟨7, _⟩ => ⟨S_, .f32⟩
  | .hbm, ⟨8, _⟩ => ⟨S2x8x1024, .f32⟩
  | .hbm, ⟨9, _⟩ => ⟨S16384x1024, .f32⟩
  | .hbm, ⟨10, _⟩ => ⟨S1x1024, .f32⟩
  | .hbm, ⟨11, _⟩ => ⟨S16384x1024, .f32⟩
  | .hbm, ⟨12, _⟩ => ⟨S2x8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x8, .i32⟩
  | .local _ .vmem, ⟨3, _⟩ => ⟨S1024x8, .i32⟩
  | .local _ .vmem, ⟨4, _⟩ => ⟨S1024x8, .f32⟩
  | .local _ .vmem, ⟨5, _⟩ => ⟨S1024x8, .f32⟩
  | .local _ .vmem, ⟨6, _⟩ => ⟨S1024x1024, .f32⟩
  | .local _ .vmem, ⟨7, _⟩ => ⟨S1024x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .smem, ⟨0, _⟩ => ⟨S208, .i32⟩
  | .local _ .smem, ⟨1, _⟩ => ⟨S208, .i32⟩
  | .local _ .smem, ⟨2, _⟩ => ⟨S208, .i32⟩
  | .local _ .smem, ⟨3, _⟩ => ⟨S208, .i32⟩
  | .local _ .smem, ⟨4, _⟩ => ⟨S208, .i32⟩
  | .local _ .smem, ⟨5, _⟩ => ⟨S208, .i32⟩
  | _, _ => ⟨S40960x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg6 : Ref sig .tc := ⟨.hbm, 0, rfl⟩
abbrev main_arg7 : Ref sig .tc := ⟨.hbm, 1, rfl⟩
abbrev main_arg8 : Ref sig .tc := ⟨.hbm, 2, rfl⟩
abbrev main_arg9 : Ref sig .tc := ⟨.hbm, 3, rfl⟩
abbrev main_arg10 : Ref sig .tc := ⟨.hbm, 4, rfl⟩
abbrev main_arg11 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev main_arg5 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![208], ![false]⟩

abbrev pre0 : Pipeline.Prefetch sig := ⟨6, ![main_arg0.idx, main_arg1.idx, main_arg2.idx, main_arg3.idx, main_arg4.idx, main_arg5.idx], fun | 0 => main_arg0.names | 1 => main_arg1.names | 2 => main_arg2.names | 3 => main_arg3.names | 4 => main_arg4.names | 5 => main_arg5.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let v15 : Index := Scalar.indexCast arg0
  ![v15.toNat]
def k0_off4 (i : grid0.Coords) : Fin 1 → Nat :=
  let arg0 : BitVec 32 := BitVec.ofNat 32 (i 0).val
  let v10 : Index := Scalar.indexCast arg0
  ![v10.toNat]
def k0_cond3 (v11 : BitVec 32) : BitVec 1 :=
  let c1_i32_2 : BitVec 32 := 1#32
  let v12 : BitVec 1 := Scalar.cmpi .eq v11 c1_i32_2
  let v13 : BitVec 32 := Scalar.extui v12
  let c0_i32_3 : BitVec 32 := 0#32
  let v14 : BitVec 1 := Scalar.cmpi .ne v13 c0_i32_3
  v14

def cc0_transform_0 (k0_off1_inb : ∀ i : grid0.Coords, ∀ a, (k0_off1 i) a + S1.size a ≤ S208.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S208) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S208.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S208) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S208.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S208) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S208.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S208) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S208.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S208) ![v0.toNat] S1.size (k0_off1_inb i)) numel1_S1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (k0_off1_inb : ∀ i : grid0.Coords, ∀ a, (k0_off1 i) a + S1.size a ≤ S208.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S208) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineRefIdeal.lean ====
abbrev S208 : Shape := ⟨1, ![208]⟩
abbrev S40960x1024 : Shape := ⟨2, ![40960, 1024]⟩
abbrev S16384x8 : Shape := ⟨2, ![16384, 8]⟩
abbrev S2x8192x1024 : Shape := ⟨3, ![2, 8192, 1024]⟩
abbrev S2x6x1024 : Shape := ⟨3, ![2, 6, 1024]⟩
abbrev S1024 : Shape := ⟨1, ![1024]⟩
abbrev S_ : Shape := ⟨0, ![]⟩
abbrev S16384x8x1 : Shape := ⟨3, ![16384, 8, 1]⟩
abbrev S16384x8x1024 : Shape := ⟨3, ![16384, 8, 1024]⟩
abbrev S16384x1024 : Shape := ⟨2, ![16384, 1024]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S208, .i32⟩
  | .hbm, ⟨1, _⟩ => ⟨S208, .i32⟩
  | .hbm, ⟨2, _⟩ => ⟨S208, .i32⟩
  | .hbm, ⟨3, _⟩ => ⟨S208, .i32⟩
  | .hbm, ⟨4, _⟩ => ⟨S208, .i32⟩
  | .hbm, ⟨5, _⟩ => ⟨S208, .i32⟩
  | .hbm, ⟨6, _⟩ => ⟨S40960x1024, .bf16⟩
  | .hbm, ⟨7, _⟩ => ⟨S16384x8, .i32⟩
  | .hbm, ⟨8, _⟩ => ⟨S16384x8, .f32⟩
  | .hbm, ⟨9, _⟩ => ⟨S2x8192x1024, .f32⟩
  | .hbm, ⟨10, _⟩ => ⟨S2x6x1024, .f32⟩
  | .hbm, ⟨11, _⟩ => ⟨S1024, .f32⟩
  | .hbm, ⟨12, _⟩ => ⟨S_, .i32⟩
  | .hbm, ⟨13, _⟩ => ⟨S16384x8, .i32⟩
  | .hbm, ⟨14, _⟩ => ⟨S16384x8, .i32⟩
  | .hbm, ⟨15, _⟩ => ⟨S_, .i32⟩
  | .hbm, ⟨16, _⟩ => ⟨S16384x8, .i32⟩
  | .hbm, ⟨17, _⟩ => ⟨S16384x8, .i1⟩
  | .hbm, ⟨18, _⟩ => ⟨S_, .i32⟩
  | .hbm, ⟨19, _⟩ => ⟨S16384x8, .i32⟩
  | .hbm, ⟨20, _⟩ => ⟨S16384x8, .i32⟩
  | .hbm, ⟨21, _⟩ => ⟨S16384x8, .i32⟩
  | .hbm, ⟨22, _⟩ => ⟨S16384x8x1, .i32⟩
  | .hbm, ⟨23, _⟩ => ⟨S16384x8x1024, .bf16⟩
  | .hbm, ⟨24, _⟩ => ⟨S16384x8x1024, .f32⟩
  | .hbm, ⟨25, _⟩ => ⟨S16384x8x1, .i32⟩
  | .hbm, ⟨26, _⟩ => ⟨S_, .i32⟩
  | .hbm, ⟨27, _⟩ => ⟨S16384x8x1, .i32⟩
  | .hbm, ⟨28, _⟩ => ⟨S16384x8x1, .i1⟩
  | .hbm, ⟨29, _⟩ => ⟨S16384x8x1, .f32⟩
  | .hbm, ⟨30, _⟩ => ⟨S16384x8x1024, .f32⟩
  | .hbm, ⟨31, _⟩ => ⟨S16384x8x1024, .f32⟩
  | .hbm, ⟨32, _⟩ => ⟨S_, .f32⟩
  | .hbm, ⟨33, _⟩ => ⟨S_, .f32⟩
  | .hbm, ⟨34, _⟩ => ⟨S16384x8x1024, .i1⟩
  | .hbm, ⟨35, _⟩ => ⟨S16384x8x1024, .f32⟩
  | .hbm, ⟨36, _⟩ => ⟨S16384x8x1024, .f32⟩
  | .hbm, ⟨37, _⟩ => ⟨S_, .f32⟩
  | .hbm, ⟨38, _⟩ => ⟨S16384x1024, .f32⟩
  | .hbm, ⟨39, _⟩ => ⟨S2x8192x1024, .f32⟩
  | .hbm, ⟨40, _⟩ => ⟨S2x1x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S_, .f32⟩
  | .hbm, ⟨46, _⟩ => ⟨S2x8192, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S2x8192x1, .f32⟩
  | .hbm, ⟨55, _⟩ => ⟨S2x8192x1024, .f32⟩
  | .hbm, ⟨56, _⟩ => ⟨S2x8192x1024, .f32⟩
  | .hbm, ⟨57, _⟩ => ⟨S1x1x1024, .f32⟩
  | .hbm, ⟨58, _⟩ => ⟨S2x8192x1024, .f32⟩
  | .hbm, ⟨59, _⟩ => ⟨S2x8192x1024, .f32⟩
  | _, _ => ⟨S208, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]
-- ==== Inproj.lean ====
abbrev S2x8192x1024 : Shape := ⟨3, ![2, 8192, 1024]⟩
abbrev S2x6x1024 : Shape := ⟨3, ![2, 6, 1024]⟩
abbrev S1024 : Shape := ⟨1, ![1024]⟩
abbrev S1024x8976 : Shape := ⟨2, ![1024, 8976]⟩
abbrev S_ : Shape := ⟨0, ![]⟩
abbrev S2x8x1024 : Shape := ⟨3, ![2, 8, 1024]⟩
abbrev S1024x768 : Shape := ⟨2, ![1024, 768]⟩
abbrev S1024x256 : Shape := ⟨2, ![1024, 256]⟩
abbrev S1024x5120 : Shape := ⟨2, ![1024, 5120]⟩
abbrev S1024x3072 : Shape := ⟨2, ![1024, 3072]⟩
abbrev S1024x9216 : Shape := ⟨2, ![1024, 9216]⟩
abbrev S1024x16 : Shape := ⟨2, ![1024, 16]⟩
abbrev S1024x128 : Shape := ⟨2, ![1024, 128]⟩
abbrev S1x1024 : Shape := ⟨2, ![1, 1024]⟩
abbrev S2x8192x9216 : Shape := ⟨3, ![2, 8192, 9216]⟩
abbrev S2x8192x128 : Shape := ⟨3, ![2, 8192, 128]⟩
abbrev S1x1024x1024 : Shape := ⟨3, ![1, 1024, 1024]⟩
abbrev S1x8x1024 : Shape := ⟨3, ![1, 8, 1024]⟩
abbrev S1024x2304 : Shape := ⟨2, ![1024, 2304]⟩
abbrev S1x1024x2304 : Shape := ⟨3, ![1, 1024, 2304]⟩
abbrev S1x1024x128 : Shape := ⟨3, ![1, 1024, 128]⟩
abbrev S1024x1024 : Shape := ⟨2, ![1024, 1024]⟩
abbrev S1x1x1024 : Shape := ⟨3, ![1, 1, 1024]⟩
abbrev S1024x1 : Shape := ⟨2, ![1024, 1]⟩

abbrev nBuf : Space → Nat
  | .hbm => 22
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x6x1024, .f32⟩
  | .hbm, ⟨2, _⟩ => ⟨S1024, .f32⟩
  | .hbm, ⟨3, _⟩ => ⟨S1024x8976, .f32⟩
  | .hbm, ⟨4, _⟩ => ⟨S_, .i32⟩
  | .hbm, ⟨5, _⟩ => ⟨S_, .f32⟩
  | .hbm, ⟨6, _⟩ => ⟨S2x8x1024, .f32⟩
  | .hbm, ⟨7, _⟩ => ⟨S1024x768, .f32⟩
  | .hbm, ⟨8, _⟩ => ⟨S_, .f32⟩
  | .hbm, ⟨9, _⟩ => ⟨S1024x256, .f32⟩
  | .hbm, ⟨10, _⟩ => ⟨S1024x5120, .f32⟩
  | .hbm, ⟨11, _⟩ => ⟨S1024x3072, .f32⟩
  | .hbm, ⟨12, _⟩ => ⟨S1024x9216, .f32⟩
  | .hbm, ⟨13, _⟩ => ⟨S1024x9216, .bf16⟩
  | .hbm, ⟨14, _⟩ => ⟨S1024x16, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S1x1024, .f32⟩
  | .hbm, ⟨20, _⟩ => ⟨S2x8192x9216, .bf16⟩
  | .hbm, ⟨21, _⟩ => ⟨S2x8192x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x2304, .bf16⟩
  | .local _ .vmem, ⟨6, _⟩ => ⟨S1024x2304, .bf16⟩
  | .local _ .vmem, ⟨7, _⟩ => ⟨S1024x128, .bf16⟩
  | .local _ .vmem, ⟨8, _⟩ => ⟨S1x1024x2304, .bf16⟩
  | .local _ .vmem, ⟨9, _⟩ => ⟨S1x1024x2304, .bf16⟩
  | .local _ .vmem, ⟨10, _⟩ => ⟨S1x1024x128, .f32⟩
  | .local _ .vmem, ⟨11, _⟩ => ⟨S1x1024x128, .f32⟩
  | .local _ .vmem, ⟨12, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 8, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x2304 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== InprojRefIdeal.lean ====
abbrev S2x8192x1024 : Shape := ⟨3, ![2, 8192, 1024]⟩
abbrev S2x6x1024 : Shape := ⟨3, ![2, 6, 1024]⟩
abbrev S1024 : Shape := ⟨1, ![1024]⟩
abbrev S1024x8976 : Shape := ⟨2, ![1024, 8976]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x8976 : Shape := ⟨3, ![2, 8192, 8976]⟩
abbrev S2x8192x768 : Shape := ⟨3, ![2, 8192, 768]⟩
abbrev S2x8192x5120 : Shape := ⟨3, ![2, 8192, 5120]⟩
abbrev S2x8192x16 : Shape := ⟨3, ![2, 8192, 16]⟩
abbrev S2x8192x3072 : Shape := ⟨3, ![2, 8192, 3072]⟩
abbrev S2x8192x256 : Shape := ⟨3, ![2, 8192, 256]⟩
abbrev S2x8192x9216 : Shape := ⟨3, ![2, 8192, 9216]⟩
abbrev S2x8192x112 : Shape := ⟨3, ![2, 8192, 112]⟩
abbrev S2x8192x128 : Shape := ⟨3, ![2, 8192, 128]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6x1024, .f32⟩
  | .hbm, ⟨2, _⟩ => ⟨S1024, .f32⟩
  | .hbm, ⟨3, _⟩ => ⟨S1024x8976, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x1x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x8192x1024, .f32⟩
  | .hbm, ⟨25, _⟩ => ⟨S2x8192x1024, .f32⟩
  | .hbm, ⟨26, _⟩ => ⟨S2x1x1024, .f32⟩
  | .hbm, ⟨27, _⟩ => ⟨S2x8192x1024, .f32⟩
  | .hbm, ⟨28, _⟩ => ⟨S2x8192x1024, .f32⟩
  | .hbm, ⟨29, _⟩ => ⟨S2x8192x8976, .f32⟩
  | .hbm, ⟨30, _⟩ => ⟨S2x8192x768, .f32⟩
  | .hbm, ⟨31, _⟩ => ⟨S2x8192x5120, .f32⟩
  | .hbm, ⟨32, _⟩ => ⟨S2x8192x16, .f32⟩
  | .hbm, ⟨33, _⟩ => ⟨S2x8192x3072, .f32⟩
  | .hbm, ⟨34, _⟩ => ⟨S_, .f32⟩
  | .hbm, ⟨35, _⟩ => ⟨S2x8192x256, .f32⟩
  | .hbm, ⟨36, _⟩ => ⟨S2x8192x9216, .f32⟩
  | .hbm, ⟨37, _⟩ => ⟨S2x8192x9216, .bf16⟩
  | .hbm, ⟨38, _⟩ => ⟨S_, .f32⟩
  | .hbm, ⟨39, _⟩ => ⟨S2x8192x112, .f32⟩
  | .hbm, ⟨40, _⟩ => ⟨S2x8192x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Proof.Experts.Tables.lean ====
/- The experts' two prefetched tables: the expert of each block of 1024 rows and the number of blocks in use. Every
   statement here holds of ALL tables with experts below 8 and between 1 and 40 blocks in use; the pipeline's blocks and its
   conditions at a grid point are put in closed form over them. -/
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.Sem

/-- The tables' contents: an expert below 8 for each block, and between 1 and 40 blocks in use (`F` is carried so that the
    pipeline at the tables knows its float type). -/
structure Tables (F : FTy → Type) where
  T0 : S40.Idx → BitVec 32
  T1 : S1.Idx → BitVec 32
  h0 : ∀ x, (T0 x).toNat < 8
  h1 : ∀ x, 1 ≤ (T1 x).toNat ∧ (T1 x).toNat ≤ 40

variable {F : FTy → Type} [FloatOps F]

/-- Table 0, the expert of each block. -/
abbrev pinT_0 (ch : Tables F) : S40.Idx → BitVec 32 := ch.T0
/-- Table 1, the number of blocks in use. -/
abbrev pinT_1 (ch : Tables F) : S1.Idx → BitVec 32 := ch.T1

/-- The number of blocks in use. -/
def Tables.n (ch : Tables F) : ℕ := (ch.T1 (fun _ => ⟨0, by decide +revert⟩)).toNat

theorem Tables.n_pos (ch : Tables F) : 1 ≤ ch.n := (ch.h1 _).1
theorem Tables.n_le (ch : Tables F) : ch.n ≤ 40 := (ch.h1 _).2

/-- The one-entry table has one index. -/
theorem idx1_eq (x y : S1.Idx) : x = y := by
  funext a
  have ha : S1.size a = 1 := by fin_cases a; rfl
  apply Fin.ext
  have hx := (x a).isLt
  have hy := (y a).isLt
  omega

theorem Tables.T1_eq (ch : Tables F) (x : S1.Idx) : ch.T1 x = BitVec.ofNat 32 ch.n := by
  rw [Tables.n, idx1_eq x (fun _ => ⟨0, by decide +revert⟩), BitVec.ofNat_toNat, BitVec.setWidth_eq]

/-- Both tables as the pipeline takes them. -/
def pfN (ch : Tables F) : pre0.Contents (Elt F) := fun | ⟨0, _⟩ => pinT_0 ch | ⟨1, _⟩ => pinT_1 ch | ⟨_ + 2, h⟩ => absurd h (by simp)

/-- The tables and the scratch buffer the kernel is handed, whole. -/
abbrev tbM0_0 : Memref sig .tc .smem S40 .i32 := Memref.whole main_arg0
abbrev tbM0_1 : Memref sig .tc .smem S1 .i32 := Memref.whole main_arg1
abbrev scM0_0 : Memref sig .tc .vmem S1024x1024 .f32 := Memref.whole cc0_scratch0

/-! ## Words at a point, in closed form -/

theorem minsi_val : ∀ (n : Fin 41), 1 ≤ n.val → ∀ d : Fin 40,
    (Scalar.minsi (BitVec.ofNat 32 d.val) (Scalar.subi (BitVec.ofNat 32 n.val) 1#32)).toNat = min d.val (n.val - 1) := by
  decide +kernel

theorem slt_val : ∀ (n : Fin 41) (d : Fin 40),
    Scalar.cmpi .slt (BitVec.ofNat 32 d.val) (BitVec.ofNat 32 n.val) = if d.val < n.val then 1#1 else 0#1 := by
  decide +kernel

theorem cond1_iff (i : grid0.Coords) (n : ℕ) (hn : n ≤ 40) : k0_cond1 i (BitVec.ofNat 32 n) = 1#1 ↔ (i 0).val < n := by
  unfold k0_cond1
  have h := slt_val ⟨n, by omega⟩ (i 0)
  simp only at h
  dsimp only
  rw [h]
  by_cases hd : (i 0).val < n
  · rw [if_pos hd]; exact iff_of_true (by decide) hd
  · rw [if_neg hd]; exact iff_of_false (by decide) hd

theorem cond2_iff : ∀ f : Fin 7, (Scalar.cmpi .ne (Scalar.extui (Scalar.cmpi .eq (BitVec.ofNat 32 f.val) 0#32)) 0#32) = 1#1 ↔ f.val = 0 := by
  decide +kernel

theorem cond3_iff_aux : ∀ f : Fin 7, (Scalar.cmpi .ne (Scalar.extui (Scalar.cmpi .eq (BitVec.ofNat 32 f.val) 6#32)) 0#32) = 1#1 ↔ f.val = 6 := by
  decide +kernel

theorem cond3_iff (i : grid0.Coords) : k0_cond3 i = 1#1 ↔ (i 1).val = 6 := cond3_iff_aux (i 1)

theorem coords0 : ∀ t : Fin grid0.N, ((grid0.coords t) 0).val = t.val / 7 := by decide +kernel
theorem coords1 : ∀ t : Fin grid0.N, ((grid0.coords t) 1).val = t.val % 7 := by decide +kernel

/-! ## The blocks' indices -/

theorem at1_eq (ch : Tables F) :
    ((pfN ch).at 1 (Rect.unit (s := S1) ![0] S1.size inb_S1_S1_0) numel1_S1 : BitVec 32) = BitVec.ofNat 32 ch.n := ch.T1_eq _

theorem tr0_eq (ch : Tables F) (i : grid0.Coords) :
    cc0_transform_0 inb_S1_S1_0 numel1_S1 (pfN ch) i = ![min (i 0).val (ch.n - 1), 0] := by
  unfold cc0_transform_0
  dsimp only
  rw [at1_eq]
  have h := minsi_val ⟨ch.n, by have := ch.n_le; omega⟩ ch.n_pos (i 0)
  simp only at h
  rw [h]; rfl

theorem tr4_eq (ch : Tables F) (i : grid0.Coords) :
    cc0_transform_4 inb_S1_S1_0 numel1_S1 (pfN ch) i = ![min (i 0).val (ch.n - 1), 0] := tr0_eq ch i

/-- The slice of the hidden axis at a point: its own on a block in use, the last one on the others. -/
def Tables.fblk (ch : Tables F) (i : grid0.Coords) : ℕ := if (i 0).val < ch.n then (i 1).val else 6

theorem Tables.fblk_lt (ch : Tables F) (i : grid0.Coords) : ch.fblk i < 7 := by
  unfold Tables.fblk; split
  · exact (i 1).isLt
  · omega

theorem sel_val (ch : Tables F) (i : grid0.Coords) :
    (Scalar.select (Scalar.cmpi .slt (BitVec.ofNat 32 (i 0).val) (BitVec.ofNat 32 ch.n)) (BitVec.ofNat 32 (i 1).val) 6#32).toNat = ch.fblk i := by
  have h := slt_val ⟨ch.n, by have := ch.n_le; omega⟩ (i 0)
  simp only at h
  unfold Tables.fblk
  rw [h]
  have h7 : (i 1).val < 7 := (i 1).isLt
  by_cases hd : (i 0).val < ch.n
  · rw [if_pos hd, if_pos hd]
    show (BitVec.ofNat 32 (i 1).val).toNat = _
    rw [BitVec.toNat_ofNat]; omega
  · rw [if_neg hd, if_neg hd]; rfl

/-- The expert of a point's block. -/
def Tables.e (ch : Tables F) (i : grid0.Coords) : ℕ := (ch.T0 (fun a => ⟨(i 0).val, by have h : (i 0).val < 40 := (i 0).isLt; have ha : a = (0 : Fin 1) := Subsingleton.elim (α := Fin 1) _ _; subst ha; exact h⟩)).toNat

theorem Tables.e_lt (ch : Tables F) (i : grid0.Coords) : ch.e i < 8 := ch.h0 _

theorem at0_eq (ch : Tables F) (i : grid0.Coords) :
    ((pfN ch).at 0 (Rect.unit (s := S40) ![(Scalar.indexCast (BitVec.ofNat 32 (i 0).val) : Index).toNat] S1.size (k0_off1_inb i)) numel1_S1 : BitVec 32).toNat = ch.e i := by
  unfold Tables.e
  show BitVec.toNat (ch.T0 _) = _
  congr 2
  funext a
  apply Fin.ext
  obtain rfl : a = (0 : Fin 1) := Subsingleton.elim (α := Fin 1) _ _
  have h40 : (i 0).val < 40 := (i 0).isLt
  have hs : S1.size 0 = 1 := rfl
  show (![(BitVec.ofNat 32 (i 0).val).toNat] : Fin 1 → ℕ) 0 + 1 * ((Shape.Idx.first _ : S1.Idx) 0).val = (i 0).val
  have hf := ((Shape.Idx.first (numel1_S1.symm ▸ Nat.one_pos) : S1.Idx) 0).isLt
  simp only [Matrix.cons_val_zero, BitVec.toNat_ofNat]
  omega

theorem tr1_eq (ch : Tables F) (i : grid0.Coords) :
    cc0_transform_1 k0_off1_inb numel1_S1 inb_S1_S1_0 (pfN ch) i = ![ch.e i, 0, ch.fblk i] := by
  unfold cc0_transform_1
  dsimp only
  rw [at0_eq, at1_eq, sel_val]; rfl

theorem tr2_eq (ch : Tables F) (i : grid0.Coords) :
    cc0_transform_2 k0_off1_inb numel1_S1 inb_S1_S1_0 (pfN ch) i = ![ch.e i, 0, ch.fblk i] := tr1_eq ch i

theorem tr3_eq (ch : Tables F) (i : grid0.Coords) :
    cc0_transform_3 k0_off1_inb numel1_S1 inb_S1_S1_0 (pfN ch) i = ![ch.e i, ch.fblk i, 0] := by
  unfold cc0_transform_3
  dsimp only
  rw [at0_eq, at1_eq, sel_val]; rfl

/-! ## The pipeline's side condition -/

theorem inb0 (ch : Tables F) (i : grid0.Coords) (a : Fin 2) :
    (cc0_transform_0 inb_S1_S1_0 numel1_S1 (pfN ch) i a + 1) * S1024x1024.size a ≤ S40960x1024.size a := by
  rw [tr0_eq]
  have := (i 0).isLt
  have h40 : (i 0).val < 40 := (i 0).isLt
  have hm : min (i 0).val (ch.n - 1) < 40 := by omega
  fin_cases a
  · show (min (i 0).val (ch.n - 1) + 1) * 1024 ≤ 40960
    omega
  · show (0 + 1) * _ ≤ _; decide

theorem inb1 (ch : Tables F) (i : grid0.Coords) (a : Fin 3) :
    (cc0_transform_1 k0_off1_inb numel1_S1 inb_S1_S1_0 (pfN ch) i a + 1) * S1x1024x512.size a ≤ S8x1024x3584.size a := by
  rw [tr1_eq]
  have he := ch.e_lt i
  have hf := ch.fblk_lt i
  fin_cases a
  · show (ch.e i + 1) * 1 ≤ 8
    omega
  · show (0 + 1) * _ ≤ _; decide
  · show (ch.fblk i + 1) * 512 ≤ 3584
    omega

theorem inb3 (ch : Tables F) (i : grid0.Coords) (a : Fin 3) :
    (cc0_transform_3 k0_off1_inb numel1_S1 inb_S1_S1_0 (pfN ch) i a + 1) * S1x512x1024.size a ≤ S8x3584x1024.size a := by
  rw [tr3_eq]
  have he := ch.e_lt i
  have hf := ch.fblk_lt i
  fin_cases a
  · show (ch.e i + 1) * 1 ≤ 8
    omega
  · show (ch.fblk i + 1) * 512 ≤ 3584
    omega
  · show (0 + 1) * _ ≤ _; decide

/-- Every block lies inside its array, at all tables. -/
theorem ok_pfN (ch : Tables F) : ok0 (F := F) (pfN ch) :=
  ⟨fun i => ⟨inb0 ch i, .inr (Affine.block_words_dvd (s := S40960x1024) (p := EltTy.packing .bf16) (by decide) (by decide))⟩,
    fun i => ⟨inb1 ch i, .inl rfl⟩, fun i => ⟨inb1 ch i, .inl rfl⟩, fun i => ⟨inb3 ch i, .inl rfl⟩,
    fun i => ⟨inb0 ch i, .inr (Affine.block_words_dvd (s := S40960x1024) (p := EltTy.packing .bf16) (by decide) (by decide))⟩⟩

/-- What the launch memory has to hold: the two tables, on each device. -/
def Pinned (ch : Tables F) (m : (ℓ : Loc nD τ sig) → Buf (Elt F) ℓ) : Prop :=
  (∀ c : Dev nD, m ((c : Thread nD τ).loc main_arg0) = pinT_0 ch)
  ∧ (∀ c : Dev nD, m ((c : Thread nD τ).loc main_arg1) = pinT_1 ch)

end Cert.Experts

end
-- ==== Proof.Experts.Runs.lean ====
/- The experts' body run once per control path (A a block's first slice, B a middle one, C its last, D a block not in use),
   over symbolic staging buffers and tables and for any floats; with what each path leaves in the buffers. -/
module

public import proofs.«01_k».proof.Proof.Gen.KernelIdeal.Skeleton
public import proofs.«01_k».proof.Proof.Experts.Tables

@[expose] public section

set_option maxRecDepth 16384
set_option Elab.async false

noncomputable section

namespace Cert.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The assertions' model. -/
local notation "𝕄" => MT nD τ sig Unit (Elt F) ℕ (UR sig nD τ) ℕ

/-! ## The kernel body per control path, on symbolic staging memrefs: a subtype the run finds -/

/-- One staging buffer of output window 4, through which its contents are stated (`View.read_writes_of_cover`). -/
abbrev VO0_4 : View sig .tc .vmem S1024x1024 .bf16 := (Memref.whole cc0_stg4_0 : Memref sig .tc .vmem S1024x1024 .bf16).view

set_option backward.proofsInPublic true in
set_option maxHeartbeats 8000000 in
/-- PATH A: what the body leaves — per stored output its pieces (last first), per scratch its
    contents — WITH the proof that, on whole staging memrefs, from the inputs at their blocks, the tables, the outputs
    (4: idle) and the scratches (0: covered), under the path's decisions as
    hypotheses over the words the body reads (`k0_h1`; `k0_h2`; `k0_h3`), the body runs to the continuation holding all of it as stated. -/
noncomputable def kernelRun0_A (c : Dev nD) (i : grid0.Coords) (arg4 : Memref sig .tc .vmem S1024x1024 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .bf16) (harg8 : arg8.IsWhole) (T0 : (S40.Idx → Elt F .i32)) (T1 : (S1.Idx → Elt F .i32))
     (x0 : (S1024x1024.Idx → Elt F .bf16)) (x1 : (S1x1024x512.Idx → Elt F .f32)) (x2 : (S1x1024x512.Idx → Elt F .f32)) (x3 : (S1x512x1024.Idx → Elt F .f32)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : (Scalar.cmpi .ne (Scalar.extui (Scalar.cmpi .eq (BitVec.ofNat 32 (i 1).val) 0#32)) 0#32) = 1#1) (k0_h3 : ¬(k0_cond3 i = 1#1)) :
    { out0 : Buf (Elt F) ((c : Thread nD τ).loc cc0_scratch0) //
      ∀ (y4 : (S1024x1024.Idx → Elt F .bf16)) (xa0 : Buf (Elt F) ((c : Thread nD τ).loc cc0_scratch0)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare y4
          ∗ (scM0_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare y4
              ∗ (scM0_0.view.loc (c : Thread nD τ) ↦{fullShare} out0)) -∗ K ⟨⟩))
          ⊢ wp frame (wpE (defs₀ (F := F)) Variants.none c none) Set.univ (cc0_moe_experts i tbM0_0 (Memref.isWhole_whole _) tbM0_1 (Memref.isWhole_whole _) arg4 harg4 arg5 harg5 arg6 harg6 arg7 harg7 arg8 harg8 scM0_0 (Memref.isWhole_whole _)) K } :=
  ⟨_, fun (y4 : (S1024x1024.Idx → Elt F .bf16)) (xa0 : Buf (Elt F) ((c : Thread nD τ).loc cc0_scratch0)) K => by
    unfold owns
    rw [cc0_moe_experts_eq_skeleton]; unfold cc0_moe_experts_skel
    iintro ⟨H0, H1, H2, H3, HT0, HT1, ⟨%f4, %hf4, HO4⟩, HS0, Hk⟩
    obtain rfl := harg8.eq_unread hf4
    have hS0 : scM0_0.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = Scalar.cmpi = _; exact k0_h2) | (guard_target = ¬(k0_cond3 _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    iexact HS0⟩

set_option backward.proofsInPublic true in
set_option maxHeartbeats 8000000 in
/-- PATH B: what the body leaves — per stored output its pieces (last first), per scratch its
    contents — WITH the proof that, on whole staging memrefs, from the inputs at their blocks, the tables, the outputs
    (4: idle) and the scratches (0: carried), under the path's decisions as
    hypotheses over the words the body reads (`k0_h1`; `k0_h2`; `k0_h3`), the body runs to the continuation holding all of it as stated. -/
noncomputable def kernelRun0_B (c : Dev nD) (i : grid0.Coords) (arg4 : Memref sig .tc .vmem S1024x1024 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .bf16) (harg8 : arg8.IsWhole) (T0 : (S40.Idx → Elt F .i32)) (T1 : (S1.Idx → Elt F .i32))
     (x0 : (S1024x1024.Idx → Elt F .bf16)) (x1 : (S1x1024x512.Idx → Elt F .f32)) (x2 : (S1x1024x512.Idx → Elt F .f32)) (x3 : (S1x512x1024.Idx → Elt F .f32)) (xa0 : Buf (Elt F) ((c : Thread nD τ).loc cc0_scratch0)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : ¬(k0_cond3 i = 1#1)) :
    { out0 : Buf (Elt F) ((c : Thread nD τ).loc cc0_scratch0) //
      ∀ (y4 : (S1024x1024.Idx → Elt F .bf16)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare y4
          ∗ (scM0_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare y4
              ∗ (scM0_0.view.loc (c : Thread nD τ) ↦{fullShare} out0)) -∗ K ⟨⟩))
          ⊢ wp frame (wpE (defs₀ (F := F)) Variants.none c none) Set.univ (cc0_moe_experts i tbM0_0 (Memref.isWhole_whole _) tbM0_1 (Memref.isWhole_whole _) arg4 harg4 arg5 harg5 arg6 harg6 arg7 harg7 arg8 harg8 scM0_0 (Memref.isWhole_whole _)) K } :=
  ⟨_, fun (y4 : (S1024x1024.Idx → Elt F .bf16)) K => by
    unfold owns
    rw [cc0_moe_experts_eq_skeleton]; unfold cc0_moe_experts_skel
    iintro ⟨H0, H1, H2, H3, HT0, HT1, ⟨%f4, %hf4, HO4⟩, HS0, Hk⟩
    obtain rfl := harg8.eq_unread hf4
    have hS0 : scM0_0.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = ¬(Scalar.cmpi = _); exact k0_h2) | (guard_target = ¬(k0_cond3 _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    iexact HS0⟩

set_option backward.proofsInPublic true in
set_option maxHeartbeats 8000000 in
/-- PATH C: what the body leaves — per stored output its pieces (last first), per scratch its
    contents — WITH the proof that, on whole staging memrefs, from the inputs at their blocks, the tables, the outputs
    (4: stored) and the scratches (0: carried), under the path's decisions as
    hypotheses over the words the body reads (`k0_h1`; `k0_h2`; `k0_h3`), the body runs to the continuation holding all of it as stated. -/
noncomputable def kernelRun0_C (c : Dev nD) (i : grid0.Coords) (arg4 : Memref sig .tc .vmem S1024x1024 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .bf16) (harg8 : arg8.IsWhole) (T0 : (S40.Idx → Elt F .i32)) (T1 : (S1.Idx → Elt F .i32))
     (x0 : (S1024x1024.Idx → Elt F .bf16)) (x1 : (S1x1024x512.Idx → Elt F .f32)) (x2 : (S1x1024x512.Idx → Elt F .f32)) (x3 : (S1x512x1024.Idx → Elt F .f32)) (xa0 : Buf (Elt F) ((c : Thread nD τ).loc cc0_scratch0)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : k0_cond3 i = 1#1) :
    Σ' (out0 : List (View.Piece (Elt F) S1024x1024 .bf16)), { out1 : Buf (Elt F) ((c : Thread nD τ).loc cc0_scratch0) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt F) f out0)
              ∗ (scM0_0.view.loc (c : Thread nD τ) ↦{fullShare} out1)) -∗ K ⟨⟩))
          ⊢ wp frame (wpE (defs₀ (F := F)) Variants.none c none) Set.univ (cc0_moe_experts i tbM0_0 (Memref.isWhole_whole _) tbM0_1 (Memref.isWhole_whole _) arg4 harg4 arg5 harg5 arg6 harg6 arg7 harg7 arg8 harg8 scM0_0 (Memref.isWhole_whole _)) K } :=
  ⟨_, _, fun K => by
    unfold owns
    rw [cc0_moe_experts_eq_skeleton]; unfold cc0_moe_experts_skel
    iintro ⟨H0, H1, H2, H3, HT0, HT1, ⟨%d4, %f4, -, HO4⟩, HS0, Hk⟩
    have hS0 : scM0_0.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = ¬(Scalar.cmpi = _); exact k0_h2) | (guard_target = k0_cond3 _ = _; exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    iexact HS0⟩

/-- Path C's pieces for output 4 tile its block (1 store of `S1024x1024`: the kernel evaluates the tiling, Lib/Ring.lean `Piece.tiledL`). -/
theorem cover0_C_4 (c : Dev nD) (i : grid0.Coords) (arg4 : Memref sig .tc .vmem S1024x1024 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .bf16) (harg8 : arg8.IsWhole) (T0 : (S40.Idx → Elt F .i32)) (T1 : (S1.Idx → Elt F .i32))
     (x0 : (S1024x1024.Idx → Elt F .bf16)) (x1 : (S1x1024x512.Idx → Elt F .f32)) (x2 : (S1x1024x512.Idx → Elt F .f32)) (x3 : (S1x512x1024.Idx → Elt F .f32)) (xa0 : Buf (Elt F) ((c : Thread nD τ).loc cc0_scratch0)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : k0_cond3 i = 1#1) (y : S1024x1024.Idx) :
    ∃ pc ∈ (kernelRun0_C c i arg4 harg4 arg5 harg5 arg6 harg6 arg7 harg7 arg8 harg8 T0 T1 x0 x1 x2 x3 xa0 k0_h1 k0_h2 k0_h3).1, y ∈ pc.1.set :=
  View.cover_of_tiledL (kernelRun0_C c i arg4 harg4 arg5 harg5 arg6 harg6 arg7 harg7 arg8 harg8 T0 T1 x0 x1 x2 x3 xa0 k0_h1 k0_h2 k0_h3).1 S1024x1024.size (by sl_kernel_rfl) y

/-- What path C leaves in output 4's staging buffer: its pieces read back over junk. -/
def out0_C_4 (c : Dev nD) (i : grid0.Coords) (arg4 : Memref sig .tc .vmem S1024x1024 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .bf16) (harg8 : arg8.IsWhole) (T0 : (S40.Idx → Elt F .i32)) (T1 : (S1.Idx → Elt F .i32))
     (x0 : (S1024x1024.Idx → Elt F .bf16)) (x1 : (S1x1024x512.Idx → Elt F .f32)) (x2 : (S1x1024x512.Idx → Elt F .f32)) (x3 : (S1x512x1024.Idx → Elt F .f32)) (xa0 : Buf (Elt F) ((c : Thread nD τ).loc cc0_scratch0)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : k0_cond3 i = 1#1) : (S1024x1024.Idx → Elt F .bf16) :=
  VO0_4.read (Elt F) (VO0_4.writes (Elt F) VO0_4.junk (kernelRun0_C c i arg4 harg4 arg5 harg5 arg6 harg6 arg7 harg7 arg8 harg8 T0 T1 x0 x1 x2 x3 xa0 k0_h1 k0_h2 k0_h3).1)

set_option backward.proofsInPublic true in
set_option maxHeartbeats 8000000 in
/-- PATH D: what the body leaves — per stored output its pieces (last first), per scratch its
    contents — WITH the proof that, on whole staging memrefs, from the inputs at their blocks, the tables, the outputs
    (4: idle) and the scratches (0: any), under the path's decisions as
    hypotheses over the words the body reads (`k0_h1`), the body runs to the continuation holding all of it as stated. -/
noncomputable def kernelRun0_D (c : Dev nD) (i : grid0.Coords) (arg4 : Memref sig .tc .vmem S1024x1024 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .bf16) (harg8 : arg8.IsWhole) (T0 : (S40.Idx → Elt F .i32)) (T1 : (S1.Idx → Elt F .i32))
     (x0 : (S1024x1024.Idx → Elt F .bf16)) (x1 : (S1x1024x512.Idx → Elt F .f32)) (x2 : (S1x1024x512.Idx → Elt F .f32)) (x3 : (S1x512x1024.Idx → Elt F .f32)) (xa0 : Buf (Elt F) ((c : Thread nD τ).loc cc0_scratch0)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) :
    { out0 : Buf (Elt F) ((c : Thread nD τ).loc cc0_scratch0) //
      ∀ (y4 : (S1024x1024.Idx → Elt F .bf16)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare y4
          ∗ (scM0_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare y4
              ∗ (scM0_0.view.loc (c : Thread nD τ) ↦{fullShare} out0)) -∗ K ⟨⟩))
          ⊢ wp frame (wpE (defs₀ (F := F)) Variants.none c none) Set.univ (cc0_moe_experts i tbM0_0 (Memref.isWhole_whole _) tbM0_1 (Memref.isWhole_whole _) arg4 harg4 arg5 harg5 arg6 harg6 arg7 harg7 arg8 harg8 scM0_0 (Memref.isWhole_whole _)) K } :=
  ⟨_, fun (y4 : (S1024x1024.Idx → Elt F .bf16)) K => by
    unfold owns
    rw [cc0_moe_experts_eq_skeleton]; unfold cc0_moe_experts_skel
    iintro ⟨H0, H1, H2, H3, HT0, HT1, ⟨%f4, %hf4, HO4⟩, HS0, Hk⟩
    obtain rfl := harg8.eq_unread hf4
    have hS0 : scM0_0.IsWhole := Memref.isWhole_whole _
    have hT0 : tbM0_0.IsWhole := Memref.isWhole_whole _
    have hT1 : tbM0_1.IsWhole := Memref.isWhole_whole _
    sl_exec! (disch := first | (guard_target = ¬(k0_cond1 _ _ = _); exact k0_h1))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    iexact HS0⟩

end Cert.Experts

end
-- ==== Proof.Experts.Facts.lean ====
/- The experts' pipeline at given tables, and the facts of each grid point its proof asks for, from the closed forms of the
   conditions: which path runs, when the output's buffer is left idle, when it is written back, when a buffer holds junk. -/
module

public import proofs.«01_k».proof.Proof.Experts.Runs

@[expose] public section

set_option maxRecDepth 16384
set_option Elab.async false

noncomputable section

namespace Cert.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The assertions' model. -/
local notation "𝕄" => MT nD τ sig Unit (Elt F) ℕ (UR sig nD τ) ℕ

variable (ch : Tables F)

/-- The admissible contents, the pipeline at them (`cfgA ch`: member `ch`'s grid, 280 points), as @main's one. -/
def adm : (pcfg0 (F := F)).Adm := ⟨pfN ch, ok_pfN ch⟩
abbrev cfgA : Pipeline.Cfg sig Λ₀ := cfg0 (F := F) (adm ch)
abbrev pcs : Fin 1 → Pipeline.Cfg sig Λ₀ := Pipeline.pin (pcfgs (F := F)) fun _ => adm ch

variable (m : (ℓ : Loc nD τ sig) → Buf (Elt F) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S1024x1024 .bf16 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1024x512 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1024x512 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x512x1024 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S1024x1024 .bf16 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt F ((cfgA ch).win w).elt :=
  (((cfgA ch).win w).blk t).view.read (Elt F) ((s₀ m ρ).mem (((cfgA ch).win w).arr.view.loc (c : Thread nD τ)))

/-! ## The control's decisions at a point, at the pinned words (what tells the paths apart) -/

abbrev P0_0 (t : Fin (cfgA ch).N) : Prop := k0_cond1 (crd ch t) (View.readAt (Elt F) (tbM0_1).view (Rect.unit (s := S1) ![0] S1.size inb_S1_S1_0).toLoadRect (pinT_1 ch) (Shape.Idx.first (numel1_S1.symm ▸ Nat.one_pos))) = 1#1
abbrev P0_1 (t : Fin (cfgA ch).N) : Prop := (Scalar.cmpi .ne (Scalar.extui (Scalar.cmpi .eq (BitVec.ofNat 32 ((crd ch t) 1).val) 0#32)) 0#32) = 1#1
abbrev P0_2 (t : Fin (cfgA ch).N) : Prop := k0_cond3 (crd ch t) = 1#1

/-! ## The conditions at a point -/

theorem N_eq : (cfgA ch).N = 280 := (by decide +kernel : grid0.N = 280)

theorem word_eq : View.readAt (Elt F) (tbM0_1).view (Rect.unit (s := S1) ![0] S1.size inb_S1_S1_0).toLoadRect (pinT_1 ch) (Shape.Idx.first (numel1_S1.symm ▸ Nat.one_pos)) = BitVec.ofNat 32 ch.n :=
  ch.T1_eq _

theorem P0_0_iff (t : Fin (cfgA ch).N) : P0_0 ch t ↔ t.val / 7 < ch.n := by
  unfold P0_0
  rw [word_eq]
  exact (cond1_iff (crd ch t) ch.n ch.n_le).trans (by rw [show ((crd ch t) 0).val = t.val / 7 from coords0 t])

theorem P0_1_iff (t : Fin (cfgA ch).N) : P0_1 ch t ↔ t.val % 7 = 0 :=
  (cond2_iff ((crd ch t) 1)).trans (by rw [show ((crd ch t) 1).val = t.val % 7 from coords1 t])

theorem P0_2_iff (t : Fin (cfgA ch).N) : P0_2 ch t ↔ t.val % 7 = 6 :=
  (cond3_iff (crd ch t)).trans (by rw [show ((crd ch t) 1).val = t.val % 7 from coords1 t])

/-! ## The output's schedule -/

theorem index4 (t : Fin (cfgA ch).N) : ((cfgA ch).win (4 : Fin 5)).index t = ![min (t.val / 7) (ch.n - 1), 0] := by
  refine (tr4_eq ch (grid0.coords t)).trans ?_
  rw [coords0]

/-- The output's block is written back at the last slice of each block in use but the last one, and at the last point. -/
theorem flush4 (t : Fin (cfgA ch).N) :
    ((cfgA ch).win (4 : Fin 5)).flush t = decide (t.val = 279 ∨ (t.val % 7 = 6 ∧ t.val / 7 + 1 < ch.n)) := by
  have hN := N_eq ch
  have ht := t.isLt
  have hpos := ch.n_pos
  rw [Bool.eq_iff_iff, Pipeline.Window.flush_eq_flushF]
  unfold Pipeline.Window.flushF
  rw [show ((cfgA ch).win (4 : Fin 5)).isOut = true from rfl, Bool.true_and, Bool.or_eq_true, decide_eq_true_eq, decide_eq_true_eq, decide_eq_true_eq]
  have hNN : (cfgA ch).grid.N = 280 := hN
  constructor
  · rintro (h | ⟨h, a, ha⟩)
    · left; omega
    · rw [index4, index4] at ha
      revert ha
      revert a
      show ∀ a : Fin 2, _ → _
      intro a ha
      fin_cases a
      · have ha : min ((t.val + 1) / 7) (ch.n - 1) ≠ min (t.val / 7) (ch.n - 1) := ha
        right; omega
      · exact absurd rfl ha
  · rintro (h | ⟨h1, h2⟩)
    · left; omega
    · have hn := ch.n_le
      right
      refine ⟨by omega, (0 : Fin 2), ?_⟩
      rw [index4, index4]
      show min ((t.val + 1) / 7) (ch.n - 1) ≠ min (t.val / 7) (ch.n - 1)
      omega

/-- The output's buffer is stored at the last slice of a block in use only. -/
theorem idle4 (t : Fin (cfgA ch).N) :
    (cfgA ch).idle (4 : Fin 5) ((cfgA ch).grid.coords t) = !decide (t.val / 7 < ch.n ∧ t.val % 7 = 6) := by
  have h1 := P0_0_iff ch t
  have h2 := P0_2_iff ch t
  unfold P0_0 at h1
  rw [word_eq] at h1
  have e : (pfN ch).atD 1 ![0] = BitVec.ofNat 32 ch.n := by
    unfold Pipeline.Prefetch.Contents.atD
    exact (dif_pos (show ∀ a : Fin 1, (![0] : Fin 1 → ℕ) a + 1 ≤ (![1] : Fin 1 → ℕ) a by decide)).trans (ch.T1_eq _)
  show (!(k0_cond1 (crd ch t) ((pfN ch).atD 1 ![0]) == 1#1 && k0_cond3 (crd ch t) == 1#1)) = _
  rw [e, Bool.eq_iff_iff]
  simp only [Bool.not_eq_true', Bool.and_eq_false_iff, beq_eq_false_iff_ne, decide_eq_false_iff_not, ne_eq]
  rw [h1, show (k0_cond3 (crd ch t) = 1#1) ↔ _ from h2]
  tauto

/-- Before position `k` the output's buffer holds nothing stored since its last write-back. -/
def frTab (k : ℕ) : Bool := decide (k < 7 * ch.n ∨ k = 280)

theorem frTab_step (t : Fin (cfgA ch).N) :
    frTab ch (t.val + 1) = (((cfgA ch).win (4 : Fin 5)).flush t || ((cfgA ch).idle (4 : Fin 5) ((cfgA ch).grid.coords t) && frTab ch t.val)) := by
  have hN := N_eq ch
  have ht := t.isLt
  have hpos := ch.n_pos
  have hle := ch.n_le
  rw [flush4, idle4]
  unfold frTab
  rw [Bool.eq_iff_iff]
  simp only [Bool.or_eq_true, Bool.and_eq_true, Bool.not_eq_true', decide_eq_true_eq, decide_eq_false_iff_not]
  omega

theorem freshF0_4 (t : Fin (cfgA ch).N) : (cfgA ch).fresh (4 : Fin 5) t.val = frTab ch t.val :=
  Pipeline.Cfg.fresh_tab (cfgA ch) (4 : Fin 5) (frTab ch)
    (by have := ch.n_pos; unfold frTab; exact decide_eq_true (by omega)) (frTab_step ch) t.val (Nat.le_of_lt t.isLt)

/-- The accumulator holds junk before the first point only. -/
def sfresh0_0 (ch : Tables F) (k : ℕ) : Bool := decide (k = 0)

/-- Path A's conditions, as the run states them. -/
theorem hypsR0_A : ∀ (ch : Tables F) (t : Fin (cfgA ch).N), P0_0 ch t → P0_1 ch t →
    (k0_cond1 (crd ch t) (View.readAt (Elt F) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.cmpi .eq (BitVec.ofNat 32 ((crd ch t) 1).val) 0#32)) 0#32) = 1#1) ∧ ((¬(k0_cond3 (crd ch t) = 1#1)) ∧ (True))) := by

  intro ch t q0 q1
  refine ⟨q0, q1, fun h => ?_, trivial⟩
  have h1 := (P0_1_iff ch t).mp q1
  have h2 := (P0_2_iff ch t).mp h
  omega

/-- Path A's schedule. -/
theorem sched0_A : ∀ (ch : Tables F) (t : Fin (cfgA ch).N), P0_0 ch t → P0_1 ch t →
    (cfgA ch).idle (4 : Fin 5) ((cfgA ch).grid.coords t) = true ∧ ((cfgA ch).win (4 : Fin 5)).flush t = false ∧ (cfgA ch).fresh (4 : Fin 5) t.val = true ∧ sfresh0_0 ch (t.val + 1) = false := by
  intro ch t q0 q1
  have hN := N_eq ch
  have ht := t.isLt
  have hpos := ch.n_pos
  have hle := ch.n_le
  rw [P0_0_iff] at q0
  rw [P0_1_iff] at q1
  rw [freshF0_4 ch t, idle4, flush4]
  unfold frTab sfresh0_0
  simp only [Bool.not_eq_true', Bool.not_eq_false', decide_eq_true_eq, decide_eq_false_iff_not]
  omega

/-- Path B's conditions, as the run states them. -/
theorem hypsR0_B : ∀ (ch : Tables F) (t : Fin (cfgA ch).N), P0_0 ch t → ¬P0_1 ch t → ¬P0_2 ch t →
    (k0_cond1 (crd ch t) (View.readAt (Elt F) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((¬(k0_cond3 (crd ch t) = 1#1)) ∧ (True))) := by

  intro ch t q0 q1 q2
  exact ⟨q0, q1, q2, trivial⟩

/-- Path B's schedule. -/
theorem sched0_B : ∀ (ch : Tables F) (t : Fin (cfgA ch).N), P0_0 ch t → ¬P0_1 ch t → ¬P0_2 ch t →
    (cfgA ch).idle (4 : Fin 5) ((cfgA ch).grid.coords t) = true ∧ ((cfgA ch).win (4 : Fin 5)).flush t = false ∧ (cfgA ch).fresh (4 : Fin 5) t.val = true ∧ sfresh0_0 ch t.val = false ∧ sfresh0_0 ch (t.val + 1) = false := by
  intro ch t q0 q1 q2
  have hN := N_eq ch
  have ht := t.isLt
  have hpos := ch.n_pos
  have hle := ch.n_le
  rw [P0_0_iff] at q0
  rw [P0_1_iff] at q1
  rw [P0_2_iff] at q2
  rw [freshF0_4 ch t, idle4, flush4]
  unfold frTab sfresh0_0
  simp only [Bool.not_eq_true', Bool.not_eq_false', decide_eq_true_eq, decide_eq_false_iff_not]
  omega

/-- Path C's conditions, as the run states them. -/
theorem hypsR0_C : ∀ (ch : Tables F) (t : Fin (cfgA ch).N), P0_0 ch t → ¬P0_1 ch t → P0_2 ch t →
    (k0_cond1 (crd ch t) (View.readAt (Elt F) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((k0_cond3 (crd ch t) = 1#1) ∧ (True))) := by

  intro ch t q0 q1 q2
  exact ⟨q0, q1, q2, trivial⟩

/-- Path C's schedule. -/
theorem sched0_C : ∀ (ch : Tables F) (t : Fin (cfgA ch).N), P0_0 ch t → ¬P0_1 ch t → P0_2 ch t →
    (cfgA ch).idle (4 : Fin 5) ((cfgA ch).grid.coords t) = false ∧ (cfgA ch).fresh (4 : Fin 5) t.val = true ∧ sfresh0_0 ch t.val = false ∧ sfresh0_0 ch (t.val + 1) = false := by
  intro ch t q0 q1 q2
  have hN := N_eq ch
  have ht := t.isLt
  have hpos := ch.n_pos
  have hle := ch.n_le
  rw [P0_0_iff] at q0
  rw [P0_1_iff] at q1
  rw [P0_2_iff] at q2
  rw [freshF0_4 ch t, idle4]
  unfold frTab sfresh0_0
  simp only [Bool.not_eq_true', Bool.not_eq_false', decide_eq_true_eq, decide_eq_false_iff_not]
  omega

/-- Path D's conditions, as the run states them. -/
theorem hypsR0_D : ∀ (ch : Tables F) (t : Fin (cfgA ch).N), ¬P0_0 ch t →
    (¬(k0_cond1 (crd ch t) (View.readAt (Elt F) (tbM0_1).view (Rect.unit (s := S1) ![0] S1.size inb_S1_S1_0).toLoadRect (pinT_1 ch) (Shape.Idx.first (numel1_S1.symm ▸ Nat.one_pos))) = 1#1)) ∧ (True) := by

  intro ch t q0
  exact ⟨q0, trivial⟩

/-- Path D's schedule. -/
theorem sched0_D : ∀ (ch : Tables F) (t : Fin (cfgA ch).N), ¬P0_0 ch t →
    (cfgA ch).idle (4 : Fin 5) ((cfgA ch).grid.coords t) = true ∧ (cfgA ch).fresh (4 : Fin 5) t.val = false ∧ sfresh0_0 ch t.val = false ∧ sfresh0_0 ch (t.val + 1) = false := by
  intro ch t q0
  have hN := N_eq ch
  have ht := t.isLt
  have hpos := ch.n_pos
  have hle := ch.n_le
  rw [P0_0_iff] at q0
  rw [freshF0_4 ch t, idle4]
  unfold frTab sfresh0_0
  simp only [Bool.not_eq_true', Bool.not_eq_false', decide_eq_true_eq, decide_eq_false_iff_not]
  omega

end Cert.Experts

end
-- ==== Proof.Experts.Frame.lean ====
/- The experts' launch at all tables: what the buffers hold after each grid point, the body's obligation there, and the run of
   the whole program, for any floats. Both frame claims and the value claim read this one run. -/
module

public import Idealize.ShloMosaic.Lib.Claim
public import proofs.«01_k».proof.Proof.Experts.Facts

@[expose] public section

set_option maxRecDepth 16384
set_option Elab.async false

noncomputable section

namespace Cert.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The assertions' model. -/
local notation "𝕄" => MT nD τ sig Unit (Elt F) ℕ (UR sig nD τ) ℕ

/-- The proof's resource algebra: the rounds library's, for the pipeline's staging cells, embedded whole. -/
abbrev EP : Emb (UR sig nD τ) 𝕄 := emb₁

variable (ch : Tables F)
variable (m : (ℓ : Loc nD τ sig) → Buf (Elt F) ℓ) (ρ : Dev nD → PrngReg)

/-! ## What the outputs and scratches hold after each point -/

/-- What the output's buffer is said to hold while nothing has been stored in it. -/
def junk4 : S1024x1024.Idx → Elt F .bf16 := VO0_4.read (Elt F) VO0_4.junk
/-- What the accumulator is said to hold before the first point. -/
def junkS : S1024x1024.Idx → Elt F .f32 := scM0_0.view.read (Elt F) scM0_0.view.junk

/-- ONE STEP of the trajectory: what the outputs' current buffers and the scratches hold after the body at point `t`
    (output 4, scratch 0), from what they held before (`prev`): the path the decisions select at `t`, its
    run's contents; an output the path leaves idle keeps what it held (junk — `default`, named by nothing — where fresh). -/
def step0 (c : Dev nD) (t : Fin (cfgA ch).N) (prev : (S1024x1024.Idx → Elt F .bf16) × Buf (Elt F) ((c : Thread nD τ).loc cc0_scratch0)) : (S1024x1024.Idx → Elt F .bf16) × Buf (Elt F) ((c : Thread nD τ).loc cc0_scratch0) :=
  if q0 : P0_0 ch t then
    if q1 : P0_1 ch t then
      ((if (cfgA ch).fresh (4 : Fin 5) t.val then junk4 else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).1)
    else
      if q2 : P0_2 ch t then
        (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_C ch t q0 q1 q2).1 (hypsR0_C ch t q0 q1 q2).2.1 (hypsR0_C ch t q0 q1 q2).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_C ch t q0 q1 q2).1 (hypsR0_C ch t q0 q1 q2).2.1 (hypsR0_C ch t q0 q1 q2).2.2.1).2.1)
      else
        ((if (cfgA ch).fresh (4 : Fin 5) t.val then junk4 else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_B ch t q0 q1 q2).1 (hypsR0_B ch t q0 q1 q2).2.1 (hypsR0_B ch t q0 q1 q2).2.2.1).1)
  else
    ((if (cfgA ch).fresh (4 : Fin 5) t.val then junk4 else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_D ch t q0).1).1)

/-- THE TRAJECTORY: after position `n`. -/
def traj0 (c : Dev nD) : (n : ℕ) → n < (cfgA ch).N → (S1024x1024.Idx → Elt F .bf16) × Buf (Elt F) ((c : Thread nD τ).loc cc0_scratch0)
  | 0, h => step0 ch m ρ c ⟨0, h⟩ (junk4, junkS)
  | n + 1, h => step0 ch m ρ c ⟨n + 1, h⟩ (traj0 c n (Nat.lt_of_succ_lt h))

/-- What they held BEFORE point `t` (junk before the first). -/
def prev0 (c : Dev nD) (t : Fin (cfgA ch).N) : (S1024x1024.Idx → Elt F .bf16) × Buf (Elt F) ((c : Thread nD τ).loc cc0_scratch0) :=
  if h : t.val = 0 then (junk4, junkS) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S1024x1024.Idx → Elt F .bf16) × Buf (Elt F) ((c : Thread nD τ).loc cc0_scratch0)) (q0 : P0_0 ch t) (q1 : P0_1 ch t) :
    step0 ch m ρ c t prev = ((if (cfgA ch).fresh (4 : Fin 5) t.val then junk4 else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).1) := by
  unfold step0; simp only [dif_pos q0, dif_pos q1]

/-- `step0` at a point of path B. -/
theorem step0_B (c : Dev nD) (t : Fin (cfgA ch).N) (prev : (S1024x1024.Idx → Elt F .bf16) × Buf (Elt F) ((c : Thread nD τ).loc cc0_scratch0)) (q0 : P0_0 ch t) (q1 : ¬P0_1 ch t) (q2 : ¬P0_2 ch t) :
    step0 ch m ρ c t prev = ((if (cfgA ch).fresh (4 : Fin 5) t.val then junk4 else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_B ch t q0 q1 q2).1 (hypsR0_B ch t q0 q1 q2).2.1 (hypsR0_B ch t q0 q1 q2).2.2.1).1) := by
  unfold step0; simp only [dif_pos q0, dif_neg q1, dif_neg q2]

/-- `step0` at a point of path C. -/
theorem step0_C (c : Dev nD) (t : Fin (cfgA ch).N) (prev : (S1024x1024.Idx → Elt F .bf16) × Buf (Elt F) ((c : Thread nD τ).loc cc0_scratch0)) (q0 : P0_0 ch t) (q1 : ¬P0_1 ch t) (q2 : P0_2 ch t) :
    step0 ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_C ch t q0 q1 q2).1 (hypsR0_C ch t q0 q1 q2).2.1 (hypsR0_C ch t q0 q1 q2).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_C ch t q0 q1 q2).1 (hypsR0_C ch t q0 q1 q2).2.1 (hypsR0_C ch t q0 q1 q2).2.2.1).2.1) := by
  unfold step0; simp only [dif_pos q0, dif_neg q1, dif_pos q2]

/-- `step0` at a point of path D. -/
theorem step0_D (c : Dev nD) (t : Fin (cfgA ch).N) (prev : (S1024x1024.Idx → Elt F .bf16) × Buf (Elt F) ((c : Thread nD τ).loc cc0_scratch0)) (q0 : ¬P0_0 ch t) :
    step0 ch m ρ c t prev = ((if (cfgA ch).fresh (4 : Fin 5) t.val then junk4 else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_D ch t q0).1).1) := by
  unfold step0; simp only [dif_neg q0]

/-! ## The pipeline's proof data -/

/-- What the tracked buffers held before position `t` of `Fin (N+1)` (the invariant's index). -/
def prev0T (c : Dev nD) (t : Fin ((cfgA ch).N + 1)) : (S1024x1024.Idx → Elt F .bf16) × Buf (Elt F) ((c : Thread nD τ).loc cc0_scratch0) :=
  if h : t.val = 0 then (junk4, junkS) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt F) ℓ) (ρ : Dev nD → PrngReg) (c : Dev nD) (t : Fin ((cfgA ch).N + 1)) : sProp 𝕄 :=
  iprop((∃ a, ⌜sfresh0_0 ch t.val = false → a = (prev0T ch m ρ c t).2⌝ ∗ (scM0_0.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt F) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · by_cases q1 : P0_1 ch t
    · rw [step0_A ch m ρ c t _ q0 q1]
      simp only [hf, Bool.false_eq_true, ↓reduceIte]
      unfold prev0; rw [dif_neg ht]
    · by_cases q2 : P0_2 ch t
      · obtain ⟨i4, -, -, -⟩ := sched0_C ch t q0 q1 q2
        rw [i4] at hi; exact absurd hi (by decide)
      · rw [step0_B ch m ρ c t _ q0 q1 q2]
        simp only [hf, Bool.false_eq_true, ↓reduceIte]
        unfold prev0; rw [dif_neg ht]
  · rw [step0_D ch m ρ c t _ q0]
    simp only [hf, Bool.false_eq_true, ↓reduceIte]
    unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA ch).N) : Prog (TpuEff nD τ sig (Elt F) Λ₀ .tc) PUnit :=
  cc0_moe_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := F)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i4, f4, fr4, sfn0⟩ := sched0_A ch t q0 q1
      have F0 := hypsR0_A ch t q0 q1
      have k0_h1 := F0.1; have F1 := F0.2
      have k0_h2 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, HT0, HT1⟩, Ho, ⟨%d0, H0⟩, ⟨%d1, H1⟩, ⟨%d2, H2⟩, ⟨%d3, H3⟩, ⟨%d4, H4⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) k0_h1 k0_h2 k0_h3).2 _ a0 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      iintro ⟨H0, H1, H2, H3, HT0, HT1, H4, HS0⟩
      isplitl [HS0 HT0 HT1]
      · isplitl [HS0]
        · iexists _; isplitr; swap
          · iexact HS0
          · ipureintro; intro hn; first | rfl | exact absurd hn (by rw [sfn0]; exact Bool.false_ne_true)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4
    · by_cases q2 : P0_2 ch t
      · obtain ⟨i4, fr4, sf0, sfn0⟩ := sched0_C ch t q0 q1 q2
        have F0 := hypsR0_C ch t q0 q1 q2
        have k0_h1 := F0.1; have F1 := F0.2
        have k0_h2 := F1.1; have F2 := F1.2
        have k0_h3 := F2.1; have F3 := F2.2
        clear F0 F1 F2 F3
        rewrite [i4]
        simp only [before0_0, before0_1, before0_2, before0_3, before0_4, after0_0, after0_1, after0_2, after0_3, after0_4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_C ch m ρ c t _ q0 q1 q2]
        unfold Phi; simp only [prev0T_castSucc, prev0T_succ, traj0_eq, step0_C ch m ρ c t _ q0 q1 q2, Fin.val_castSucc, Fin.val_succ]
        simp only [exists_held sf0]
        iintro ⟨⟨HS0, HT0, HT1⟩, Ho, ⟨%d0, H0⟩, ⟨%d1, H1⟩, ⟨%d2, H2⟩, ⟨%d3, H3⟩, ⟨%d4, H4⟩⟩
        iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ k0_h1 k0_h2 k0_h3).2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        iintro ⟨H0, H1, H2, H3, HT0, HT1, ⟨%e4, H4⟩, HS0⟩
        isplitl [HS0 HT0 HT1]
        · isplitl [HS0]
          · iexists _; isplitr; swap
            · iexact HS0
            · ipureintro; intro hn; first | rfl | exact absurd hn (by rw [sfn0]; exact Bool.false_ne_true)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; exact View.read_writes_of_cover _ _ _ _ _ (cover0_C_4 c _ _ _ _ _ _ _ _ _ _ _ _ _ _ _ _ _ _ _ _ _)
      · obtain ⟨i4, f4, fr4, sf0, sfn0⟩ := sched0_B ch t q0 q1 q2
        have F0 := hypsR0_B ch t q0 q1 q2
        have k0_h1 := F0.1; have F1 := F0.2
        have k0_h2 := F1.1; have F2 := F1.2
        have k0_h3 := F2.1; have F3 := F2.2
        clear F0 F1 F2 F3
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_B ch m ρ c t _ q0 q1 q2]
        unfold Phi; simp only [prev0T_castSucc, prev0T_succ, traj0_eq, step0_B ch m ρ c t _ q0 q1 q2, Fin.val_castSucc, Fin.val_succ]
        simp only [exists_held sf0]
        iintro ⟨⟨HS0, HT0, HT1⟩, Ho, ⟨%d0, H0⟩, ⟨%d1, H1⟩, ⟨%d2, H2⟩, ⟨%d3, H3⟩, ⟨%d4, H4⟩⟩
        iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ k0_h1 k0_h2 k0_h3).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        iintro ⟨H0, H1, H2, H3, HT0, HT1, H4, HS0⟩
        isplitl [HS0 HT0 HT1]
        · isplitl [HS0]
          · iexists _; isplitr; swap
            · iexact HS0
            · ipureintro; intro hn; first | rfl | exact absurd hn (by rw [sfn0]; exact Bool.false_ne_true)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
  · obtain ⟨i4, fr4, sf0, sfn0⟩ := sched0_D ch t q0
    have F0 := hypsR0_D ch t q0
    have k0_h1 := F0.1; have F1 := F0.2
    clear F0 F1
    cases f4 : ((cfgA ch).win (4 : Fin 5)).flush t
    · rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0]
      unfold Phi; simp only [prev0T_castSucc, prev0T_succ, traj0_eq, step0_D ch m ρ c t _ q0, Fin.val_castSucc, Fin.val_succ]
      simp only [exists_held sf0]
      iintro ⟨⟨HS0, HT0, HT1⟩, Ho, ⟨%d0, H0⟩, ⟨%d1, H1⟩, ⟨%d2, H2⟩, ⟨%d3, H3⟩, ⟨%d4, H4⟩⟩
      iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ k0_h1).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      iintro ⟨H0, H1, H2, H3, HT0, HT1, H4, HS0⟩
      isplitl [HS0 HT0 HT1]
      · isplitl [HS0]
        · iexists _; isplitr; swap
          · iexact HS0
          · ipureintro; intro hn; first | rfl | exact absurd hn (by rw [sfn0]; exact Bool.false_ne_true)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4
    · rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0]
      unfold Phi; simp only [prev0T_castSucc, prev0T_succ, traj0_eq, step0_D ch m ρ c t _ q0, Fin.val_castSucc, Fin.val_succ, fr4, Bool.false_eq_true, ↓reduceIte]
      simp only [exists_held sf0]
      iintro ⟨⟨HS0, HT0, HT1⟩, Ho, ⟨%d0, H0⟩, ⟨%d1, H1⟩, ⟨%d2, H2⟩, ⟨%d3, H3⟩, ⟨%d4, H4⟩⟩
      iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ k0_h1).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      iintro ⟨H0, H1, H2, H3, HT0, HT1, H4, HS0⟩
      isplitl [HS0 HT0 HT1]
      · isplitl [HS0]
        · iexists _; isplitr; swap
          · iexact HS0
          · ipureintro; intro hn; first | rfl | exact absurd hn (by rw [sfn0]; exact Bool.false_ne_true)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4

/-- The library's body obligation, at every point. -/
theorem body_obligation (hp : Pinned ch m) (c : Dev nD) : BodyObligation (dats ch m ρ 0 c) (defs₀ (F := F)) Variants.none () Set.univ := fun t => by
  rw [bigSep_W0]
  exact sound_body ch m ρ hp c t

/-! ## The launch -/

/-- The rounds library's launch element. -/
def u₀ : UR sig nD τ :=
  initOf (Pipeline.cells (pcs ch) ((launch0 (F := F)).cellOf_inj fun _ => adm ch))
    (Pipeline.launchToks (pcs ch) ((launch0 (F := F)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩⟩
  isplitl [HS0]
  · iexists a0; isplitr; swap
    · iexact HS0
    · ipureintro; intro h; exact absurd (h.symm.trans (show sfresh0_0 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, -, -⟩
  isplitr; · iempintro
  iexists a0; iexact HS0

/-- The physical post: every array at what the library computes, every table at what the pipeline ran at. -/
def QC : PUnit × MemSt nD τ sig (Elt F) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := F)) (onTc (τ := τ) (main (F := F))) (s₀ m ρ) (fun r => QC ch m ρ r ∧ r.2.sem = fun _ => 0) :=
  Pipeline.θ_run_region_noSem_pf_quiescent pcfgs (fun _ => adm ch) (dats ch m ρ) () ((launch0 (F := F)).cellOf_inj fun _ => adm ch) (0 : Fin 1)
    (launch0 (F := F)).win.to₀ (launch0 (F := F)).pre EP defs₀ Variants.none m ρ main
    (hbody := fun c => (body_obligation ch m ρ hp c).loose) (hne := (launch0 (F := F)).block_pos)
    (harr := (launch0 (F := F)).arr_whole) (hstage := (launch0 (F := F)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := F)).win.arr_inj c (launch0 (F := F)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := F)) (onTc (τ := τ) (main (F := F))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- THE FRAME under the pinning: from a launch memory whose tables and steering words are member `ch`'s, every weakly fair
    execution terminates, nothing faults, every argument array ends unchanged and every semaphore counter of the machine reads
    zero at every final state — `Cert.quiescent_KernelIdeal`'s post. -/
theorem frame (hp : Pinned ch m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.Experts

end
-- ==== Proof.Experts.Pre.lean ====
/- What the precondition says of the tables, and both programs' frames from it: the printed predicate read back as bounds on the
   two tables, and the run over all such tables used for the kernel at the machine's floats and at the reals. -/
module

public import proofs.«01_k».proof.Proof.Experts.Frame
public import proofs.«01_k».proof.Proof.Gen.Kernel
public import proofs.«01_k».proof.Proof.Gen.Pre_routed
public import Idealize.ShloMosaic.Lib.ReduceAll
public import Idealize.ShloMosaic.Lib.WordCmp

@[expose] public section

set_option maxRecDepth 16384

noncomputable section

namespace Cert.Experts

open Cert.KernelIdeal Cert.KernelIdeal.Gen
open Idealize.ShloMosaic
open Idealize.ShloMosaic.TcCoe
open Idealize.SL.Sem

variable {F : FTy → Type} [FloatOps F]

/-- A signed bound below 2³¹ on a word that is not negative is the bound on its value. -/
theorem word_lt (x : BitVec 32) (k : ℕ) (hk : k < 2 ^ 31) (h0 : (0 : ℤ) ≤ x.toInt) (h1 : x.toInt < k) : x.toNat < k := by
  have hx := x.isLt
  rw [BitVec.toInt_eq_toNat_cond] at h0 h1
  split at h0 <;> omega

/-- The precondition, read back: every expert is below 8 and between 1 and 40 blocks are in use. -/
theorem tables_of_pre (a0 : IVec S40 32) (a1 : IVec S1 32) (a2 : FVec F S40960x1024 .bf16) (a3 a4 : FVec F S8x1024x3584 .f32)
    (a5 : FVec F S8x3584x1024 .f32) (h : Cert.Pre_routed.fn (F := F) a0 a1 a2 a3 a4 a5 = fun _ => 1#1) :
    (∀ x, (a0 x).toNat < 8) ∧ ∀ x, 1 ≤ (a1 x).toNat ∧ (a1 x).toNat ≤ 40 := by
  have e := congrFun h (fun a => a.elim0)
  unfold Cert.Pre_routed.fn at e
  obtain ⟨e1, e2⟩ := IntOp.andi_eq_one.1 e
  obtain ⟨e3, e4⟩ := IntOp.andi_eq_one.1 e1
  obtain ⟨e5, e6⟩ := IntOp.andi_eq_one.1 e3
  haveI : Subsingleton Cert.Pre_routed.S_.Idx := ⟨fun a b => funext fun k => k.elim0⟩
  constructor
  · intro x
    have g1 := IntOp.cmpi_sge.1 (Host.reduce_andi_all _ _ _ _ _ e4 x)
    have g2 := IntOp.cmpi_slt.1 (Host.reduce_andi_all _ _ _ _ _ e2 x)
    exact word_lt (a0 x) 8 (by norm_num) g1 g2
  · intro x
    have g1 := IntOp.cmpi_sge.1 e5
    have g2 := IntOp.cmpi_sle.1 e6
    have k1 : ((1 : ℤ)) ≤ (a1 x).toInt := by
      refine le_trans (b := (a1 _).toInt) g1 (le_of_eq ?_)
      exact congrArg (fun y => (a1 y).toInt) (idx1_eq _ _)
    have k2 : (a1 x).toInt ≤ 40 := by
      refine le_trans (b := (a1 _).toInt) (le_of_eq ?_) g2
      exact congrArg (fun y => (a1 y).toInt) (idx1_eq _ _)
    have hx := (a1 x).isLt
    rw [BitVec.toInt_eq_toNat_cond] at k1 k2
    split at k1 <;> omega

/-- One device, so its tables are the tables. -/
theorem exists_tables (m : (ℓ : Loc nD τ sig) → Buf (Elt F) ℓ)
    (h : ∀ c : Dev nD, Cert.Pre_routed.fn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1) :
    ∃ ch : Tables F, Pinned ch m := by
  have hc : ∀ c : Dev nD, c = 0 := by decide
  obtain ⟨h0, h1⟩ := tables_of_pre _ _ _ _ _ _ (h 0)
  exact ⟨⟨_, _, h0, h1⟩, fun c => by rw [hc c], fun c => by rw [hc c]⟩

/-- The frame of the kernel at the reals. -/
theorem frame_ideal : Cert.quiescent_KernelIdeal := fun m ρ hpre => by
  obtain ⟨ch, hp⟩ := exists_tables (F := Ideal) m hpre
  exact frame ch m ρ hp

/-- The two printed kernels are one text: their body tables are equal. -/
theorem bodies_eq : Cert.Kernel.defs₀ (F := Bits) = Cert.KernelIdeal.defs₀ (F := Bits) := by
  unfold Cert.Kernel.defs₀ Cert.KernelIdeal.defs₀
  apply congrArg Defs.onTc
  funext l a
  obtain ⟨l, hl⟩ := l
  obtain rfl : l = 0 := by have : l < 1 := hl; omega
  rfl

theorem defs_eq : Cert.Kernel.defs (F := Bits) = Cert.KernelIdeal.defs (F := Bits) := by
  unfold Cert.Kernel.defs Cert.KernelIdeal.defs
  exact congrArg (Pipeline.defs (Cert.KernelIdeal.pcfgs (F := Bits))) bodies_eq

/-- The frame of the kernel at the machine's floats: the same text, so the same run. -/
theorem frame_bits : Cert.quiescent_Kernel := fun m ρ hpre => by
  obtain ⟨ch, hp⟩ := exists_tables (F := Bits) m hpre
  rw [defs_eq]
  exact frame (F := Bits) ch m ρ hp

end Cert.Experts

end
-- ==== Proof.Experts.Stage.lean ====
/- What the experts' body computes at a grid point: the accumulator is set to zero at the first slice of a block, each slice adds
   its product, and the last slice's sum is stored as the output's block. -/
module

public import proofs.«01_k».proof.Proof.Experts.Frame
public import Idealize.ShloMosaic.Lib.Pipeline.Value

@[expose] public section

set_option maxRecDepth 16384

noncomputable section

namespace Cert.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A store through a whole view, last, leaves its payload. -/
theorem read_whole_store1 {sig : RefSig} {κ : Kind} {sp : Space} {S : Shape} {e : EltTy} (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  subst h
  funext y
  have hr := View.read_writes_cons_emb (v := v) (f := f) (Rect.whole S) w L y
  rw [Rect.emb_whole_apply] at hr
  exact hr

/-- The first slice of a block: the accumulator ends holding zero plus the slice's product. -/
theorem scratch_A (c : Dev nD) (i : grid0.Coords) (arg4 : Memref sig .tc .vmem S1024x1024 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .bf16) (harg8 : arg8.IsWhole) (T0 : (S40.Idx → Elt F .i32)) (T1 : (S1.Idx → Elt F .i32))
     (x0 : (S1024x1024.Idx → Elt F .bf16)) (x1 : (S1x1024x512.Idx → Elt F .f32)) (x2 : (S1x1024x512.Idx → Elt F .f32)) (x3 : (S1x512x1024.Idx → Elt F .f32)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : (Scalar.cmpi .ne (Scalar.extui (Scalar.cmpi .eq (BitVec.ofNat 32 (i 1).val) 0#32)) 0#32) = 1#1) (k0_h3 : ¬(k0_cond3 i = 1#1)) :
    (kernelRun0_A c i arg4 harg4 arg5 harg5 arg6 harg6 arg7 harg7 arg8 harg8 T0 T1 x0 x1 x2 x3 k0_h1 k0_h2 k0_h3).1 = k0_pay2 x0 x1 x2 k0_pay1 x3 := by
  unfold kernelRun0_A
  dsimp only
  sl_unfold_words
  refine (View.read_whole cc0_scratch0 _).symm.trans ?_
  refine (read_whole_store1 _ _ hz2 _ _ _).trans ?_
  rw [View.readCov_unit_zero (S := S1024x1024) _ hz2]
  simp only [View.readAt_eq_ld, View.read_rep, View.ld_unit_zero (S := S1024x1024) hz2, View.ld_unit_zero (S := S1x1024x512) hz3, View.ld_unit_zero (S := S1x512x1024) hz3]

/-- A middle slice adds its product. -/
theorem scratch_B (c : Dev nD) (i : grid0.Coords) (arg4 : Memref sig .tc .vmem S1024x1024 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .bf16) (harg8 : arg8.IsWhole) (T0 : (S40.Idx → Elt F .i32)) (T1 : (S1.Idx → Elt F .i32))
     (x0 : (S1024x1024.Idx → Elt F .bf16)) (x1 : (S1x1024x512.Idx → Elt F .f32)) (x2 : (S1x1024x512.Idx → Elt F .f32)) (x3 : (S1x512x1024.Idx → Elt F .f32)) (xa0 : Buf (Elt F) ((c : Thread nD τ).loc cc0_scratch0)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : ¬(k0_cond3 i = 1#1)) :
    (kernelRun0_B c i arg4 harg4 arg5 harg5 arg6 harg6 arg7 harg7 arg8 harg8 T0 T1 x0 x1 x2 x3 xa0 k0_h1 k0_h2 k0_h3).1 = k0_pay2 x0 x1 x2 xa0 x3 := by
  unfold kernelRun0_B
  dsimp only
  sl_unfold_words
  refine (View.read_whole cc0_scratch0 _).symm.trans ?_
  refine (read_whole_store1 _ _ hz2 _ _ _).trans ?_
  simp only [View.readAt_eq_ld, View.read_rep, View.ld_unit_zero (S := S1024x1024) hz2, View.ld_unit_zero (S := S1x1024x512) hz3, View.ld_unit_zero (S := S1x512x1024) hz3]
  rfl

/-- The last slice adds its product. -/
theorem scratch_C (c : Dev nD) (i : grid0.Coords) (arg4 : Memref sig .tc .vmem S1024x1024 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .bf16) (harg8 : arg8.IsWhole) (T0 : (S40.Idx → Elt F .i32)) (T1 : (S1.Idx → Elt F .i32))
     (x0 : (S1024x1024.Idx → Elt F .bf16)) (x1 : (S1x1024x512.Idx → Elt F .f32)) (x2 : (S1x1024x512.Idx → Elt F .f32)) (x3 : (S1x512x1024.Idx → Elt F .f32)) (xa0 : Buf (Elt F) ((c : Thread nD τ).loc cc0_scratch0)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : k0_cond3 i = 1#1) :
    (kernelRun0_C c i arg4 harg4 arg5 harg5 arg6 harg6 arg7 harg7 arg8 harg8 T0 T1 x0 x1 x2 x3 xa0 k0_h1 k0_h2 k0_h3).2.1 = k0_pay2 x0 x1 x2 xa0 x3 := by
  unfold kernelRun0_C
  dsimp only
  sl_unfold_words
  refine (View.read_whole cc0_scratch0 _).symm.trans ?_
  refine (read_whole_store1 _ _ hz2 _ _ _).trans ?_
  simp only [View.readAt_eq_ld, View.read_rep, View.ld_unit_zero (S := S1024x1024) hz2, View.ld_unit_zero (S := S1x1024x512) hz3, View.ld_unit_zero (S := S1x512x1024) hz3]
  rfl

/-- The last slice stores the sum as the output's block. -/
theorem output_C (c : Dev nD) (i : grid0.Coords) (arg4 : Memref sig .tc .vmem S1024x1024 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .bf16) (harg8 : arg8.IsWhole) (T0 : (S40.Idx → Elt F .i32)) (T1 : (S1.Idx → Elt F .i32))
     (x0 : (S1024x1024.Idx → Elt F .bf16)) (x1 : (S1x1024x512.Idx → Elt F .f32)) (x2 : (S1x1024x512.Idx → Elt F .f32)) (x3 : (S1x512x1024.Idx → Elt F .f32)) (xa0 : Buf (Elt F) ((c : Thread nD τ).loc cc0_scratch0)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : k0_cond3 i = 1#1) :
    (out0_C_4 c i arg4 harg4 arg5 harg5 arg6 harg6 arg7 harg7 arg8 harg8 T0 T1 x0 x1 x2 x3 xa0 k0_h1 k0_h2 k0_h3) = k0_pay3 (k0_pay2 x0 x1 x2 xa0 x3) := by
  unfold out0_C_4
  rw [View.read_writes_eq_canon _ _ _ (cover0_C_4 c i arg4 harg4 arg5 harg5 arg6 harg6 arg7 harg7 arg8 harg8 T0 T1 x0 x1 x2 x3 xa0 k0_h1 k0_h2 k0_h3)]
  unfold kernelRun0_C
  dsimp only
  sl_unfold_words
  rw [View.canon_unit_zero (S := S1024x1024) hz2, View.readCov_unit_zero (S := S1024x1024) _ hz2]
  simp only [View.readAt_eq_ld, View.read_rep, View.ld_unit_zero (S := S1024x1024) hz2, View.ld_unit_zero (S := S1x1024x512) hz3, View.ld_unit_zero (S := S1x512x1024) hz3]
  rfl

/-- An idle point keeps the accumulator. -/
theorem scratch_D (c : Dev nD) (i : grid0.Coords) (arg4 : Memref sig .tc .vmem S1024x1024 .bf16) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .bf16) (harg8 : arg8.IsWhole) (T0 : (S40.Idx → Elt F .i32)) (T1 : (S1.Idx → Elt F .i32))
     (x0 : (S1024x1024.Idx → Elt F .bf16)) (x1 : (S1x1024x512.Idx → Elt F .f32)) (x2 : (S1x1024x512.Idx → Elt F .f32)) (x3 : (S1x512x1024.Idx → Elt F .f32)) (xa0 : Buf (Elt F) ((c : Thread nD τ).loc cc0_scratch0)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) :
    (kernelRun0_D c i arg4 harg4 arg5 harg5 arg6 harg6 arg7 harg7 arg8 harg8 T0 T1 x0 x1 x2 x3 xa0 k0_h1).1 = xa0 := by
  unfold kernelRun0_D
  rfl

end Cert.Experts

end
-- ==== Proof.Experts.Spec.lean ====
/- What the experts compute, written over the arrays: one row through one expert's gated network, as one sum over the hidden
   axis, and that sum cut into the kernel's slices of 512. -/
module

public import proofs.«01_k».proof.Proof.Experts.Stage
public import Idealize.ShloMosaic.Lib.Pointwise

@[expose] public section

set_option maxRecDepth 16384
set_option Elab.async false

noncomputable section

namespace Cert.Experts

open Cert.KernelIdeal Cert.KernelIdeal.Gen
open Idealize.ShloMosaic
open Idealize.ShloMosaic.TcCoe

/-- The arrays, at the extended reals. -/
abbrev Rows := S40960x1024.Idx → Elt Ideal .bf16
abbrev Up := S8x1024x3584.Idx → Elt Ideal .f32
abbrev Down := S8x3584x1024.Idx → Elt Ideal .f32

/-- The hidden unit `j` of expert `e` on row `r`: `silu (x·w1) * (x·w3)`. -/
def hid (xs : Rows) (w1 w3 : Up) (r : Fin 40960) (e : Fin 8) (j : Fin 3584) : EReal :=
  ((∑ k : Fin 1024, xs (ix2 r k) * w1 (ix3 e k j)) * Ideal.logistic (∑ k : Fin 1024, xs (ix2 r k) * w1 (ix3 e k j)))
    * ∑ k : Fin 1024, xs (ix2 r k) * w3 (ix3 e k j)

/-- What hidden unit `j` adds to output column `o` (nothing past the axis). -/
def term (xs : Rows) (w1 w3 : Up) (w2 : Down) (r : Fin 40960) (e : Fin 8) (o : Fin 1024) (j : ℕ) : EReal :=
  if h : j < 3584 then hid xs w1 w3 r e ⟨j, h⟩ * w2 (ix3 e ⟨j, h⟩ o) else 0

/-- The first `f` slices of row `r`'s output column `o` under expert `e`. -/
def slices (xs : Rows) (w1 w3 : Up) (w2 : Down) (r : Fin 40960) (e : Fin 8) (o : Fin 1024) (f : ℕ) : EReal :=
  ∑ j ∈ Finset.range (512 * f), term xs w1 w3 w2 r e o j

theorem slices_zero (xs : Rows) (w1 w3 : Up) (w2 : Down) (r : Fin 40960) (e : Fin 8) (o : Fin 1024) :
    slices xs w1 w3 w2 r e o 0 = 0 := by
  unfold slices; rw [Nat.mul_zero, Finset.range_zero, Finset.sum_empty]

theorem slices_succ (xs : Rows) (w1 w3 : Up) (w2 : Down) (r : Fin 40960) (e : Fin 8) (o : Fin 1024) (f : ℕ) :
    slices xs w1 w3 w2 r e o (f + 1)
      = slices xs w1 w3 w2 r e o f + ∑ j : Fin 512, term xs w1 w3 w2 r e o (512 * f + j.val) := by
  unfold slices
  rw [Nat.mul_succ, Finset.sum_range_add, Finset.sum_range (n := 512)]

/-- All seven slices are the whole hidden axis. -/
theorem slices_seven (xs : Rows) (w1 w3 : Up) (w2 : Down) (r : Fin 40960) (e : Fin 8) (o : Fin 1024) :
    slices xs w1 w3 w2 r e o 7 = ∑ j : Fin 3584, hid xs w1 w3 r e j * w2 (ix3 e j o) := by
  unfold slices
  rw [show 512 * 7 = 3584 from rfl, Finset.sum_range]
  refine Finset.sum_congr rfl fun j _ => ?_
  unfold term
  rw [dif_pos j.isLt]

theorem pay1_apply (i : S1024x1024.Idx) : k0_pay1 (F := Ideal) i = 0 := by
  unfold k0_pay1
  pointwise

/-- One point's payload at an index: the accumulator plus the slice's product. -/
theorem pay2_apply (x0 : Vec Ideal S1024x1024 .bf16) (x1 x2 : Vec Ideal S1x1024x512 .f32) (acc : Vec Ideal S1024x1024 .f32)
    (x3 : Vec Ideal S1x512x1024 .f32) (i : S1024x1024.Idx) :
    k0_pay2 (F := Ideal) x0 x1 x2 acc x3 i = acc i + ∑ j : Fin 512,
      ((∑ k : Fin 1024, x0 (ix2 (i 0) k) * x1 (ix3 0 k j)) * Ideal.logistic (∑ k : Fin 1024, x0 (ix2 (i 0) k) * x1 (ix3 0 k j))
        * ∑ k : Fin 1024, x0 (ix2 (i 0) k) * x2 (ix3 0 k j)) * x3 (ix3 0 j (i 1)) := by
  unfold k0_pay2
  pointwise

/-- One point's payload where its blocks are cuts of the arrays: the accumulator plus slice `f` of the row. -/
theorem pay2_slice (xs : Rows) (w1 w3 : Up) (w2 : Down) (x0 : Vec Ideal S1024x1024 .bf16) (x1 x2 : Vec Ideal S1x1024x512 .f32)
    (acc : Vec Ideal S1024x1024 .f32) (x3 : Vec Ideal S1x512x1024 .f32) (p o : Fin 1024) (r : Fin 40960) (e : Fin 8) (f : ℕ) (hf : f < 7)
    (e0 : ∀ k : Fin 1024, x0 (ix2 p k) = xs (ix2 r k))
    (e1 : ∀ (k : Fin 1024) (j : Fin 512) (h : 512 * f + j.val < 3584), x1 (ix3 0 k j) = w1 (ix3 e k ⟨512 * f + j.val, h⟩))
    (e2 : ∀ (k : Fin 1024) (j : Fin 512) (h : 512 * f + j.val < 3584), x2 (ix3 0 k j) = w3 (ix3 e k ⟨512 * f + j.val, h⟩))
    (e3 : ∀ (j : Fin 512) (h : 512 * f + j.val < 3584), x3 (ix3 0 j o) = w2 (ix3 e ⟨512 * f + j.val, h⟩ o)) :
    k0_pay2 (F := Ideal) x0 x1 x2 acc x3 (ix2 p o) = acc (ix2 p o) + ∑ j : Fin 512, term xs w1 w3 w2 r e o (512 * f + j.val) := by
  refine (pay2_apply _ _ _ _ _ (ix2 p o)).trans ?_
  congr 1
  refine Finset.sum_congr rfl fun j _ => ?_
  have hj : 512 * f + j.val < 3584 := by have := j.isLt; omega
  have s1 := Finset.sum_congr (s₁ := Finset.univ) rfl fun k (_ : k ∈ (Finset.univ : Finset (Fin 1024))) => congrArg₂ (fun a b : EReal => a * b) (e0 k) (e1 k j hj)
  have s2 := Finset.sum_congr (s₁ := Finset.univ) rfl fun k (_ : k ∈ (Finset.univ : Finset (Fin 1024))) => congrArg₂ (fun a b : EReal => a * b) (e0 k) (e2 k j hj)
  unfold term hid
  rw [dif_pos hj]
  exact congrArg₂ (fun a b : EReal => a * b) (congrArg₂ (fun a b : EReal => a * b) (congrArg (fun a : EReal => a * Ideal.logistic a) s1) s2) (e3 j hj)

theorem pay3_apply (x : Vec Ideal S1024x1024 .f32) (i : S1024x1024.Idx) : k0_pay3 (F := Ideal) x i = x i := by
  unfold k0_pay3
  pointwise

end Cert.Experts

end
-- ==== Proof.Experts.Value.lean ====
/- The experts' run at the extended reals: what the accumulator and the output's buffer hold after each point, by induction over
   the grid, and the output array on the rows of the blocks in use. -/
module

public import proofs.«01_k».proof.Proof.Experts.Spec

@[expose] public section

set_option maxRecDepth 16384
set_option Elab.async false

noncomputable section

namespace Cert.Experts

open Cert.KernelIdeal Cert.KernelIdeal.Gen
open Idealize.ShloMosaic
open Idealize.ShloMosaic.TcCoe
open Idealize.SL.Sem
open Idealize.ShloMosaic.Pipeline (Dat Cfg Window)

section Blocks

variable {F : FTy → Type} [FloatOps F] (ch : Tables F) (m : (ℓ : Loc nD τ sig) → Buf (Elt F) ℓ) (ρ : Dev nD → PrngReg)

/-- The expert of block `d`. -/
def Tables.eb (ch : Tables F) (d : ℕ) (hd : d < 40) : Fin 8 :=
  ⟨(ch.T0 (fun a => match a with | ⟨0, _⟩ => ⟨d, hd⟩)).toNat, ch.h0 _⟩

theorem e_crd (t : Fin (cfgA ch).N) (hd : t.val / 7 < 40) : ch.e (crd ch t) = (ch.eb (t.val / 7) hd).val := by
  unfold Tables.e Tables.eb
  show BitVec.toNat (ch.T0 _) = BitVec.toNat (ch.T0 _)
  congr 2
  funext a
  match a with
  | ⟨0, _⟩ => exact Fin.ext (coords0 t)

theorem fblk_crd (t : Fin (cfgA ch).N) (h : t.val / 7 < ch.n) : ch.fblk (crd ch t) = t.val % 7 := by
  unfold Tables.fblk
  rw [show ((crd ch t) 0).val = t.val / 7 from coords0 t, show ((crd ch t) 1).val = t.val % 7 from coords1 t, if_pos h]

theorem index0 (t : Fin (cfgA ch).N) : ((cfgA ch).win (0 : Fin 5)).index t = ![min (t.val / 7) (ch.n - 1), 0] := by
  refine (tr0_eq ch (grid0.coords t)).trans ?_
  rw [coords0]

theorem index1 (t : Fin (cfgA ch).N) : ((cfgA ch).win (1 : Fin 5)).index t = ![ch.e (crd ch t), 0, ch.fblk (crd ch t)] :=
  tr1_eq ch (grid0.coords t)
theorem index2 (t : Fin (cfgA ch).N) : ((cfgA ch).win (2 : Fin 5)).index t = ![ch.e (crd ch t), 0, ch.fblk (crd ch t)] :=
  tr2_eq ch (grid0.coords t)
theorem index3 (t : Fin (cfgA ch).N) : ((cfgA ch).win (3 : Fin 5)).index t = ![ch.e (crd ch t), ch.fblk (crd ch t), 0] :=
  tr3_eq ch (grid0.coords t)

/-- A point's block of rows. -/
theorem iblk0_at (c : Dev nD) (t : Fin (cfgA ch).N) (h : t.val / 7 < ch.n) (p q : Fin 1024) (r : Fin 40960) (hr : r.val = 1024 * (t.val / 7) + p.val) :
    (iblk ch m ρ c (0 : Fin 5) t : S1024x1024.Idx → Elt F .bf16) (ix2 p q) = m ((c : Thread nD τ).loc main_arg2) (ix2 r q) := by
  unfold iblk
  rw [View.read_apply]
  show m (c.tc.loc main_arg2) _ = m (c.tc.loc main_arg2) _
  congr 1
  have hi := index0 ch t
  funext a
  apply Fin.ext
  match a with
  | ⟨0, _⟩ =>
    show ((cfgA ch).win (0 : Fin 5)).index t (0 : Fin 2) * 1024 + 1 * p.val = r.val
    rw [hi]
    show min (t.val / 7) (ch.n - 1) * 1024 + 1 * p.val = r.val
    omega
  | ⟨1, _⟩ =>
    show ((cfgA ch).win (0 : Fin 5)).index t (1 : Fin 2) * 1024 + 1 * q.val = q.val
    rw [hi]
    show 0 * 1024 + 1 * q.val = q.val
    omega

theorem iblk1_at (c : Dev nD) (t : Fin (cfgA ch).N) (h : t.val / 7 < ch.n) (hd : t.val / 7 < 40) (p : Fin 1024) (q : Fin 512) (j : Fin 3584) (hj : j.val = 512 * (t.val % 7) + q.val) :
    (iblk ch m ρ c (1 : Fin 5) t : S1x1024x512.Idx → Elt F .f32) (ix3 0 p q) = m ((c : Thread nD τ).loc main_arg3) (ix3 (ch.eb (t.val / 7) hd) p j) := by
  unfold iblk
  rw [View.read_apply]
  show m (c.tc.loc main_arg3) _ = m (c.tc.loc main_arg3) _
  congr 1
  have hi := index1 ch t
  rw [e_crd ch t hd, fblk_crd ch t h] at hi
  funext a
  apply Fin.ext
  match a with
  | ⟨0, _⟩ =>
    show ((cfgA ch).win (1 : Fin 5)).index t (0 : Fin 3) * 1 + 1 * 0 = _
    rw [hi]
    show (ch.eb (t.val / 7) hd).val * 1 + 1 * 0 = (ch.eb (t.val / 7) hd).val
    omega
  | ⟨1, _⟩ =>
    show ((cfgA ch).win (1 : Fin 5)).index t (1 : Fin 3) * 1024 + 1 * p.val = p.val
    rw [hi]
    show 0 * 1024 + 1 * p.val = p.val
    omega
  | ⟨2, _⟩ =>
    show ((cfgA ch).win (1 : Fin 5)).index t (2 : Fin 3) * 512 + 1 * q.val = j.val
    rw [hi]
    show (t.val % 7) * 512 + 1 * q.val = j.val
    omega

theorem iblk2_at (c : Dev nD) (t : Fin (cfgA ch).N) (h : t.val / 7 < ch.n) (hd : t.val / 7 < 40) (p : Fin 1024) (q : Fin 512) (j : Fin 3584) (hj : j.val = 512 * (t.val % 7) + q.val) :
    (iblk ch m ρ c (2 : Fin 5) t : S1x1024x512.Idx → Elt F .f32) (ix3 0 p q) = m ((c : Thread nD τ).loc main_arg4) (ix3 (ch.eb (t.val / 7) hd) p j) := by
  unfold iblk
  rw [View.read_apply]
  show m (c.tc.loc main_arg4) _ = m (c.tc.loc main_arg4) _
  congr 1
  have hi := index2 ch t
  rw [e_crd ch t hd, fblk_crd ch t h] at hi
  funext a
  apply Fin.ext
  match a with
  | ⟨0, _⟩ =>
    show ((cfgA ch).win (2 : Fin 5)).index t (0 : Fin 3) * 1 + 1 * 0 = _
    rw [hi]
    show (ch.eb (t.val / 7) hd).val * 1 + 1 * 0 = (ch.eb (t.val / 7) hd).val
    omega
  | ⟨1, _⟩ =>
    show ((cfgA ch).win (2 : Fin 5)).index t (1 : Fin 3) * 1024 + 1 * p.val = p.val
    rw [hi]
    show 0 * 1024 + 1 * p.val = p.val
    omega
  | ⟨2, _⟩ =>
    show ((cfgA ch).win (2 : Fin 5)).index t (2 : Fin 3) * 512 + 1 * q.val = j.val
    rw [hi]
    show (t.val % 7) * 512 + 1 * q.val = j.val
    omega

theorem iblk3_at (c : Dev nD) (t : Fin (cfgA ch).N) (h : t.val / 7 < ch.n) (hd : t.val / 7 < 40) (q : Fin 512) (o : Fin 1024) (j : Fin 3584) (hj : j.val = 512 * (t.val % 7) + q.val) :
    (iblk ch m ρ c (3 : Fin 5) t : S1x512x1024.Idx → Elt F .f32) (ix3 0 q o) = m ((c : Thread nD τ).loc main_arg5) (ix3 (ch.eb (t.val / 7) hd) j o) := by
  unfold iblk
  rw [View.read_apply]
  show m (c.tc.loc main_arg5) _ = m (c.tc.loc main_arg5) _
  congr 1
  have hi := index3 ch t
  rw [e_crd ch t hd, fblk_crd ch t h] at hi
  funext a
  apply Fin.ext
  match a with
  | ⟨0, _⟩ =>
    show ((cfgA ch).win (3 : Fin 5)).index t (0 : Fin 3) * 1 + 1 * 0 = _
    rw [hi]
    show (ch.eb (t.val / 7) hd).val * 1 + 1 * 0 = (ch.eb (t.val / 7) hd).val
    omega
  | ⟨1, _⟩ =>
    show ((cfgA ch).win (3 : Fin 5)).index t (1 : Fin 3) * 512 + 1 * q.val = j.val
    rw [hi]
    show (t.val % 7) * 512 + 1 * q.val = j.val
    omega
  | ⟨2, _⟩ =>
    show ((cfgA ch).win (3 : Fin 5)).index t (2 : Fin 3) * 1024 + 1 * o.val = o.val
    rw [hi]
    show 0 * 1024 + 1 * o.val = o.val
    omega

/-! ## The trajectory, one point at a time -/

theorem traj_A (c : Dev nD) (t : Fin (cfgA ch).N) (h0 : t.val / 7 < ch.n) (h1 : t.val % 7 = 0) :
    (traj0 ch m ρ c t.val t.isLt).2 = k0_pay2 (iblk ch m ρ c (0 : Fin 5) t) (iblk ch m ρ c (1 : Fin 5) t) (iblk ch m ρ c (2 : Fin 5) t) k0_pay1 (iblk ch m ρ c (3 : Fin 5) t) := by
  rw [traj0_eq, step0_A ch m ρ c t _ ((P0_0_iff ch t).mpr h0) ((P0_1_iff ch t).mpr h1)]
  dsimp only
  rw [scratch_A]

theorem traj_B (c : Dev nD) (t : Fin (cfgA ch).N) (h0 : t.val / 7 < ch.n) (h1 : t.val % 7 ≠ 0) :
    (traj0 ch m ρ c t.val t.isLt).2 = k0_pay2 (iblk ch m ρ c (0 : Fin 5) t) (iblk ch m ρ c (1 : Fin 5) t) (iblk ch m ρ c (2 : Fin 5) t) (prev0 ch m ρ c t).2 (iblk ch m ρ c (3 : Fin 5) t) := by
  rw [traj0_eq]
  by_cases h2 : t.val % 7 = 6
  · rw [step0_C ch m ρ c t _ ((P0_0_iff ch t).mpr h0) (fun h => h1 ((P0_1_iff ch t).mp h)) ((P0_2_iff ch t).mpr h2)]
    dsimp only
    rw [scratch_C]
  · rw [step0_B ch m ρ c t _ ((P0_0_iff ch t).mpr h0) (fun h => h1 ((P0_1_iff ch t).mp h)) (fun h => h2 ((P0_2_iff ch t).mp h))]
    dsimp only
    rw [scratch_B]

theorem traj_C (c : Dev nD) (t : Fin (cfgA ch).N) (h0 : t.val / 7 < ch.n) (h2 : t.val % 7 = 6) :
    (traj0 ch m ρ c t.val t.isLt).1 = k0_pay3 (traj0 ch m ρ c t.val t.isLt).2 := by
  rw [traj_B ch m ρ c t h0 (by omega), traj0_eq]
  rw [step0_C ch m ρ c t _ ((P0_0_iff ch t).mpr h0) (fun h => absurd ((P0_1_iff ch t).mp h) (by omega)) ((P0_2_iff ch t).mpr h2)]
  dsimp only
  rw [output_C]

theorem traj_D (c : Dev nD) (t : Fin (cfgA ch).N) (h0 : ¬ t.val / 7 < ch.n) :
    (traj0 ch m ρ c t.val t.isLt).1 = (prev0 ch m ρ c t).1 := by
  rw [traj0_eq, step0_D ch m ρ c t _ (fun h => h0 ((P0_0_iff ch t).mp h))]
  have hf : (cfgA ch).fresh (4 : Fin 5) t.val = false := by
    rw [freshF0_4]
    have hN := N_eq ch
    have ht := t.isLt
    unfold frTab
    rw [decide_eq_false_iff_not]
    omega
  show (if (cfgA ch).fresh (4 : Fin 5) t.val then junk4 else (prev0 ch m ρ c t).1) = _
  rw [hf]; rfl

end Blocks

section Reals

variable (ch : Tables Ideal) (m : (ℓ : Loc nD τ sig) → Buf (Elt Ideal) ℓ) (ρ : Dev nD → PrngReg)

/-- The sum the kernel's output holds on row `r` of block `d`, the first `f` slices of it. -/
def accAtBlk (c : Dev nD) (d : ℕ) (hd : d < 40) (r : Fin 40960) (o : Fin 1024) (f : ℕ) : EReal :=
  slices (m ((c : Thread nD τ).loc main_arg2)) (m ((c : Thread nD τ).loc main_arg3)) (m ((c : Thread nD τ).loc main_arg4))
    (m ((c : Thread nD τ).loc main_arg5)) r (ch.eb d hd) o f

/-- One slice, read off the point's blocks. -/
theorem slice_eq (c : Dev nD) (t : Fin (cfgA ch).N) (h : t.val / 7 < ch.n) (hd : t.val / 7 < 40) (p o : Fin 1024) (r : Fin 40960)
    (hr : r.val = 1024 * (t.val / 7) + p.val) (acc : Vec Ideal S1024x1024 .f32) :
    k0_pay2 (F := Ideal) (iblk ch m ρ c (0 : Fin 5) t) (iblk ch m ρ c (1 : Fin 5) t) (iblk ch m ρ c (2 : Fin 5) t) acc (iblk ch m ρ c (3 : Fin 5) t) (ix2 p o)
      = acc (ix2 p o) + ∑ j : Fin 512, term (m ((c : Thread nD τ).loc main_arg2)) (m ((c : Thread nD τ).loc main_arg3)) (m ((c : Thread nD τ).loc main_arg4))
        (m ((c : Thread nD τ).loc main_arg5)) r (ch.eb (t.val / 7) hd) o (512 * (t.val % 7) + j.val) := by
  have h7 : t.val % 7 < 7 := Nat.mod_lt _ (by decide)
  exact pay2_slice _ _ _ _ _ _ _ _ _ p o r (ch.eb (t.val / 7) hd) (t.val % 7) h7
    (fun k => iblk0_at ch m ρ c t h p k r hr) (fun k j hj => iblk1_at ch m ρ c t h hd k j ⟨_, hj⟩ rfl)
    (fun k j hj => iblk2_at ch m ρ c t h hd k j ⟨_, hj⟩ rfl) (fun j hj => iblk3_at ch m ρ c t h hd j o ⟨_, hj⟩ rfl)

/-- The accumulator after a point of a block in use: the slices so far. -/
theorem acc_eq (c : Dev nD) : ∀ (n : ℕ) (hn : n < (cfgA ch).N) (h : n / 7 < ch.n) (hd : n / 7 < 40) (p o : Fin 1024) (r : Fin 40960)
    (_ : r.val = 1024 * (n / 7) + p.val), (traj0 ch m ρ c n hn).2 (ix2 p o) = accAtBlk ch m c (n / 7) hd r o (n % 7 + 1) := by
  intro n
  induction n with
  | zero =>
    intro hn h hd p o r hr
    refine (congrFun (traj_A ch m ρ c ⟨0, hn⟩ h rfl) (ix2 p o)).trans ?_
    refine (slice_eq ch m ρ c ⟨0, hn⟩ h hd p o r hr _).trans ?_
    unfold accAtBlk
    rw [slices_succ, show (0 % 7 : ℕ) = 0 from rfl, slices_zero, pay1_apply]
  | succ n ih =>
    intro hn h hd p o r hr
    by_cases h1 : (n + 1) % 7 = 0
    · refine (congrFun (traj_A ch m ρ c ⟨n + 1, hn⟩ h h1) (ix2 p o)).trans ?_
      refine (slice_eq ch m ρ c ⟨n + 1, hn⟩ h hd p o r hr _).trans ?_
      unfold accAtBlk
      rw [slices_succ, show ((⟨n + 1, hn⟩ : Fin (cfgA ch).N).val % 7 : ℕ) = 0 from h1, slices_zero, pay1_apply]
    · refine (congrFun (traj_B ch m ρ c ⟨n + 1, hn⟩ h h1) (ix2 p o)).trans ?_
      refine (slice_eq ch m ρ c ⟨n + 1, hn⟩ h hd p o r hr _).trans ?_
      have hq : n / 7 = (n + 1) / 7 := by omega
      have hm : n % 7 + 1 = (n + 1) % 7 := by omega
      have hp : prev0 ch m ρ c ⟨n + 1, hn⟩ = traj0 ch m ρ c n (Nat.lt_of_succ_lt hn) := by
        unfold prev0; exact dif_neg (Nat.succ_ne_zero n)
      rw [hp, ih (Nat.lt_of_succ_lt hn) (by omega) (by omega) p o r (by omega)]
      unfold accAtBlk
      rw [slices_succ _ _ _ _ _ _ _ ((n + 1) % 7), hm]
      simp only [hq]

/-- The output's buffer, from the last slice of a block on: the block's rows. -/
theorem out_eq (c : Dev nD) : ∀ (n : ℕ) (hn : n < (cfgA ch).N) (d : ℕ) (hd : d < 40) (hdn : d < ch.n)
    (_ : n = 7 * d + 6 ∨ (d + 1 = ch.n ∧ 7 * d + 6 ≤ n)) (p o : Fin 1024) (r : Fin 40960)
    (_ : r.val = 1024 * d + p.val), (traj0 ch m ρ c n hn).1 (ix2 p o) = accAtBlk ch m c d hd r o 7 := by
  have base : ∀ (n : ℕ) (hn : n < (cfgA ch).N) (d : ℕ) (hd : d < 40) (hdn : d < ch.n) (_ : n = 7 * d + 6) (p o : Fin 1024) (r : Fin 40960)
      (_ : r.val = 1024 * d + p.val), (traj0 ch m ρ c n hn).1 (ix2 p o) = accAtBlk ch m c d hd r o 7 := by
    intro n hn d hd hdn he p o r hr
    have h0 : n / 7 = d := by omega
    have h6 : n % 7 = 6 := by omega
    subst h0
    refine (congrFun (traj_C ch m ρ c ⟨n, hn⟩ hdn h6) (ix2 p o)).trans ?_
    refine (pay3_apply _ (ix2 p o)).trans ?_
    refine (acc_eq ch m ρ c n hn hdn hd p o r hr).trans ?_
    rw [h6]
  intro n
  induction n with
  | zero =>
    intro hn d hd hdn ho p o r hr
    exact base 0 hn d hd hdn (by omega) p o r hr
  | succ n ih =>
    intro hn d hd hdn ho p o r hr
    by_cases he : n + 1 = 7 * d + 6
    · exact base (n + 1) hn d hd hdn he p o r hr
    · have hp : prev0 ch m ρ c ⟨n + 1, hn⟩ = traj0 ch m ρ c n (Nat.lt_of_succ_lt hn) := by
        unfold prev0; exact dif_neg (Nat.succ_ne_zero n)
      refine (congrFun (traj_D ch m ρ c ⟨n + 1, hn⟩ (by show ¬ (n + 1) / 7 < ch.n; omega)) (ix2 p o)).trans ?_
      rw [hp]
      exact ih (Nat.lt_of_succ_lt hn) d hd hdn (by omega) p o r hr

/-- What the run leaves in the output's array at a row of a block in use. -/
def Holds (c : Dev nD) (i : S40960x1024.Idx) (v : EReal) : Prop :=
  ∀ hd : (i 0).val / 1024 < 40, v = accAtBlk ch m c ((i 0).val / 1024) hd (i 0) (i 1) 7

theorem flushed4 (c : Dev nD) (t : Fin (cfgA ch).N) (hf : ((cfgA ch).win (4 : Fin 5)).flush t = true)
    (y : (((cfgA ch).win (4 : Fin 5)).xblock ((cfgA ch).grid.coords t)).Idx) :
    Holds ch m c ((((cfgA ch).win (4 : Fin 5)).blk t).view.emb y) ((dats ch m ρ 0 c).flushed (4 : Fin 5) t y) := by
  intro hd
  have hN := N_eq ch
  have ht := t.isLt
  have hpos := ch.n_pos
  have hle := ch.n_le
  rw [flush4, decide_eq_true_eq] at hf
  have hi := index4 ch t
  have y0 : (y 0).val < 1024 := (y 0).isLt
  have r0 : (((((cfgA ch).win (4 : Fin 5)).blk t).view.emb y : S40960x1024.Idx) 0).val = min (t.val / 7) (ch.n - 1) * 1024 + (y 0).val := by
    show ((cfgA ch).win (4 : Fin 5)).index t (0 : Fin 2) * 1024 + 1 * (y 0).val = _
    rw [hi]
    show min (t.val / 7) (ch.n - 1) * 1024 + 1 * (y 0).val = _
    omega
  have r1 : (((((cfgA ch).win (4 : Fin 5)).blk t).view.emb y : S40960x1024.Idx) 1) = (y 1 : Fin 1024) := by
    apply Fin.ext
    show ((cfgA ch).win (4 : Fin 5)).index t (1 : Fin 2) * 1024 + 1 * (y 1).val = (y 1).val
    rw [hi]
    show 0 * 1024 + 1 * (y 1).val = (y 1).val
    omega
  have hdd : (((((cfgA ch).win (4 : Fin 5)).blk t).view.emb y : S40960x1024.Idx) 0).val / 1024 = min (t.val / 7) (ch.n - 1) := by
    rw [r0]; omega
  have key := out_eq ch m ρ c t.val t.isLt ((((((cfgA ch).win (4 : Fin 5)).blk t).view.emb y : S40960x1024.Idx) 0).val / 1024) hd (by omega) (by omega)
    (y 0) (y 1) (((((cfgA ch).win (4 : Fin 5)).blk t).view.emb y : S40960x1024.Idx) 0) (by show _ = _ + (y 0).val; omega)
  have hy : (y : S1024x1024.Idx) = ix2 (y 0) (y 1) := by
    funext a
    match a with
    | ⟨0, _⟩ => rfl
    | ⟨1, _⟩ => rfl
  refine (congrArg (traj0 ch m ρ c t.val t.isLt).1 hy).trans (key.trans ?_)
  exact congrArg (fun o : Fin 1024 => accAtBlk ch m c _ hd _ o 7) r1.symm

theorem mem_blk4 (t : Fin (cfgA ch).N) (i : S40960x1024.Idx) :
    i ∈ (((cfgA ch).win (4 : Fin 5)).blk t).view.set ↔ ∀ a : Fin 2, ((cfgA ch).win (4 : Fin 5)).index t a * S1024x1024.size a ≤ (i a).val
      ∧ (i a).val < ((cfgA ch).win (4 : Fin 5)).index t a * S1024x1024.size a + S1024x1024.size a := by
  show i ∈ ((View.whole main_v0).slice (((cfgA ch).win (4 : Fin 5)).rect t)).set ↔ _
  rw [View.set_slice_whole, Rect.mem_set_unit]
  exact Iff.rfl

/-- THE OUTPUT on the rows of the blocks in use. -/
theorem final4 (c : Dev nD) (i : S40960x1024.Idx) (hu : (i 0).val < 1024 * ch.n) :
    Holds ch m c i ((dats ch m ρ 0 c).arrAt (4 : Fin 5) (cfgA ch).N i) := by
  have hN := N_eq ch
  have hpos := ch.n_pos
  have hle := ch.n_le
  obtain ⟨t, hf, hi⟩ : ∃ t : Fin (cfgA ch).N, ((cfgA ch).win (4 : Fin 5)).flush t = true ∧ i ∈ (((cfgA ch).win (4 : Fin 5)).blk t).view.set := by
    have i1 : (i 1).val < 1024 := (i 1).isLt
    by_cases hl : (i 0).val / 1024 + 1 = ch.n
    · refine ⟨⟨279, by omega⟩, ?_, ?_⟩
      · rw [flush4]; exact decide_eq_true (Or.inl rfl)
      · rw [mem_blk4, index4]
        intro a
        match a with
        | ⟨0, _⟩ =>
          show min (279 / 7) (ch.n - 1) * 1024 ≤ (i 0).val ∧ (i 0).val < min (279 / 7) (ch.n - 1) * 1024 + 1024
          omega
        | ⟨1, _⟩ =>
          show 0 * 1024 ≤ (i 1).val ∧ (i 1).val < 0 * 1024 + 1024
          omega
    · refine ⟨⟨7 * ((i 0).val / 1024) + 6, by omega⟩, ?_, ?_⟩
      · rw [flush4]; exact decide_eq_true (Or.inr (by show (7 * ((i 0).val / 1024) + 6) % 7 = 6 ∧ (7 * ((i 0).val / 1024) + 6) / 7 + 1 < ch.n; omega))
      · rw [mem_blk4, index4]
        intro a
        match a with
        | ⟨0, _⟩ =>
          show min ((7 * ((i 0).val / 1024) + 6) / 7) (ch.n - 1) * 1024 ≤ (i 0).val ∧ (i 0).val < min ((7 * ((i 0).val / 1024) + 6) / 7) (ch.n - 1) * 1024 + 1024
          omega
        | ⟨1, _⟩ =>
          show 0 * 1024 ≤ (i 1).val ∧ (i 1).val < 0 * 1024 + 1024
          omega
  exact (dats ch m ρ 0 c).arrAt_forall_of_flushed (4 : Fin 5) (fun i v => Holds ch m c i v) (fun t hf y => flushed4 ch m ρ c t hf y)
    (cfgA ch).N t i t.isLt hf hi

end Reals

end Cert.Experts

end
-- ==== Proof.Experts.Algebraic.lean ====
/- The experts' value claim: the plain reference read at an index is the same sum as the kernel's seven slices, and the rows the
   claim looks at are rows of blocks in use. -/
module

public import proofs.«01_k».proof.Proof.Experts.Value
public import proofs.«01_k».proof.Proof.Experts.Pre
public import proofs.«01_k».proof.Proof.Gen.ReferenceIdeal.Run
public import proofs.«01_k».proof.Proof.Gen.ReferenceIdeal.Read
public import proofs.«01_k».proof.Proof.Gen.On_used_rows
public import Idealize.ShloMosaic.Lib.IdealHost

@[expose] public section

set_option maxRecDepth 16384
set_option Elab.async false

noncomputable section

namespace Cert.Experts

open Idealize.ShloMosaic
open Idealize.ShloMosaic.TcCoe
open Idealize.SL.Sem
open Cert.ReferenceIdeal.Read

/-! ## The reference at an index -/

/-- The reference's hidden unit. -/
theorem ref_hid (x2 : Rows) (x3 x4 : Up) (r : Fin 40960) (e : Fin 8) (j : Fin 3584) :
    val_main_v8 (F := Ideal) x2 x3 x4 (ix3 r e j) = hid x2 x3 x4 r e j := by
  have h3 : val_main_v3 (F := Ideal) x2 x3 (ix3 r e j) = ∑ k : Fin 1024, x2 (ix2 r k) * x3 (ix3 e k j) := by
    rw [val_main_v3_apply]
    refine Finset.sum_congr rfl fun k _ => ?_
    rw [val_main_v2_apply, Ideal.truncf_def]
    refine congrArg₂ (fun a b : EReal => a * b) (congrArg x2 ?_) (congrArg x3 ?_)
    · funext a; match a with
      | ⟨0, _⟩ => rfl
      | ⟨1, _⟩ => rfl
    · funext a; match a with
      | ⟨0, _⟩ => rfl
      | ⟨1, _⟩ => rfl
      | ⟨2, _⟩ => rfl
  have h5 : val_main_v5 (F := Ideal) x2 x4 (ix3 r e j) = ∑ k : Fin 1024, x2 (ix2 r k) * x4 (ix3 e k j) := by
    rw [val_main_v5_apply]
    refine Finset.sum_congr rfl fun k _ => ?_
    rw [val_main_v4_apply, Ideal.truncf_def]
    refine congrArg₂ (fun a b : EReal => a * b) (congrArg x2 ?_) (congrArg x4 ?_)
    · funext a; match a with
      | ⟨0, _⟩ => rfl
      | ⟨1, _⟩ => rfl
    · funext a; match a with
      | ⟨0, _⟩ => rfl
      | ⟨1, _⟩ => rfl
      | ⟨2, _⟩ => rfl
  rw [val_main_v8_apply, Ideal.truncf_def, val_main_v7_apply, Ideal.mulf_def, val_main_v6_apply, Ideal.mulf_def, val_main_call0_v5_apply,
    Ideal.hostDivf_def, val_main_call0_v4_apply, val_main_call0_cst_0_apply, val_main_call0_v3_apply, Ideal.addf_def, val_main_call0_v2_apply,
    val_main_call0_cst_apply, val_main_call0_v1_apply, Ideal.hostUnary_exp_def, val_main_call0_v0_apply, Ideal.hostNegf_def, h3, h5]
  show _ * Ideal.div (Ideal.ofBits .f32 0x3F800000#32) (Ideal.ofBits .f32 0x3F800000#32 + _) * _ = _
  rw [Ideal.ofBits_one_f32]
  rfl

/-- Each expert's product of the reference. -/
theorem ref_down (x2 : Rows) (x3 x4 : Up) (x5 : Down) (r : Fin 40960) (e : Fin 8) (o : Fin 1024) :
    val_main_v10 (F := Ideal) x2 x3 x4 x5 (ix3 e r o) = slices x2 x3 x4 x5 r e o 7 := by
  rw [slices_seven, val_main_v10_apply]
  refine Finset.sum_congr rfl fun j _ => ?_
  rw [val_main_v9_apply, Ideal.truncf_def, ← ref_hid]
  refine congrArg₂ (fun a b : EReal => a * b) (congrArg _ ?_) (congrArg x5 ?_)
  · funext a; match a with
    | ⟨0, _⟩ => rfl
    | ⟨1, _⟩ => rfl
    | ⟨2, _⟩ => rfl
  · funext a; match a with
    | ⟨0, _⟩ => rfl
    | ⟨1, _⟩ => rfl
    | ⟨2, _⟩ => rfl

/-- Whether the reference keeps expert `e'` at row `r`: the row's block's expert is `e'`. -/
theorem ref_mask (x0 : Cert.KernelIdeal.S40.Idx → Elt Ideal .i32) (r : Fin 40960) (e' : Fin 8) (o : Fin 1024) (hd : r.val / 1024 < 40) :
    val_main_call1_v1 (F := Ideal) x0 (ix3 e' r o)
      = IntOp.cmpi .eq (x0 (fun a => match a with | ⟨0, _⟩ => ⟨r.val / 1024, hd⟩)) (BitVec.ofNat 32 e'.val) := by
  rw [val_main_call1_v1_apply, val_main_v16_apply, val_main_v14_apply, val_main_v11_apply, val_main_v1_apply, val_main_v0_apply,
    val_main_v15_apply, val_main_v13_apply, val_main_v12_apply]
  rfl

/-- THE REFERENCE at a row and a column: the row's expert's sum. -/
theorem ref_at (x0 : Cert.KernelIdeal.S40.Idx → Elt Ideal .i32) (x2 : Rows) (x3 x4 : Up) (x5 : Down) (r : Fin 40960) (e : Fin 8) (o : Fin 1024)
    (hd : r.val / 1024 < 40) (he : BitVec.toNat (x0 (fun a => match a with | ⟨0, _⟩ => ⟨r.val / 1024, hd⟩)) = e.val) :
    val_main_v19 (F := Ideal) x0 x2 x3 x4 x5 (ix2 r o) = slices x2 x3 x4 x5 r e o 7 := by
  have hx : ∀ k : Fin 8, idx_main_v18 (ix2 r o) k = ix3 k r o := fun k => by
    funext a; match a with
    | ⟨0, _⟩ => rfl
    | ⟨1, _⟩ => rfl
    | ⟨2, _⟩ => rfl
  rw [val_main_v19_apply, Ideal.truncf_def, val_main_v18_apply]
  have hz : val_main_cst_0 (F := Ideal) (Shape.Idx.first Cert.ReferenceIdeal.Gen.h_S_) = (0 : EReal) := Ideal.ofBits_zero_f32
  have hs : ∀ k : Fin 8, val_main_v17 (F := Ideal) x0 x2 x3 x4 x5 (idx_main_v18 (ix2 r o) k) = if k = e then slices x2 x3 x4 x5 r e o 7 else (0 : EReal) := by
    intro k
    rw [hx, val_main_v17_apply, ref_mask x0 r k o hd, ref_down]
    by_cases hk : k = e
    · subst hk
      have hw : x0 (fun a => match a with | ⟨0, _⟩ => ⟨r.val / 1024, hd⟩) = BitVec.ofNat 32 k.val := by
        apply BitVec.eq_of_toNat_eq
        rw [he, BitVec.toNat_ofNat]
        have := k.isLt
        omega
      rw [if_pos rfl, hw, show IntOp.cmpi .eq (BitVec.ofNat 32 k.val) (BitVec.ofNat 32 k.val) = 1#1 from IntOp.cmpi_eq.2 rfl]
      rfl
    · rw [if_neg hk]
      have hw : IntOp.cmpi .eq (x0 (fun a => match a with | ⟨0, _⟩ => ⟨r.val / 1024, hd⟩)) (BitVec.ofNat 32 k.val) = 0#1 := by
        refine (BitVec.eq_zero_or_eq_one _).resolve_right fun h => hk ?_
        have h' := IntOp.cmpi_eq.1 h
        apply Fin.ext
        rw [h', BitVec.toNat_ofNat] at he
        have := k.isLt
        omega
      rw [hw]
      exact Ideal.ofBits_zero_f32
  rw [hz, Finset.sum_congr rfl fun k _ => hs k, Finset.sum_ite_eq' Finset.univ e, if_pos (Finset.mem_univ e), zero_add]

/-! ## The rows the claim looks at -/

theorem rows_val : ∀ n : Fin 41, (IntOp.muli (BitVec.ofNat 32 n.val) 1024#32).toInt = 1024 * (n.val : ℤ) := by decide +kernel

theorem rows_used (a0 : IVec Cert.On_used_rows.S40 32) (a1 : IVec Cert.On_used_rows.S1 32) (a2 : FVec Ideal Cert.On_used_rows.S40960x1024 .bf16)
    (a3 a4 : FVec Ideal Cert.On_used_rows.S8x1024x3584 .f32) (a5 : FVec Ideal Cert.On_used_rows.S8x3584x1024 .f32) (n : ℕ) (hn : n ≤ 40)
    (h1 : ∀ x, a1 x = BitVec.ofNat 32 n) (i : Cert.On_used_rows.S40960x1024.Idx)
    (h : Cert.On_used_rows.fn (F := Ideal) a0 a1 a2 a3 a4 a5 i = 1#1) : (i 0).val < 1024 * n := by
  have e : Cert.On_used_rows.fn (F := Ideal) a0 a1 a2 a3 a4 a5 i = IntOp.cmpi .slt (BitVec.ofNat 32 (i 0).val) (IntOp.muli (BitVec.ofNat 32 n) 1024#32) := by
    unfold Cert.On_used_rows.fn
    pointwise
    rw [h1]
  rw [e] at h
  have h2 := IntOp.cmpi_slt.1 h
  have hi : (i 0).val < 40960 := (i 0).isLt
  rw [show (IntOp.muli (BitVec.ofNat 32 n) 1024#32).toInt = 1024 * (n : ℤ) from rows_val ⟨n, by omega⟩,
    BitVec.toInt_eq_toNat_cond, BitVec.toNat_ofNat] at h2
  split at h2 <;> omega

/-! ## The claim -/

/-- What both programs leave at the rows looked at. -/
def value (m : (ℓ : Loc Cert.KernelIdeal.nD Cert.KernelIdeal.τ Cert.KernelIdeal.sig) → Buf (Elt Ideal) ℓ) (c : Dev Cert.KernelIdeal.nD) :
    Cert.KernelIdeal.S40960x1024.Idx → Elt Ideal .bf16 :=
  val_main_v19 (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

/-- What the kernel leaves at a row of a block in use is the reference's value there. -/
theorem holds_value (ch : Tables Ideal) (m : (ℓ : Loc Cert.KernelIdeal.nD Cert.KernelIdeal.τ Cert.KernelIdeal.sig) → Buf (Elt Ideal) ℓ)
    (hp : Pinned ch m) (c : Dev Cert.KernelIdeal.nD) (i : Cert.KernelIdeal.S40960x1024.Idx) (v : EReal) (h : Holds ch m c i v) : v = value m c i := by
  have hd : (i 0).val / 1024 < 40 := by have hi : (i 0).val < 40960 := (i 0).isLt; omega
  refine (h hd).trans ?_
  unfold accAtBlk value
  have hi : i = ix2 (i 0 : Fin 40960) (i 1 : Fin 1024) := by
    funext a; match a with
    | ⟨0, _⟩ => rfl
    | ⟨1, _⟩ => rfl
  refine ((congrArg _ hi).trans (ref_at _ _ _ _ _ (i 0) (ch.eb ((i 0).val / 1024) hd) (i 1) hd ?_)).symm
  rw [hp.1 c]
  rfl

theorem algebraic : Cert.algebraic_KernelIdeal_ReferenceIdeal_on_used_rows := fun m g m' g' hpre hargs => by
  obtain ⟨ch, hp⟩ := exists_tables (F := Ideal) m hpre
  refine ⟨fun c => value m c, ?_, ?_⟩
  · refine (θ_run _ _ _).mono (fun r h c => ⟨fun i hi => ?_, (h.2 c)⟩) (θ_run_and (run_main ch m g hp) (unchanged ch m g hp))
    have hu := rows_used _ _ _ _ _ _ ch.n ch.n_le (fun x => (congrFun (hp.2 c) x).trans (ch.T1_eq x)) i hi
    refine holds_value ch m hp c i _ ?_
    have e := (h.1 c).1 (4 : Fin 5)
    exact (congrFun e i) ▸ final4 ch m g c i hu
  · refine (θ_run _ _ _).mono (fun r h c => ⟨fun i _ => ?_, (h c).2⟩) (Cert.ReferenceIdeal.Value.run (F := Ideal) m' g')
    obtain ⟨a0, -, a2, a3, a4, a5⟩ := hargs c
    have e := (h c).1
    rw [a0, a2, a3, a4, a5] at e
    exact congrFun (e.trans (val_main_v19_eq _ _ _ _ _)) i

end Cert.Experts

end
-- ==== Proof.Ffn.Stage.lean ====
/- What the dense channel mixer's body computes at a grid point: at the first half of the hidden axis the rows are normed and
   modulated and the accumulator is zero plus the half's product; at the second half the product is added and the gated sum stored. -/
module

public import proofs.«01_k».proof.Proof.Gen.FfnIdeal.Value
public import Idealize.ShloMosaic.Lib.Pipeline.Value
public import Idealize.ShloMosaic.Lib.Pointwise

@[expose] public section

set_option maxRecDepth 16384
set_option Elab.async false

noncomputable section

namespace Cert.MixFfn

open Cert.FfnIdeal Cert.FfnIdeal.Gen
open Idealize.ShloMosaic
open Idealize.ShloMosaic.TcCoe Idealize.ShloMosaic.Tactic
open Idealize.SL Idealize.SL.RA Idealize.SL.BI
open scoped Idealize.SL.BI
open Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A store through a whole view, last, leaves its payload. -/
theorem read_whole_store1 {sig : RefSig} {κ : Kind} {sp : Space} {S : Shape} {e : EltTy} (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  subst h
  funext y
  have hr := View.read_writes_cons_emb (v := v) (f := f) (Rect.whole S) w L y
  rw [Rect.emb_whole_apply] at hr
  exact hr

/-- A row of the modulation block. -/
def mrow (k : Fin 8) (x : Vec F S1x8x1024 .f32) : Vec F S1x1x1024 .f32 := fun y => x (ix3 0 k (y 2))

theorem ld_mrow (k : Fin 8) (inb : ∀ a, (![0, k.val, 0] : Fin 3 → ℕ) a + S1x1x1024.size a ≤ S1x8x1024.size a) (x : Vec F S1x8x1024 .f32) :
    View.ld x (Rect.unit (s := S1x8x1024) ![0, k.val, 0] S1x1x1024.size inb) = mrow k x := by
  funext y
  unfold mrow View.ld
  congr 1
  funext a
  apply Fin.ext
  have h0 : (y 0).val < 1 := (y 0).isLt
  have h1 : (y 1).val < 1 := (y 1).isLt
  match a with
  | ⟨0, _⟩ => show 0 + 1 * (y 0).val = 0; omega
  | ⟨1, _⟩ => show k.val + 1 * (y 1).val = k.val; omega
  | ⟨2, _⟩ => show 0 + 1 * (y 2).val = (y 2).val; omega

/-- The first half leaves the normed and modulated rows. -/
theorem rows_A (c : Dev nD) (i : grid0.Coords) (arg3 : Memref sig .tc .vmem S1x512x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1024x1408 .bf16) (harg6 : arg6.IsWhole) (arg7 : Memref sig .tc .vmem S1024x1408 .bf16) (harg7 : arg7.IsWhole) (arg8 : Memref sig .tc .vmem S1408x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S512x1024 .bf16) (harg11 : arg11.IsWhole) (arg12 : Memref sig .tc .vmem S512x1024 .f32) (harg12 : arg12.IsWhole) (hc0 : cond0_0 i) (hc1 : ¬cond0_1 i)
    (x0 : Vec F S1x512x1024 .f32) (x1 : Vec F S1x8x1024 .f32) (x2 : Vec F S1x1024 .f32) (x3 : Vec F S1024x1408 .bf16) (x4 : Vec F S1024x1408 .bf16) (x5 : Vec F S1408x1024 .bf16) (x6 : Vec F S1x1024 .f32) :
    sout0_A_0 c i arg3 harg3 arg4 harg4 arg5 harg5 arg6 harg6 arg7 harg7 arg8 harg8 arg9 harg9 arg10 harg10 arg11 harg11 arg12 harg12 hc0 hc1 x0 x1 x2 x3 x4 x5 x6 = k0_pay1 x0 x2 (mrow 3 x1) (mrow 4 x1) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_unit_zero (S := S512x1024) hz2]
  simp only [View.readAt_eq_ld, Memref.IsWhole.read_unread, View.ld_unit_zero (S := S512x1024) hz2, View.ld_unit_zero (S := S1x1024) hz2, View.ld_unit_zero (S := S1024x1408) hz2,
    View.ld_unit_zero (S := S1408x1024) hz2, View.ld_unit_zero (S := S1x512x1024) hz3]
  rw [← ld_mrow 3 inb_S1x8x1024_S1x1x1024_0_3_0, ← ld_mrow 4 inb_S1x8x1024_S1x1x1024_0_4_0]
  rfl

/-- The first half leaves zero plus its product. -/
theorem acc_A (c : Dev nD) (i : grid0.Coords) (arg3 : Memref sig .tc .vmem S1x512x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1024x1408 .bf16) (harg6 : arg6.IsWhole) (arg7 : Memref sig .tc .vmem S1024x1408 .bf16) (harg7 : arg7.IsWhole) (arg8 : Memref sig .tc .vmem S1408x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S512x1024 .bf16) (harg11 : arg11.IsWhole) (arg12 : Memref sig .tc .vmem S512x1024 .f32) (harg12 : arg12.IsWhole) (hc0 : cond0_0 i) (hc1 : ¬cond0_1 i)
    (x0 : Vec F S1x512x1024 .f32) (x1 : Vec F S1x8x1024 .f32) (x2 : Vec F S1x1024 .f32) (x3 : Vec F S1024x1408 .bf16) (x4 : Vec F S1024x1408 .bf16) (x5 : Vec F S1408x1024 .bf16) (x6 : Vec F S1x1024 .f32) :
    sout0_A_1 c i arg3 harg3 arg4 harg4 arg5 harg5 arg6 harg6 arg7 harg7 arg8 harg8 arg9 harg9 arg10 harg10 arg11 harg11 arg12 harg12 hc0 hc1 x0 x1 x2 x3 x4 x5 x6 = k0_pay3 (k0_pay1 x0 x2 (mrow 3 x1) (mrow 4 x1)) x3 x4 k0_pay2 x5 := by
  unfold sout0_A_1
  unfold kernelRun0_A
  dsimp only
  sl_unfold_words
  refine (read_whole_store1 _ _ hz2 _ _ _).trans ?_
  rw [View.readCov_unit_zero (S := S512x1024) _ hz2, View.readCov_unit_zero (S := S512x1024) _ hz2]
  simp only [View.readAt_eq_ld, Memref.IsWhole.read_unread, View.ld_unit_zero (S := S512x1024) hz2, View.ld_unit_zero (S := S1x1024) hz2, View.ld_unit_zero (S := S1024x1408) hz2,
    View.ld_unit_zero (S := S1408x1024) hz2, View.ld_unit_zero (S := S1x512x1024) hz3]
  rw [← ld_mrow 3 inb_S1x8x1024_S1x1x1024_0_3_0, ← ld_mrow 4 inb_S1x8x1024_S1x1x1024_0_4_0]
  rfl

/-- The second half stores the rows plus the gated sum. -/
theorem out_B (c : Dev nD) (i : grid0.Coords) (arg3 : Memref sig .tc .vmem S1x512x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1024x1408 .bf16) (harg6 : arg6.IsWhole) (arg7 : Memref sig .tc .vmem S1024x1408 .bf16) (harg7 : arg7.IsWhole) (arg8 : Memref sig .tc .vmem S1408x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S512x1024 .bf16) (harg11 : arg11.IsWhole) (arg12 : Memref sig .tc .vmem S512x1024 .f32) (harg12 : arg12.IsWhole) (hc0 : ¬cond0_0 i) (hc1 : cond0_1 i)
    (x0 : Vec F S1x512x1024 .f32) (x1 : Vec F S1x8x1024 .f32) (x2 : Vec F S1x1024 .f32) (x3 : Vec F S1024x1408 .bf16) (x4 : Vec F S1024x1408 .bf16) (x5 : Vec F S1408x1024 .bf16) (x6 : Vec F S1x1024 .f32) (xs0 : Vec F S512x1024 .bf16) (xs1 : Vec F S512x1024 .f32) :
    out0_B_7 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay4 x0 (mrow 5 x1) (k0_pay3 xs0 x3 x4 xs1 x5) := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero (S := S1x512x1024) hz3, View.readCov_unit_zero (S := S512x1024) _ hz2]
  simp only [View.readAt_eq_ld, Memref.IsWhole.read_unread, View.ld_unit_zero (S := S512x1024) hz2, View.ld_unit_zero (S := S1x1024) hz2, View.ld_unit_zero (S := S1024x1408) hz2,
    View.ld_unit_zero (S := S1408x1024) hz2, View.ld_unit_zero (S := S1x512x1024) hz3]
  rw [← ld_mrow 5 inb_S1x8x1024_S1x1x1024_0_5_0]
  rfl

end Cert.MixFfn

end
-- ==== Proof.Ffn.Value.lean ====
/- The dense channel mixer at the extended reals: the normed and modulated rows, the gated sum over the hidden axis in two halves,
   and the kernel's output at an index. -/
module

public import proofs.«01_k».proof.Proof.Ffn.Stage

@[expose] public section

set_option maxRecDepth 16384
set_option Elab.async false

noncomputable section

namespace Cert.MixFfn

open Cert.FfnIdeal Cert.FfnIdeal.Gen Cert.FfnIdeal.Value
open Idealize.ShloMosaic
open Idealize.ShloMosaic.TcCoe
open Idealize.SL.Sem

/-! ## The arrays -/

abbrev Stream := S2x8192x1024.Idx → Elt Ideal .f32
abbrev Mods := S2x6x1024.Idx → Elt Ideal .f32
abbrev Chan := S1024.Idx → Elt Ideal .f32
abbrev Up := S1024x2816.Idx → Elt Ideal .f32
abbrev Down := S2816x1024.Idx → Elt Ideal .f32

/-- The normed and modulated row at channel `k`. -/
def nrm (x : Stream) (md : Mods) (nw : Chan) (b : Fin 2) (t : Fin 8192) (k : Fin 1024) : EReal :=
  x (ix3 b t k) * Ideal.rsqrt (Ideal.div (∑ q : Fin 1024, x (ix3 b t q) * x (ix3 b t q)) (Ideal.ofBits FTy.f32 1149239296#32)
      + Ideal.ofBits FTy.f32 897988541#32) * nw (ix1 k) * (1 + md (ix3 b 4 k)) + md (ix3 b 3 k)

/-- The hidden unit `j`. -/
def hid (x : Stream) (md : Mods) (nw : Chan) (w1 w3 : Up) (b : Fin 2) (t : Fin 8192) (j : Fin 2816) : EReal :=
  (∑ k : Fin 1024, nrm x md nw b t k * w1 (ix2 k j)) * Ideal.logistic (∑ k : Fin 1024, nrm x md nw b t k * w1 (ix2 k j))
    * ∑ k : Fin 1024, nrm x md nw b t k * w3 (ix2 k j)

/-- What hidden unit `j` adds to output channel `o` (nothing past the axis). -/
def term (x : Stream) (md : Mods) (nw : Chan) (w1 w3 : Up) (w2 : Down) (b : Fin 2) (t : Fin 8192) (o : Fin 1024) (j : ℕ) : EReal :=
  if h : j < 2816 then hid x md nw w1 w3 b t ⟨j, h⟩ * w2 (ix2 ⟨j, h⟩ o) else 0

theorem halves (x : Stream) (md : Mods) (nw : Chan) (w1 w3 : Up) (w2 : Down) (b : Fin 2) (t : Fin 8192) (o : Fin 1024) :
    (0 + ∑ q : Fin 1408, term x md nw w1 w3 w2 b t o (1408 * 0 + q.val)) + ∑ q : Fin 1408, term x md nw w1 w3 w2 b t o (1408 * 1 + q.val)
      = ∑ j : Fin 2816, hid x md nw w1 w3 b t j * w2 (ix2 j o) := by
  have e : ∑ j : Fin 2816, hid x md nw w1 w3 b t j * w2 (ix2 j o) = ∑ j ∈ Finset.range (1408 + 1408), term x md nw w1 w3 w2 b t o j := by
    rw [show 1408 + 1408 = 2816 from rfl, Finset.sum_range]
    refine Finset.sum_congr rfl fun j _ => ?_
    unfold term
    rw [dif_pos j.isLt]
  rw [e, Finset.sum_range_add, Finset.sum_range (n := 1408), Finset.sum_range (n := 1408), zero_add]
  simp only [Nat.mul_zero, Nat.zero_add, Nat.mul_one]

/-! ## The payloads at an index -/

theorem pay1_at (xb : Vec Ideal S1x512x1024 .f32) (nb : Vec Ideal S1x1024 .f32) (mb : Vec Ideal S1x8x1024 .f32) (p : Fin 512) (k : Fin 1024) :
    k0_pay1 xb nb (mrow 3 mb) (mrow 4 mb) (ix2 p k) = xb (ix3 0 p k) * Ideal.rsqrt (Ideal.div (∑ q : Fin 1024, xb (ix3 0 p q) * xb (ix3 0 p q)) (Ideal.ofBits FTy.f32 1149239296#32)
      + Ideal.ofBits FTy.f32 897988541#32) * nb (ix2 0 k) * (1 + mb (ix3 0 4 k)) + mb (ix3 0 3 k) := by
  have e3 : mrow 3 mb (ix3 0 0 k) = mb (ix3 0 3 k) := rfl
  have e4 : mrow 4 mb (ix3 0 0 k) = mb (ix3 0 4 k) := rfl
  rw [← e3, ← e4]
  unfold k0_pay1
  pointwise

theorem pay2_at (p : Fin 512) (o : Fin 1024) : k0_pay2 (F := Ideal) (ix2 p o) = 0 := by
  unfold k0_pay2
  pointwise

theorem pay3_at (h : Vec Ideal S512x1024 .bf16) (a b : Vec Ideal S1024x1408 .bf16) (acc : Vec Ideal S512x1024 .f32) (d : Vec Ideal S1408x1024 .bf16) (p : Fin 512) (o : Fin 1024) :
    k0_pay3 h a b acc d (ix2 p o) = acc (ix2 p o) + ∑ q : Fin 1408,
      ((∑ k : Fin 1024, h (ix2 p k) * a (ix2 k q)) * Ideal.logistic (∑ k : Fin 1024, h (ix2 p k) * a (ix2 k q))
        * ∑ k : Fin 1024, h (ix2 p k) * b (ix2 k q)) * d (ix2 q o) := by
  unfold k0_pay3
  pointwise

theorem pay4_at (xb : Vec Ideal S1x512x1024 .f32) (mb : Vec Ideal S1x8x1024 .f32) (acc : Vec Ideal S512x1024 .f32) (p : Fin 512) (o : Fin 1024) :
    k0_pay4 xb (mrow 5 mb) acc (ix3 0 p o) = xb (ix3 0 p o) + mb (ix3 0 5 o) * acc (ix2 p o) := by
  have e5 : mrow 5 mb (ix3 0 0 o) = mb (ix3 0 5 o) := rfl
  rw [← e5]
  unfold k0_pay4
  pointwise

/-! ## The kernel's arrays as the grid finds them -/

variable (m : (ℓ : Loc nD τ sig) → Buf (Elt Ideal) ℓ)

abbrev aX (c : Dev nD) : Stream := m ((c : Thread nD τ).loc main_arg0)
abbrev aM (c : Dev nD) : Mods := m ((c : Thread nD τ).loc main_arg1)
abbrev aN (c : Dev nD) : Chan := m ((c : Thread nD τ).loc main_arg2)
abbrev a1 (c : Dev nD) : Up := m ((c : Thread nD τ).loc main_arg3)
abbrev a3 (c : Dev nD) : Up := m ((c : Thread nD τ).loc main_arg4)
abbrev a2 (c : Dev nD) : Down := m ((c : Thread nD τ).loc main_arg5)

theorem V_mods (c : Dev nD) : V m c main_v0 = pad S2x8x1024 ![0, 0, 0] ![0, 2, 0] ![0, 0, 0] (m ((c : Thread nD τ).loc main_arg1) : FVec Ideal S2x6x1024 .f32) (sitofp (F := Ideal) .f32 (constantI S_ 32 0#32)) pads_S2x6x1024_S2x8x1024_000_020_000 h_S_ := by
  unfold V
  simp only [hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results

theorem V_norm (c : Dev nD) : V m c main_v1 = broadcastInDim S1x1024 ![1] bcast_S1024_S1x1024_1 (m ((c : Thread nD τ).loc main_arg2)) := by
  unfold V
  simp only [hostOps0, hostOps0_1, hostOps0_2, List.flatten_cons, List.flatten_nil, List.append_nil, List.cons_append, List.nil_append]
  after_results

theorem V_w1 (c : Dev nD) : V m c main_v2 = (truncf .bf16 (m ((c : Thread nD τ).loc main_arg3) : FVec Ideal S1024x2816 .f32) bitsLt_bf16_f32 : FVec Ideal S1024x2816 .bf16) := by
  unfold V
  simp only [hostOps0, hostOps0_1, hostOps0_2, List.flatten_cons, List.flatten_nil, List.append_nil, List.cons_append, List.nil_append]
  after_results

theorem V_w3 (c : Dev nD) : V m c main_v3 = (truncf .bf16 (m ((c : Thread nD τ).loc main_arg4) : FVec Ideal S1024x2816 .f32) bitsLt_bf16_f32 : FVec Ideal S1024x2816 .bf16) := by
  unfold V
  simp only [hostOps0, hostOps0_1, hostOps0_2, List.flatten_cons, List.flatten_nil, List.append_nil, List.cons_append, List.nil_append]
  after_results

theorem V_w2 (c : Dev nD) : V m c main_v4 = (truncf .bf16 (m ((c : Thread nD τ).loc main_arg5) : FVec Ideal S2816x1024 .f32) bitsLt_bf16_f32 : FVec Ideal S2816x1024 .bf16) := by
  unfold V
  simp only [hostOps0, hostOps0_1, hostOps0_2, List.flatten_cons, List.flatten_nil, List.append_nil, List.cons_append, List.nil_append]
  after_results

theorem mods_at (x : FVec Ideal S2x6x1024 .f32) (b : Fin 2) (k : Fin 1024) :
    let y : FVec Ideal S2x8x1024 .f32 := pad S2x8x1024 ![0, 0, 0] ![0, 2, 0] ![0, 0, 0] x (sitofp (F := Ideal) .f32 (constantI S_ 32 0#32)) pads_S2x6x1024_S2x8x1024_000_020_000 h_S_
    y (ix3 b 3 k) = x (ix3 b 3 k) ∧ y (ix3 b 4 k) = x (ix3 b 4 k) ∧ y (ix3 b 5 k) = x (ix3 b 5 k) := by
  refine ⟨?_, ?_, ?_⟩
  · pointwise
  · pointwise
  · pointwise

theorem idx0 : ∀ t : Fin cfg0.N, win0_0.index t = ![t.val / 32, t.val / 2 % 16, 0] := (by decide +kernel : ∀ t : Fin grid0.N, _)
theorem idx1 : ∀ t : Fin cfg0.N, win0_1.index t = ![t.val / 32, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, t.val % 2] := (by decide +kernel : ∀ t : Fin grid0.N, _)
theorem idx4 : ∀ t : Fin cfg0.N, win0_4.index t = ![0, t.val % 2] := (by decide +kernel : ∀ t : Fin grid0.N, _)
theorem idx5 : ∀ t : Fin cfg0.N, win0_5.index t = ![t.val % 2, 0] := (by decide +kernel : ∀ t : Fin grid0.N, _)

theorem blk_x (c : Dev nD) (t : Fin cfg0.N) (p : Fin 512) (k : Fin 1024) (b : Fin 2) (r : Fin 8192) (hb : b.val = t.val / 32) (hr : r.val = 512 * (t.val / 2 % 16) + p.val) :
    (iblk m c 0 t : S1x512x1024.Idx → Elt Ideal .f32) (ix3 0 p k) = aX m c (ix3 b r k) := by
  unfold iblk
  rw [View.read_apply]
  show V m c main_arg0 _ = _
  rw [V_main_arg0]
  show m (c.tc.loc main_arg0) _ = m (c.tc.loc main_arg0) _
  congr 1
  have hi := idx0 t
  funext a
  apply Fin.ext
  match a with
  | ⟨0, _⟩ =>
    show win0_0.index t (0 : Fin 3) * 1 + 1 * 0 = b.val
    rw [hi]
    show t.val / 32 * 1 + 1 * 0 = b.val
    omega
  | ⟨1, _⟩ =>
    show win0_0.index t (1 : Fin 3) * 512 + 1 * p.val = r.val
    rw [hi]
    show t.val / 2 % 16 * 512 + 1 * p.val = r.val
    omega
  | ⟨2, _⟩ =>
    show win0_0.index t (2 : Fin 3) * 1024 + 1 * k.val = k.val
    rw [hi]
    show 0 * 1024 + 1 * k.val = k.val
    omega

theorem blk_m (c : Dev nD) (t : Fin cfg0.N) (q : Fin 8) (k : Fin 1024) (b : Fin 2) (hb : b.val = t.val / 32) :
    (iblk m c 1 t : S1x8x1024.Idx → Elt Ideal .f32) (ix3 0 q k)
      = (pad S2x8x1024 ![0, 0, 0] ![0, 2, 0] ![0, 0, 0] (aM m c) (sitofp (F := Ideal) .f32 (constantI S_ 32 0#32)) pads_S2x6x1024_S2x8x1024_000_020_000 h_S_ : FVec Ideal S2x8x1024 .f32) (ix3 b q k) := by
  unfold iblk
  rw [View.read_apply]
  show V m c main_v0 _ = _
  rw [V_mods]
  congr 1
  have hi := idx1 t
  funext a
  apply Fin.ext
  match a with
  | ⟨0, _⟩ =>
    show win0_1.index t (0 : Fin 3) * 1 + 1 * 0 = b.val
    rw [hi]
    show t.val / 32 * 1 + 1 * 0 = b.val
    omega
  | ⟨1, _⟩ =>
    show win0_1.index t (1 : Fin 3) * 8 + 1 * q.val = q.val
    rw [hi]
    show 0 * 8 + 1 * q.val = q.val
    omega
  | ⟨2, _⟩ =>
    show win0_1.index t (2 : Fin 3) * 1024 + 1 * k.val = k.val
    rw [hi]
    show 0 * 1024 + 1 * k.val = k.val
    omega

theorem norm_at (x : FVec Ideal S1024 .f32) (k : Fin 1024) : broadcastInDim S1x1024 ![1] bcast_S1024_S1x1024_1 x (ix2 0 k) = x (ix1 k) := by
  pointwise

theorem blk_n (c : Dev nD) (t : Fin cfg0.N) (k : Fin 1024) :
    (iblk m c 2 t : S1x1024.Idx → Elt Ideal .f32) (ix2 0 k) = aN m c (ix1 k) := by
  unfold iblk
  rw [View.read_apply]
  show V m c main_v1 _ = _
  rw [V_norm]
  refine Eq.trans ?_ (norm_at (aN m c) k)
  show broadcastInDim S1x1024 ![1] bcast_S1024_S1x1024_1 (aN m c) _ = _
  congr 1
  have hi := idx2 t
  funext a
  apply Fin.ext
  match a with
  | ⟨0, _⟩ =>
    show win0_2.index t (0 : Fin 2) * 1 + 1 * 0 = 0
    rw [hi]
    rfl
  | ⟨1, _⟩ =>
    show win0_2.index t (1 : Fin 2) * 1024 + 1 * k.val = k.val
    rw [hi]
    show 0 * 1024 + 1 * k.val = k.val
    omega

theorem blk_w1 (c : Dev nD) (t : Fin cfg0.N) (k : Fin 1024) (q : Fin 1408) (j : Fin 2816) (hj : j.val = 1408 * (t.val % 2) + q.val) :
    (iblk m c 3 t : S1024x1408.Idx → Elt Ideal .bf16) (ix2 k q) = a1 m c (ix2 k j) := by
  unfold iblk
  rw [View.read_apply]
  show V m c main_v2 _ = _
  rw [V_w1]
  show a1 m c _ = a1 m c _
  congr 1
  have hi := idx3 t
  funext a
  apply Fin.ext
  match a with
  | ⟨0, _⟩ =>
    show win0_3.index t (0 : Fin 2) * 1024 + 1 * k.val = k.val
    rw [hi]
    show 0 * 1024 + 1 * k.val = k.val
    omega
  | ⟨1, _⟩ =>
    show win0_3.index t (1 : Fin 2) * 1408 + 1 * q.val = j.val
    rw [hi]
    show t.val % 2 * 1408 + 1 * q.val = j.val
    omega

theorem blk_w3 (c : Dev nD) (t : Fin cfg0.N) (k : Fin 1024) (q : Fin 1408) (j : Fin 2816) (hj : j.val = 1408 * (t.val % 2) + q.val) :
    (iblk m c 4 t : S1024x1408.Idx → Elt Ideal .bf16) (ix2 k q) = a3 m c (ix2 k j) := by
  unfold iblk
  rw [View.read_apply]
  show V m c main_v3 _ = _
  rw [V_w3]
  show a3 m c _ = a3 m c _
  congr 1
  have hi := idx4 t
  funext a
  apply Fin.ext
  match a with
  | ⟨0, _⟩ =>
    show win0_4.index t (0 : Fin 2) * 1024 + 1 * k.val = k.val
    rw [hi]
    show 0 * 1024 + 1 * k.val = k.val
    omega
  | ⟨1, _⟩ =>
    show win0_4.index t (1 : Fin 2) * 1408 + 1 * q.val = j.val
    rw [hi]
    show t.val % 2 * 1408 + 1 * q.val = j.val
    omega

theorem blk_w2 (c : Dev nD) (t : Fin cfg0.N) (q : Fin 1408) (o : Fin 1024) (j : Fin 2816) (hj : j.val = 1408 * (t.val % 2) + q.val) :
    (iblk m c 5 t : S1408x1024.Idx → Elt Ideal .bf16) (ix2 q o) = a2 m c (ix2 j o) := by
  unfold iblk
  rw [View.read_apply]
  show V m c main_v4 _ = _
  rw [V_w2]
  show a2 m c _ = a2 m c _
  congr 1
  have hi := idx5 t
  funext a
  apply Fin.ext
  match a with
  | ⟨0, _⟩ =>
    show win0_5.index t (0 : Fin 2) * 1408 + 1 * q.val = j.val
    rw [hi]
    show t.val % 2 * 1408 + 1 * q.val = j.val
    omega
  | ⟨1, _⟩ =>
    show win0_5.index t (1 : Fin 2) * 1024 + 1 * o.val = o.val
    rw [hi]
    show 0 * 1024 + 1 * o.val = o.val
    omega

/-! ## Two points make a block of the output -/

/-- The rows the first half leaves, and the second reads. -/
abbrev rows (c : Dev nD) (t : Fin cfg0.N) : Vec Ideal S512x1024 .bf16 :=
  k0_pay1 (iblk m c 0 t) (iblk m c 2 t) (mrow 3 (iblk m c 1 t)) (mrow 4 (iblk m c 1 t))

theorem two_points (c : Dev nD) (t u : Fin cfg0.N) (h0 : t.val % 2 = 0) (hu : u.val = t.val + 1) :
    (outsAt0 m c u.val u.isLt).1
      = k0_pay4 (iblk m c 0 u) (mrow 5 (iblk m c 1 u)) (k0_pay3 (rows m c t) (iblk m c 3 u) (iblk m c 4 u)
          (k0_pay3 (rows m c t) (iblk m c 3 t) (iblk m c 4 t) (k0_pay2 (F := Ideal)) (iblk m c 5 t)) (iblk m c 5 u)) := by
  rw [outsAt0_B m c u (by omega) (by omega)]
  dsimp only
  rw [out_B]
  have e : outsAt0 m c (u.val - 1) (by have := u.isLt; omega) = outsAt0 m c t.val t.isLt := by congr 1; omega
  rw [e, outsAt0_A m c t h0 (by omega)]
  dsimp only
  rw [rows_A, acc_A]

theorem rows_at (c : Dev nD) (t : Fin cfg0.N) (p : Fin 512) (k : Fin 1024) (b : Fin 2) (r : Fin 8192) (hb : b.val = t.val / 32) (hr : r.val = 512 * (t.val / 2 % 16) + p.val) :
    rows m c t (ix2 p k) = nrm (aX m c) (aM m c) (aN m c) b r k := by
  refine (pay1_at _ _ _ p k).trans ?_
  have s := Finset.sum_congr (s₁ := Finset.univ) rfl fun q (_ : q ∈ (Finset.univ : Finset (Fin 1024))) => congrArg (fun a : EReal => a * a) (blk_x m c t p q b r hb hr)
  obtain ⟨g3, g4, -⟩ := mods_at (aM m c) b k
  have m3 := (blk_m m c t 3 k b hb).trans g3
  have m4 := (blk_m m c t 4 k b hb).trans g4
  unfold nrm
  exact congrArg₂ (fun a b : EReal => a + b) (congrArg₂ (fun a b : EReal => a * b) (congrArg₂ (fun a b : EReal => a * b) (congrArg₂ (fun a b : EReal => a * b) (blk_x m c t p k b r hb hr)
    (congrArg (fun a : EReal => Ideal.rsqrt (Ideal.div a (Ideal.ofBits FTy.f32 1149239296#32) + Ideal.ofBits FTy.f32 897988541#32)) s)) (blk_n m c t k))
    (congrArg (fun a : EReal => 1 + a) m4)) m3

theorem half_at (c : Dev nD) (t u : Fin cfg0.N) (acc : Vec Ideal S512x1024 .f32) (p : Fin 512) (o : Fin 1024) (b : Fin 2) (r : Fin 8192) (hb : b.val = t.val / 32) (hr : r.val = 512 * (t.val / 2 % 16) + p.val) :
    k0_pay3 (rows m c t) (iblk m c 3 u) (iblk m c 4 u) acc (iblk m c 5 u) (ix2 p o)
      = acc (ix2 p o) + ∑ q : Fin 1408, term (aX m c) (aM m c) (aN m c) (a1 m c) (a3 m c) (a2 m c) b r o (1408 * (u.val % 2) + q.val) := by
  refine (pay3_at _ _ _ _ _ p o).trans ?_
  refine congrArg (fun a : EReal => acc (ix2 p o) + a) (Finset.sum_congr rfl fun q _ => ?_)
  have hj : 1408 * (u.val % 2) + q.val < 2816 := by have := q.isLt; omega
  have s1 := Finset.sum_congr (s₁ := Finset.univ) rfl fun k (_ : k ∈ (Finset.univ : Finset (Fin 1024))) => congrArg₂ (fun a b : EReal => a * b) (rows_at m c t p k b r hb hr) (blk_w1 m c u k q ⟨_, hj⟩ rfl)
  have s3 := Finset.sum_congr (s₁ := Finset.univ) rfl fun k (_ : k ∈ (Finset.univ : Finset (Fin 1024))) => congrArg₂ (fun a b : EReal => a * b) (rows_at m c t p k b r hb hr) (blk_w3 m c u k q ⟨_, hj⟩ rfl)
  unfold term hid
  rw [dif_pos hj]
  exact congrArg₂ (fun a b : EReal => a * b) (congrArg₂ (fun a b : EReal => a * b) (congrArg (fun a : EReal => a * Ideal.logistic a) s1) s3) (blk_w2 m c u q o ⟨_, hj⟩ rfl)

/-- What both programs compute. -/
def result (x : Stream) (md : Mods) (nw : Chan) (w1 w3 : Up) (w2 : Down) (b : Fin 2) (r : Fin 8192) (o : Fin 1024) : EReal :=
  x (ix3 b r o) + md (ix3 b 5 o) * ∑ j : Fin 2816, hid x md nw w1 w3 b r j * w2 (ix2 j o)

/-- THE OUTPUT at an index. -/
theorem out_at (c : Dev nD) (b : Fin 2) (r : Fin 8192) (o : Fin 1024) :
    G7 m c (ix3 b r o) = result (aX m c) (aM m c) (aN m c) (a1 m c) (a3 m c) (a2 m c) b r o := by
  have hN : cfg0.N = 64 := N_0
  have hb := b.isLt
  have hr := r.isLt
  have hp : pt7Of (ix3 b r o) = 2 * (16 * b.val + r.val / 512) + 1 := by
    show 2 * (16 * (b.val / 1 - 0) + 1 * (r.val / 512 - 0) + 1 * (o.val / 1024 - 0)) + 1 = _
    have := o.isLt
    omega
  have hlt : pt7Of (ix3 b r o) < cfg0.N := by rw [hp, hN]; omega
  unfold G7
  rw [dif_pos hlt, ← outsAt0_sweep m c (pt7Of (ix3 b r o)) hlt]
  have hl : loc7Of (ix3 b r o) = ix3 (0 : Fin 1) (⟨r.val % 512, Nat.mod_lt _ (by decide)⟩ : Fin 512) o := by
    funext a
    apply Fin.ext
    match a with
    | ⟨0, _⟩ => show b.val % 1 = 0; omega
    | ⟨1, _⟩ => rfl
    | ⟨2, _⟩ => show o.val % 1024 = o.val; have := o.isLt; omega
  rw [hl]
  have ht : 2 * (16 * b.val + r.val / 512) < cfg0.N := by rw [hN]; omega
  refine (congrFun (two_points m c ⟨2 * (16 * b.val + r.val / 512), ht⟩ ⟨pt7Of (ix3 b r o), hlt⟩ (by show 2 * (16 * b.val + r.val / 512) % 2 = 0; omega) (by show pt7Of (ix3 b r o) = _; rw [hp])) _).trans ?_
  generalize htt : (⟨2 * (16 * b.val + r.val / 512), ht⟩ : Fin cfg0.N) = t
  generalize huu : (⟨pt7Of (ix3 b r o), hlt⟩ : Fin cfg0.N) = u
  have vt : t.val = 2 * (16 * b.val + r.val / 512) := by rw [← htt]
  have vu : u.val = 2 * (16 * b.val + r.val / 512) + 1 := by rw [← huu]; exact hp
  refine (pay4_at _ _ _ _ o).trans ?_
  have hb1 : b.val = t.val / 32 := by omega
  have hr1 : r.val = 512 * (t.val / 2 % 16) + r.val % 512 := by omega
  have hb2 : b.val = u.val / 32 := by omega
  have hr2 : r.val = 512 * (u.val / 2 % 16) + r.val % 512 := by omega
  obtain ⟨-, -, g5⟩ := mods_at (aM m c) b o
  unfold result
  refine congrArg₂ (fun a b : EReal => a + b) (blk_x m c u _ o b r hb2 hr2) (congrArg₂ (fun a b : EReal => a * b) ((blk_m m c u 5 o b hb2).trans g5) ?_)
  refine (half_at m c t u _ _ o b r hb1 hr1).trans ?_
  rw [half_at m c t t _ _ o b r hb1 hr1, pay2_at, show u.val % 2 = 1 by omega, show t.val % 2 = 0 by omega]
  exact halves _ _ _ _ _ _ b r o

end Cert.MixFfn

end
-- ==== Proof.Ffn.Algebraic.lean ====
/- The dense channel mixer's value claim: the plain reference read at an index is what the kernel's two halves add up to. -/
module

public import proofs.«01_k».proof.Proof.Ffn.Value
public import proofs.«01_k».proof.Defs
public import proofs.«01_k».proof.Proof.Gen.FfnRefIdeal.Run
public import proofs.«01_k».proof.Proof.Gen.FfnRefIdeal.Read
public import Idealize.ShloMosaic.Lib.IdealHost

@[expose] public section

set_option maxRecDepth 16384
set_option Elab.async false

noncomputable section

namespace Cert.MixFfn

open Idealize.ShloMosaic
open Idealize.ShloMosaic.TcCoe
open Idealize.SL.Sem
open Cert.FfnRefIdeal.Read

/-! ## The reference at an index -/

theorem ref_rows (x : Stream) (md : Mods) (nw : Chan) (b : Fin 2) (t : Fin 8192) (k : Fin 1024) :
    val_main_v21 (F := Ideal) x md nw (ix3 b t k) = nrm x md nw b t k := by
  unfold nrm val_main_v21 val_main_v20 val_main_v19 val_main_v18 val_main_v17 val_main_v16 val_main_cst_2 val_main_v15 val_main_v14 val_main_v13
    val_main_v12 val_main_v11 val_main_v10 val_main_v9 val_main_v8 val_main_cst_1 val_main_v7 val_main_v6 val_main_cst_0 val_main_v5 val_main_v4
    val_main_cst val_main_v3 val_main_v0 val_main_v1
  pointwise

theorem ref_at (x : Stream) (md : Mods) (nw : Chan) (w1 w3 : Up) (w2 : Down) (b : Fin 2) (t : Fin 8192) (o : Fin 1024) :
    val_main_v29 (F := Ideal) x md nw w1 w3 w2 (ix3 b t o) = result x md nw w1 w3 w2 b t o := by
  unfold result hid
  simp only [← ref_rows]
  unfold val_main_v29 val_main_v28 val_main_v27 val_main_v26 val_main_v25 val_main_v24 val_main_v23 val_main_call0_v5 val_main_call0_v4
    val_main_call0_cst_0 val_main_call0_v3 val_main_call0_v2 val_main_call0_cst val_main_call0_v1 val_main_call0_v0 val_main_v22 val_main_v2
  pointwise
  rfl

/-! ## The claim -/

theorem algebraic : Cert.algebraic_FfnIdeal_FfnRefIdeal := fun m g m' g' _ hargs => by
  refine ⟨fun c => val_main_v29 (F := Ideal) (aX m c) (aM m c) (aN m c) (a1 m c) (a3 m c) (a2 m c), ?_, ?_⟩
  · refine (θ_run _ _ _).mono (fun r h c => ⟨(h c).1.trans ?_, (h c).2⟩) (Cert.FfnIdeal.Value.run m g)
    funext i
    have hi : i = ix3 (i 0 : Fin 2) (i 1 : Fin 8192) (i 2 : Fin 1024) := by
      funext a; match a with
      | ⟨0, _⟩ => rfl
      | ⟨1, _⟩ => rfl
      | ⟨2, _⟩ => rfl
    rw [hi]
    exact (out_at m c _ _ _).trans (ref_at _ _ _ _ _ _ _ _ _).symm
  · refine (θ_run _ _ _).mono (fun r h c => ⟨?_, (h c).2⟩) (Cert.FfnRefIdeal.Value.run (F := Ideal) m' g')
    obtain ⟨e0, e1, e2, e3, e4, e5, -⟩ := hargs c
    have e := (h c).1.trans (val_main_v29_eq m' c)
    rw [e0, e1, e2, e3, e4, e5] at e
    exact e

end Cert.MixFfn

end
-- ==== Proof.Combine.Tables.lean ====
/- The combine's six prefetched tables: pair `k`'s tile, row block and expert, and whether it is its tile's first pair, its
   last, and in use. Every statement here holds of ALL tables whose pairs go through the tiles in order, those in use first;
   the pipeline's blocks and its conditions at a grid point are put in closed form over them. -/
module

public import proofs.«01_k».proof.Defs
public import proofs.«01_k».proof.Proof.Gen.CombineIdeal
public import proofs.«01_k».proof.Proof.Gen.CombineIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.FrameSuffix
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.MixCombine

open Cert.CombineIdeal Cert.CombineIdeal.Gen
open Idealize.ShloMosaic
open Idealize.ShloMosaic.TcCoe Idealize.ShloMosaic.Tactic
open Idealize.SL Idealize.SL.RA Idealize.SL.BI
open scoped Idealize.SL.BI
open Idealize.SL.Sem

/-- Entry `k`'s index. -/
def ixK (k : ℕ) (h : k < 208) : S208.Idx := fun a => ⟨k, by
  have ha : a = (0 : Fin 1) := Subsingleton.elim (α := Fin 1) _ _
  subst ha; exact h⟩

/-- Entry `k` of a table, as a number (zero past the end). -/
def ent (T : S208.Idx → BitVec 32) (k : ℕ) : ℕ := if h : k < 208 then (T (ixK k h)).toNat else 0

/-- The tables' contents: tiles, row blocks and experts in range; the pairs in the order of their tiles, those in use first,
    the first and the last pair in use of each tile marked (`F` is carried so that the pipeline at the tables knows its
    float type). -/
structure Tables (F : FTy → Type) where
  T0 : S208.Idx → BitVec 32
  T1 : S208.Idx → BitVec 32
  T2 : S208.Idx → BitVec 32
  T3 : S208.Idx → BitVec 32
  T4 : S208.Idx → BitVec 32
  T5 : S208.Idx → BitVec 32
  tj_lt : ∀ k, k < 208 → ent T0 k < 16
  td_lt : ∀ k, k < 208 → ent T1 k < 80
  te_lt : ∀ k, k < 208 → ent T2 k < 8
  tj_0 : ent T0 0 = 0
  tf_0 : ent T3 0 = 1
  tv_0 : ent T5 0 = 1
  tj_end : ent T0 207 = 15
  tl_end : ent T4 207 = 1 ↔ ent T5 207 = 1
  tj_step : ∀ k, k + 1 < 208 → ent T0 (k + 1) = ent T0 k ∨ ent T0 (k + 1) = ent T0 k + 1
  tv_step : ∀ k, k + 1 < 208 → ent T5 (k + 1) = 1 → ent T5 k = 1
  tv_stay : ∀ k, k + 1 < 208 → ent T5 (k + 1) ≠ 1 → ent T0 (k + 1) = ent T0 k
  tf_step : ∀ k, k + 1 < 208 → (ent T3 (k + 1) = 1 ↔ ent T0 (k + 1) = ent T0 k + 1)
  tl_step : ∀ k, k + 1 < 208 → (ent T4 k = 1 ↔ (ent T5 k = 1 ∧ ¬(ent T5 (k + 1) = 1 ∧ ent T0 (k + 1) = ent T0 k)))

variable {F : FTy → Type} [FloatOps F]

/-- Pair `k`'s tile, row block, expert, marks. -/
abbrev Tables.tj (ch : Tables F) (k : ℕ) : ℕ := ent ch.T0 k
abbrev Tables.td (ch : Tables F) (k : ℕ) : ℕ := ent ch.T1 k
abbrev Tables.te (ch : Tables F) (k : ℕ) : ℕ := ent ch.T2 k
abbrev Tables.tf (ch : Tables F) (k : ℕ) : ℕ := ent ch.T3 k
abbrev Tables.tl (ch : Tables F) (k : ℕ) : ℕ := ent ch.T4 k
abbrev Tables.tv (ch : Tables F) (k : ℕ) : ℕ := ent ch.T5 k

/-- The tables as the pipeline takes them. -/
def pfN (ch : Tables F) : pre0.Contents (Elt F) := fun
  | ⟨0, _⟩ => ch.T0 | ⟨1, _⟩ => ch.T1 | ⟨2, _⟩ => ch.T2 | ⟨3, _⟩ => ch.T3 | ⟨4, _⟩ => ch.T4 | ⟨5, _⟩ => ch.T5
  | ⟨_ + 6, h⟩ => absurd h (by simp)

/-- The tables and the scratch buffer the kernel is handed, whole. -/
abbrev tbM0_0 : Memref sig .tc .smem S208 .i32 := Memref.whole main_arg0
abbrev tbM0_1 : Memref sig .tc .smem S208 .i32 := Memref.whole main_arg1
abbrev tbM0_2 : Memref sig .tc .smem S208 .i32 := Memref.whole main_arg2
abbrev tbM0_3 : Memref sig .tc .smem S208 .i32 := Memref.whole main_arg3
abbrev tbM0_4 : Memref sig .tc .smem S208 .i32 := Memref.whole main_arg4
abbrev tbM0_5 : Memref sig .tc .smem S208 .i32 := Memref.whole main_arg5
abbrev scM0_0 : Memref sig .tc .vmem S1024x1024 .f32 := Memref.whole cc0_scratch0

/-! ## Words at a point, in closed form -/

theorem coords0 : ∀ t : Fin grid0.N, ((grid0.coords t) 0).val = t.val := by decide +kernel

/-- The index the one-word load at a point's offset reads. -/
theorem load_idx (i : grid0.Coords) (off : Fin 1 → ℕ) (hoff : off = ![(i 0).val]) (hin : ∀ a, off a + S1.size a ≤ S208.size a)
    (x : S1.Idx) : ((Rect.unit (s := S208) off S1.size hin).toLoadRect.idx x : S208.Idx) = ixK (i 0).val (i 0).isLt := by
  subst hoff
  funext a
  apply Fin.ext
  obtain rfl : a = (0 : Fin 1) := Subsingleton.elim (α := Fin 1) _ _
  have hx : (x 0).val < 1 := (x 0).isLt
  show (i 0).val + 1 * (x 0).val = (i 0).val
  omega

/-- The word at a point of a table, and as a number. -/
theorem word_at (T : S208.Idx → BitVec 32) (i : grid0.Coords) (k : ℕ) (hk : (i 0).val = k) :
    (T (ixK (i 0).val (i 0).isLt)).toNat = ent T k := by
  subst hk
  unfold ent
  rw [dif_pos (show (i 0).val < 208 from (i 0).isLt)]

theorem word_one (x : BitVec 32) : Scalar.cmpi .ne (Scalar.extui (Scalar.cmpi .eq x 1#32)) 0#32 = 1#1 ↔ x.toNat = 1 := by
  have h : (Scalar.cmpi .eq x 1#32 : BitVec 1) = if x = 1#32 then 1#1 else 0#1 := by
    show BitVec.ofBool _ = _
    by_cases hx : x = 1#32
    · subst hx; rfl
    · rw [if_neg hx]
      show BitVec.ofBool (x == 1#32) = _
      rw [beq_eq_false_iff_ne.mpr hx]; rfl
  rw [h]
  by_cases hx : x = 1#32
  · rw [if_pos hx, hx]; decide
  · rw [if_neg hx]
    refine iff_of_false (by decide) fun h => hx ?_
    apply BitVec.eq_of_toNat_eq; rw [h]; rfl

/-! ## The blocks' indices -/

theorem at_eq (pf : pre0.Contents (Elt F)) (i : grid0.Coords) (T : S208.Idx → BitVec 32)
    (hin : ∀ a, (![(Scalar.indexCast (BitVec.ofNat 32 (i 0).val) : Index).toNat] : Fin 1 → ℕ) a + S1.size a ≤ S208.size a) (x : S1.Idx) :
    (T ((Rect.unit (s := S208) ![(Scalar.indexCast (BitVec.ofNat 32 (i 0).val) : Index).toNat] S1.size hin).toLoadRect.idx x)).toNat
      = ent T (i 0).val :=
  (congrArg (fun z => (T z).toNat) (load_idx i _ (k0_off1_eq i) hin x)).trans (word_at T i _ rfl)

theorem tr0_eq (ch : Tables F) (i : grid0.Coords) :
    cc0_transform_0 k0_off1_inb numel1_S1 (pfN ch) i = ![ch.td (i 0).val, 0] := by
  have h := at_eq (pfN ch) i ch.T1 (k0_off1_inb i) (Shape.Idx.first (numel1_S1.symm ▸ Nat.one_pos))
  exact congrArg (fun n : ℕ => (![n, 0] : Fin 2 → ℕ)) h

theorem tr1_eq (ch : Tables F) (i : grid0.Coords) :
    cc0_transform_1 k0_off1_inb numel1_S1 (pfN ch) i = ![ch.tj (i 0).val, 0] := by
  have h := at_eq (pfN ch) i ch.T0 (k0_off1_inb i) (Shape.Idx.first (numel1_S1.symm ▸ Nat.one_pos))
  exact congrArg (fun n : ℕ => (![n, 0] : Fin 2 → ℕ)) h

theorem tr2_eq (ch : Tables F) (i : grid0.Coords) :
    cc0_transform_2 k0_off1_inb numel1_S1 (pfN ch) i = ![ch.tj (i 0).val, 0] := tr1_eq ch i
theorem tr3_eq (ch : Tables F) (i : grid0.Coords) :
    cc0_transform_3 k0_off1_inb numel1_S1 (pfN ch) i = ![ch.tj (i 0).val, 0] := tr1_eq ch i
theorem tr6_eq (ch : Tables F) (i : grid0.Coords) :
    cc0_transform_6 k0_off1_inb numel1_S1 (pfN ch) i = ![ch.tj (i 0).val, 0] := tr1_eq ch i

/-- The quotient of a tile below 16 by the eight tiles of a batch. -/
theorem div8 : ∀ v : Fin 16,
    (Scalar.select (Scalar.andi (Scalar.cmpi .ne (Scalar.subi (Scalar.extui (Scalar.cmpi .sgt (BitVec.ofNat 32 v.val) 0#32)) (Scalar.extui (Scalar.cmpi .slt (BitVec.ofNat 32 v.val) 0#32))) (Scalar.subi (Scalar.extui (Scalar.cmpi .sgt 8#32 0#32)) (Scalar.extui (Scalar.cmpi .slt 8#32 0#32)))) (Scalar.cmpi .ne (Scalar.remsi (BitVec.ofNat 32 v.val) 8#32) 0#32)) (Scalar.subi (Scalar.divsi (BitVec.ofNat 32 v.val) 8#32) 1#32) (Scalar.divsi (BitVec.ofNat 32 v.val) 8#32) : BitVec 32).toNat = v.val / 8 := by
  decide +kernel

theorem tr4_eq (ch : Tables F) (i : grid0.Coords) :
    cc0_transform_4 k0_off1_inb numel1_S1 (pfN ch) i = ![ch.tj (i 0).val / 8, 0, 0] := by
  have h := at_eq (pfN ch) i ch.T0 (k0_off1_inb i) (Shape.Idx.first (numel1_S1.symm ▸ Nat.one_pos))
  have hd := div8 ⟨ch.tj (i 0).val, ch.tj_lt _ (i 0).isLt⟩
  dsimp only at hd
  rw [show BitVec.ofNat 32 (ch.tj (i 0).val) = (pfN ch).at 0 (Rect.unit (s := S208) ![(Scalar.indexCast (BitVec.ofNat 32 (i 0).val) : Index).toNat] S1.size (k0_off1_inb i)) numel1_S1 from by
    rw [show ch.tj (i 0).val = _ from h.symm, BitVec.ofNat_toNat, BitVec.setWidth_eq]; rfl] at hd
  exact congrArg (fun n : ℕ => (![n, 0, 0] : Fin 3 → ℕ)) hd

/-! ## The pipeline's side condition -/

theorem inb0 (ch : Tables F) (i : grid0.Coords) (a : Fin 2) :
    (cc0_transform_0 k0_off1_inb numel1_S1 (pfN ch) i a + 1) * S512x1024.size a ≤ S40960x1024.size a := by
  rw [tr0_eq]
  have h := ch.td_lt (i 0).val (i 0).isLt
  fin_cases a
  · show (ch.td (i 0).val + 1) * 512 ≤ 40960
    unfold Tables.td; omega
  · show (0 + 1) * _ ≤ _; decide

theorem inb1 (ch : Tables F) (i : grid0.Coords) (a : Fin 2) :
    (cc0_transform_1 k0_off1_inb numel1_S1 (pfN ch) i a + 1) * S1024x8.size a ≤ S16384x8.size a := by
  rw [tr1_eq]
  have h := ch.tj_lt (i 0).val (i 0).isLt
  fin_cases a
  · show (ch.tj (i 0).val + 1) * 1024 ≤ 16384
    unfold Tables.tj; omega
  · show (0 + 1) * _ ≤ _; decide

theorem inb3 (ch : Tables F) (i : grid0.Coords) (a : Fin 2) :
    (cc0_transform_3 k0_off1_inb numel1_S1 (pfN ch) i a + 1) * S1024x1024.size a ≤ S16384x1024.size a := by
  rw [tr3_eq]
  have h := ch.tj_lt (i 0).val (i 0).isLt
  fin_cases a
  · show (ch.tj (i 0).val + 1) * 1024 ≤ 16384
    unfold Tables.tj; omega
  · show (0 + 1) * _ ≤ _; decide

theorem inb4 (ch : Tables F) (i : grid0.Coords) (a : Fin 3) :
    (cc0_transform_4 k0_off1_inb numel1_S1 (pfN ch) i a + 1) * S1x8x1024.size a ≤ S2x8x1024.size a := by
  rw [tr4_eq]
  have h := ch.tj_lt (i 0).val (i 0).isLt
  fin_cases a
  · show (ch.tj (i 0).val / 8 + 1) * 1 ≤ 2
    unfold Tables.tj; omega
  · show (0 + 1) * _ ≤ _; decide
  · show (0 + 1) * _ ≤ _; decide

/-- Every block lies inside its array, at all tables. -/
theorem ok_pfN (ch : Tables F) : ok0 (F := F) (pfN ch) :=
  ⟨fun i => ⟨inb0 ch i, .inr (Affine.block_words_dvd (s := S40960x1024) (p := EltTy.packing .bf16) (by decide) (by decide))⟩,
    fun i => ⟨inb1 ch i, .inl rfl⟩, fun i => ⟨inb1 ch i, .inl rfl⟩, fun i => ⟨inb3 ch i, .inl rfl⟩,
    fun i => ⟨inb4 ch i, .inl rfl⟩, fun i => ⟨inb3 ch i, .inl rfl⟩⟩

/-- What the launch memory has to hold: the tables, on each device. -/
def Pinned (ch : Tables F) (m : (ℓ : Loc nD τ sig) → Buf (Elt F) ℓ) : Prop :=
  ∀ c : Dev nD, m ((c : Thread nD τ).loc main_arg0) = ch.T0 ∧ m ((c : Thread nD τ).loc main_arg1) = ch.T1
    ∧ m ((c : Thread nD τ).loc main_arg2) = ch.T2 ∧ m ((c : Thread nD τ).loc main_arg3) = ch.T3
    ∧ m ((c : Thread nD τ).loc main_arg4) = ch.T4 ∧ m ((c : Thread nD τ).loc main_arg5) = ch.T5

end Cert.MixCombine

end
-- ==== Proof.Combine.Runs.lean ====
/- The combine's body run once per control path (A a tile's first pair, B one in its middle, C its last, D a pair not in use,
   E a tile's only pair), over symbolic staging buffers and tables and for any floats; with what each path leaves in the
   buffers. -/
module

public import proofs.«01_k».proof.Proof.Gen.CombineIdeal.Skeleton
public import proofs.«01_k».proof.Proof.Combine.Tables

@[expose] public section

set_option maxRecDepth 16384
set_option Elab.async false

noncomputable section

namespace Cert.MixCombine

open Cert.CombineIdeal Cert.CombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The assertions' model. -/
local notation "𝕄" => MT nD τ sig Unit (Elt F) ℕ (UR sig nD τ) ℕ

/-- One staging buffer of the output window, through which its contents are stated (`View.read_writes_of_cover`). -/
abbrev VO0_6 : View sig .tc .vmem S1024x1024 .f32 := (Memref.whole cc0_stg6_0 : Memref sig .tc .vmem S1024x1024 .f32).view

set_option backward.proofsInPublic true in
set_option maxHeartbeats 8000000 in
/-- PATH A (a tile's first pair, not its last): what the body leaves in the scratch buffer, with the
    proof that from the inputs at their blocks and the tables, under the path's decisions on the words the body reads, the body
    runs to the continuation holding all of it as stated. -/
noncomputable def kernelRun0_A (c : Dev nD) (i : grid0.Coords) (arg7 : Memref sig .tc .vmem S512x1024 .bf16) (harg7 : arg7.IsWhole) (arg8 : Memref sig .tc .vmem S1024x8 .i32) (harg8 : arg8.IsWhole) (arg9 : Memref sig .tc .vmem S1024x8 .f32) (harg9 : arg9.IsWhole) (arg10 : Memref sig .tc .vmem S1024x1024 .f32) (harg10 : arg10.IsWhole) (arg11 : Memref sig .tc .vmem S1x8x1024 .f32) (harg11 : arg11.IsWhole) (arg12 : Memref sig .tc .vmem S1x1024 .f32) (harg12 : arg12.IsWhole) (arg13 : Memref sig .tc .vmem S1024x1024 .f32) (harg13 : arg13.IsWhole) (T0 : (S208.Idx → Elt F .i32)) (T1 : (S208.Idx → Elt F .i32)) (T2 : (S208.Idx → Elt F .i32)) (T3 : (S208.Idx → Elt F .i32)) (T4 : (S208.Idx → Elt F .i32)) (T5 : (S208.Idx → Elt F .i32))
     (x0 : (S512x1024.Idx → Elt F .bf16)) (x1 : (S1024x8.Idx → Elt F .i32)) (x2 : (S1024x8.Idx → Elt F .f32)) (x3 : (S1024x1024.Idx → Elt F .f32)) (x4 : (S1x8x1024.Idx → Elt F .f32)) (x5 : (S1x1024.Idx → Elt F .f32)) (k0_h1 : (Scalar.cmpi .ne (Scalar.extui (Scalar.cmpi .eq (View.readAt (Elt F) (tbM0_3).view (Rect.unit (s := S208) (k0_off1 i) S1.size (k0_off1_inb i)).toLoadRect T3 (Shape.Idx.first (numel1_S1.symm ▸ Nat.one_pos))) 1#32)) 0#32) = 1#1) (k0_h2 : (Scalar.cmpi .ne (Scalar.extui (Scalar.cmpi .eq (View.readAt (Elt F) (tbM0_5).view (Rect.unit (s := S208) (k0_off2 i) S1.size (k0_off2_inb i)).toLoadRect T5 (Shape.Idx.first (numel1_S1.symm ▸ Nat.one_pos))) 1#32)) 0#32) = 1#1) (k0_h3 : ¬(k0_cond3 (View.readAt (Elt F) (tbM0_4).view (Rect.unit (s := S208) (k0_off4 i) S1.size (k0_off4_inb i)).toLoadRect T4 (Shape.Idx.first (numel1_S1.symm ▸ Nat.one_pos))) = 1#1)) :
    { out0 : Buf (Elt F) ((c : Thread nD τ).loc cc0_scratch0) //
      ∀ (y6 : (S1024x1024.Idx → Elt F .f32)) (xa0 : Buf (Elt F) ((c : Thread nD τ).loc cc0_scratch0)) (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (arg9.view.loc (c : Thread nD τ) ↦[arg9.view.set]{fullShare} arg9.view.rep x2)
          ∗ (arg10.view.loc (c : Thread nD τ) ↦[arg10.view.set]{fullShare} arg10.view.rep x3)
          ∗ (arg11.view.loc (c : Thread nD τ) ↦[arg11.view.set]{fullShare} arg11.view.rep x4)
          ∗ (arg12.view.loc (c : Thread nD τ) ↦[arg12.view.set]{fullShare} arg12.view.rep x5)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ (tbM0_5.view.loc (c : Thread nD τ) ↦{fullShare.right} T5)
          ∗ owns (c : Thread nD τ) arg13 fullShare y6
          ∗ (scM0_0.view.loc (c : Thread nD τ) ↦{fullShare} xa0)
          ∗ (iprop((arg7.view.loc (c : Thread nD τ) ↦[arg7.view.set]{fullShare} arg7.view.rep x0)
              ∗ (arg8.view.loc (c : Thread nD τ) ↦[arg8.view.set]{fullShare} arg8.view.rep x1)
              ∗ (arg9.view.loc (c : Thread nD τ) ↦[arg9.view.set]{fullShare} arg9.view.rep x2)
              ∗ (arg10.view.loc (c : Thread nD τ) ↦[arg10.view.set]{fullShare} arg10.view.rep x3)
              ∗ (arg11.view.loc (c : Thread nD τ) ↦[arg11.view.set]{fullShare} arg11.view.rep x4)
              ∗ (arg12.view.loc (c : Thread nD τ) ↦[arg12.view.set]{fullShare} arg12.view.rep x5)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ (tbM0_5.view.loc (c : Thread nD τ) ↦{fullShare.right} T5)
              ∗ owns (c : Thread nD τ) arg13 fullShare y6
              ∗ (scM0_0.view.loc (c : Thread nD τ) ↦{fullShare} out0)) -∗ K ⟨⟩))
          ⊢ wp frame (wpE (defs₀ (F := F)) Variants.none c none) Set.univ (cc0_moe_combine i tbM0_0 (Memref.isWhole_whole _) tbM0_1 (Memref.isWhole_whole _) tbM0_2 (Memref.isWhole_whole _) tbM0_3 (Memref.isWhole_whole _) tbM0_4 (Memref.isWhole_whole _) tbM0_5 (Memref.isWhole_whole _) arg7 harg7 arg8 harg8 arg9 harg9 arg10 harg10 arg11 harg11 arg12 harg12 arg13 harg13 scM0_0 (Memref.isWhole_whole _)) K } :=
  ⟨_, fun (y6 : (S1024x1024.Idx → Elt F .f32)) (xa0 : Buf (Elt F) ((c : Thread nD τ).loc cc0_scratch0)) K => by
    unfold owns
    rw [cc0_moe_combine_eq_skeleton]; unfold cc0_moe_combine_skel
    iintro ⟨H0, H1, H2, H3, H4, H5, HT0, HT1, HT2, HT3, HT4, HT5, ⟨%f6, %hf6, HO6⟩, HS0, Hk⟩
    obtain rfl := harg13.eq_unread hf6
    have hS0 : scM0_0.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    have hT5 : tbM0_5.IsWhole := Memref.isWhole_whole _
    sl_exec! (disch := first | exact k0_h1 | exact k0_h2 | exact k0_h3)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HT2]; · iexact HT2
    isplitl [HT3]; · iexact HT3
    isplitl [HT4]; · iexact HT4
    isplitl [HT5]; · iexact HT5
    isplitl [HO6]
    · iexists _; isplitr; · ipureintro; exact harg13.read_unread _
      iexact HO6
    iexact HS0⟩

set_option backward.proofsInPublic true in
set_option maxHeartbeats 8000000 in
/-- PATH B (a pair in the middle of a tile): what the body leaves in the scratch buffer, with the
    proof that from the inputs at their blocks and the tables, under the path's decisions on the words the body reads, the body
    runs to the continuation holding all of it as stated. -/
noncomputable def kernelRun0_B (c : Dev nD) (i : grid0.Coords) (arg7 : Memref sig .tc .vmem S512x1024 .bf16) (harg7 : arg7.IsWhole) (arg8 : Memref sig .tc .vmem S1024x8 .i32) (harg8 : arg8.IsWhole) (arg9 : Memref sig .tc .vmem S1024x8 .f32) (harg9 : arg9.IsWhole) (arg10 : Memref sig .tc .vmem S1024x1024 .f32) (harg10 : arg10.IsWhole) (arg11 : Memref sig .tc .vmem S1x8x1024 .f32) (harg11 : arg11.IsWhole) (arg12 : Memref sig .tc .vmem S1x1024 .f32) (harg12 : arg12.IsWhole) (arg13 : Memref sig .tc .vmem S1024x1024 .f32) (harg13 : arg13.IsWhole) (T0 : (S208.Idx → Elt F .i32)) (T1 : (S208.Idx → Elt F .i32)) (T2 : (S208.Idx → Elt F .i32)) (T3 : (S208.Idx → Elt F .i32)) (T4 : (S208.Idx → Elt F .i32)) (T5 : (S208.Idx → Elt F .i32))
     (x0 : (S512x1024.Idx → Elt F .bf16)) (x1 : (S1024x8.Idx → Elt F .i32)) (x2 : (S1024x8.Idx → Elt F .f32)) (x3 : (S1024x1024.Idx → Elt F .f32)) (x4 : (S1x8x1024.Idx → Elt F .f32)) (x5 : (S1x1024.Idx → Elt F .f32)) (xa0 : Buf (Elt F) ((c : Thread nD τ).loc cc0_scratch0)) (k0_h1 : ¬((Scalar.cmpi .ne (Scalar.extui (Scalar.cmpi .eq (View.readAt (Elt F) (tbM0_3).view (Rect.unit (s := S208) (k0_off1 i) S1.size (k0_off1_inb i)).toLoadRect T3 (Shape.Idx.first (numel1_S1.symm ▸ Nat.one_pos))) 1#32)) 0#32) = 1#1)) (k0_h2 : (Scalar.cmpi .ne (Scalar.extui (Scalar.cmpi .eq (View.readAt (Elt F) (tbM0_5).view (Rect.unit (s := S208) (k0_off2 i) S1.size (k0_off2_inb i)).toLoadRect T5 (Shape.Idx.first (numel1_S1.symm ▸ Nat.one_pos))) 1#32)) 0#32) = 1#1) (k0_h3 : ¬(k0_cond3 (View.readAt (Elt F) (tbM0_4).view (Rect.unit (s := S208) (k0_off4 i) S1.size (k0_off4_inb i)).toLoadRect T4 (Shape.Idx.first (numel1_S1.symm ▸ Nat.one_pos))) = 1#1)) :
    { out0 : Buf (Elt F) ((c : Thread nD τ).loc cc0_scratch0) //
      ∀ (y6 : (S1024x1024.Idx → Elt F .f32)) (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (arg9.view.loc (c : Thread nD τ) ↦[arg9.view.set]{fullShare} arg9.view.rep x2)
          ∗ (arg10.view.loc (c : Thread nD τ) ↦[arg10.view.set]{fullShare} arg10.view.rep x3)
          ∗ (arg11.view.loc (c : Thread nD τ) ↦[arg11.view.set]{fullShare} arg11.view.rep x4)
          ∗ (arg12.view.loc (c : Thread nD τ) ↦[arg12.view.set]{fullShare} arg12.view.rep x5)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ (tbM0_5.view.loc (c : Thread nD τ) ↦{fullShare.right} T5)
          ∗ owns (c : Thread nD τ) arg13 fullShare y6
          ∗ (scM0_0.view.loc (c : Thread nD τ) ↦{fullShare} xa0)
          ∗ (iprop((arg7.view.loc (c : Thread nD τ) ↦[arg7.view.set]{fullShare} arg7.view.rep x0)
              ∗ (arg8.view.loc (c : Thread nD τ) ↦[arg8.view.set]{fullShare} arg8.view.rep x1)
              ∗ (arg9.view.loc (c : Thread nD τ) ↦[arg9.view.set]{fullShare} arg9.view.rep x2)
              ∗ (arg10.view.loc (c : Thread nD τ) ↦[arg10.view.set]{fullShare} arg10.view.rep x3)
              ∗ (arg11.view.loc (c : Thread nD τ) ↦[arg11.view.set]{fullShare} arg11.view.rep x4)
              ∗ (arg12.view.loc (c : Thread nD τ) ↦[arg12.view.set]{fullShare} arg12.view.rep x5)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ (tbM0_5.view.loc (c : Thread nD τ) ↦{fullShare.right} T5)
              ∗ owns (c : Thread nD τ) arg13 fullShare y6
              ∗ (scM0_0.view.loc (c : Thread nD τ) ↦{fullShare} out0)) -∗ K ⟨⟩))
          ⊢ wp frame (wpE (defs₀ (F := F)) Variants.none c none) Set.univ (cc0_moe_combine i tbM0_0 (Memref.isWhole_whole _) tbM0_1 (Memref.isWhole_whole _) tbM0_2 (Memref.isWhole_whole _) tbM0_3 (Memref.isWhole_whole _) tbM0_4 (Memref.isWhole_whole _) tbM0_5 (Memref.isWhole_whole _) arg7 harg7 arg8 harg8 arg9 harg9 arg10 harg10 arg11 harg11 arg12 harg12 arg13 harg13 scM0_0 (Memref.isWhole_whole _)) K } :=
  ⟨_, fun (y6 : (S1024x1024.Idx → Elt F .f32)) K => by
    unfold owns
    rw [cc0_moe_combine_eq_skeleton]; unfold cc0_moe_combine_skel
    iintro ⟨H0, H1, H2, H3, H4, H5, HT0, HT1, HT2, HT3, HT4, HT5, ⟨%f6, %hf6, HO6⟩, HS0, Hk⟩
    obtain rfl := harg13.eq_unread hf6
    have hS0 : scM0_0.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    have hT5 : tbM0_5.IsWhole := Memref.isWhole_whole _
    sl_exec! (disch := first | exact k0_h1 | exact k0_h2 | exact k0_h3)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HT2]; · iexact HT2
    isplitl [HT3]; · iexact HT3
    isplitl [HT4]; · iexact HT4
    isplitl [HT5]; · iexact HT5
    isplitl [HO6]
    · iexists _; isplitr; · ipureintro; exact harg13.read_unread _
      iexact HO6
    iexact HS0⟩

set_option backward.proofsInPublic true in
set_option maxHeartbeats 8000000 in
/-- PATH C (a tile's last pair, not its first): what the body leaves in the scratch buffer and its pieces of the output, with the
    proof that from the inputs at their blocks and the tables, under the path's decisions on the words the body reads, the body
    runs to the continuation holding all of it as stated. -/
noncomputable def kernelRun0_C (c : Dev nD) (i : grid0.Coords) (arg7 : Memref sig .tc .vmem S512x1024 .bf16) (harg7 : arg7.IsWhole) (arg8 : Memref sig .tc .vmem S1024x8 .i32) (harg8 : arg8.IsWhole) (arg9 : Memref sig .tc .vmem S1024x8 .f32) (harg9 : arg9.IsWhole) (arg10 : Memref sig .tc .vmem S1024x1024 .f32) (harg10 : arg10.IsWhole) (arg11 : Memref sig .tc .vmem S1x8x1024 .f32) (harg11 : arg11.IsWhole) (arg12 : Memref sig .tc .vmem S1x1024 .f32) (harg12 : arg12.IsWhole) (arg13 : Memref sig .tc .vmem S1024x1024 .f32) (harg13 : arg13.IsWhole) (T0 : (S208.Idx → Elt F .i32)) (T1 : (S208.Idx → Elt F .i32)) (T2 : (S208.Idx → Elt F .i32)) (T3 : (S208.Idx → Elt F .i32)) (T4 : (S208.Idx → Elt F .i32)) (T5 : (S208.Idx → Elt F .i32))
     (x0 : (S512x1024.Idx → Elt F .bf16)) (x1 : (S1024x8.Idx → Elt F .i32)) (x2 : (S1024x8.Idx → Elt F .f32)) (x3 : (S1024x1024.Idx → Elt F .f32)) (x4 : (S1x8x1024.Idx → Elt F .f32)) (x5 : (S1x1024.Idx → Elt F .f32)) (xa0 : Buf (Elt F) ((c : Thread nD τ).loc cc0_scratch0)) (k0_h1 : ¬((Scalar.cmpi .ne (Scalar.extui (Scalar.cmpi .eq (View.readAt (Elt F) (tbM0_3).view (Rect.unit (s := S208) (k0_off1 i) S1.size (k0_off1_inb i)).toLoadRect T3 (Shape.Idx.first (numel1_S1.symm ▸ Nat.one_pos))) 1#32)) 0#32) = 1#1)) (k0_h2 : (Scalar.cmpi .ne (Scalar.extui (Scalar.cmpi .eq (View.readAt (Elt F) (tbM0_5).view (Rect.unit (s := S208) (k0_off2 i) S1.size (k0_off2_inb i)).toLoadRect T5 (Shape.Idx.first (numel1_S1.symm ▸ Nat.one_pos))) 1#32)) 0#32) = 1#1) (k0_h3 : k0_cond3 (View.readAt (Elt F) (tbM0_4).view (Rect.unit (s := S208) (k0_off4 i) S1.size (k0_off4_inb i)).toLoadRect T4 (Shape.Idx.first (numel1_S1.symm ▸ Nat.one_pos))) = 1#1) :
    Σ' (out0 : List (View.Piece (Elt F) S1024x1024 .f32)), { out1 : Buf (Elt F) ((c : Thread nD τ).loc cc0_scratch0) //
      ∀ (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (arg9.view.loc (c : Thread nD τ) ↦[arg9.view.set]{fullShare} arg9.view.rep x2)
          ∗ (arg10.view.loc (c : Thread nD τ) ↦[arg10.view.set]{fullShare} arg10.view.rep x3)
          ∗ (arg11.view.loc (c : Thread nD τ) ↦[arg11.view.set]{fullShare} arg11.view.rep x4)
          ∗ (arg12.view.loc (c : Thread nD τ) ↦[arg12.view.set]{fullShare} arg12.view.rep x5)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ (tbM0_5.view.loc (c : Thread nD τ) ↦{fullShare.right} T5)
          ∗ (∃ d, owns (c : Thread nD τ) arg13 fullShare d)
          ∗ (scM0_0.view.loc (c : Thread nD τ) ↦{fullShare} xa0)
          ∗ (iprop((arg7.view.loc (c : Thread nD τ) ↦[arg7.view.set]{fullShare} arg7.view.rep x0)
              ∗ (arg8.view.loc (c : Thread nD τ) ↦[arg8.view.set]{fullShare} arg8.view.rep x1)
              ∗ (arg9.view.loc (c : Thread nD τ) ↦[arg9.view.set]{fullShare} arg9.view.rep x2)
              ∗ (arg10.view.loc (c : Thread nD τ) ↦[arg10.view.set]{fullShare} arg10.view.rep x3)
              ∗ (arg11.view.loc (c : Thread nD τ) ↦[arg11.view.set]{fullShare} arg11.view.rep x4)
              ∗ (arg12.view.loc (c : Thread nD τ) ↦[arg12.view.set]{fullShare} arg12.view.rep x5)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ (tbM0_5.view.loc (c : Thread nD τ) ↦{fullShare.right} T5)
              ∗ (∃ f, arg13.view.loc (c : Thread nD τ) ↦[arg13.view.set]{fullShare} arg13.view.writes (Elt F) f out0)
              ∗ (scM0_0.view.loc (c : Thread nD τ) ↦{fullShare} out1)) -∗ K ⟨⟩))
          ⊢ wp frame (wpE (defs₀ (F := F)) Variants.none c none) Set.univ (cc0_moe_combine i tbM0_0 (Memref.isWhole_whole _) tbM0_1 (Memref.isWhole_whole _) tbM0_2 (Memref.isWhole_whole _) tbM0_3 (Memref.isWhole_whole _) tbM0_4 (Memref.isWhole_whole _) tbM0_5 (Memref.isWhole_whole _) arg7 harg7 arg8 harg8 arg9 harg9 arg10 harg10 arg11 harg11 arg12 harg12 arg13 harg13 scM0_0 (Memref.isWhole_whole _)) K } :=
  ⟨_, _, fun K => by
    unfold owns
    rw [cc0_moe_combine_eq_skeleton]; unfold cc0_moe_combine_skel
    iintro ⟨H0, H1, H2, H3, H4, H5, HT0, HT1, HT2, HT3, HT4, HT5, ⟨%d6, %f6, -, HO6⟩, HS0, Hk⟩
    have hS0 : scM0_0.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    have hT5 : tbM0_5.IsWhole := Memref.isWhole_whole _
    sl_exec! (disch := first | exact k0_h1 | exact k0_h2 | exact k0_h3)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HT2]; · iexact HT2
    isplitl [HT3]; · iexact HT3
    isplitl [HT4]; · iexact HT4
    isplitl [HT5]; · iexact HT5
    isplitl [HO6]; · iexists _; iexact HO6
    iexact HS0⟩

/-- Path C's one store of the output tiles its block. -/
theorem cover0_C_6 (c : Dev nD) (i : grid0.Coords) (arg7 : Memref sig .tc .vmem S512x1024 .bf16) (harg7 : arg7.IsWhole) (arg8 : Memref sig .tc .vmem S1024x8 .i32) (harg8 : arg8.IsWhole) (arg9 : Memref sig .tc .vmem S1024x8 .f32) (harg9 : arg9.IsWhole) (arg10 : Memref sig .tc .vmem S1024x1024 .f32) (harg10 : arg10.IsWhole) (arg11 : Memref sig .tc .vmem S1x8x1024 .f32) (harg11 : arg11.IsWhole) (arg12 : Memref sig .tc .vmem S1x1024 .f32) (harg12 : arg12.IsWhole) (arg13 : Memref sig .tc .vmem S1024x1024 .f32) (harg13 : arg13.IsWhole) (T0 : (S208.Idx → Elt F .i32)) (T1 : (S208.Idx → Elt F .i32)) (T2 : (S208.Idx → Elt F .i32)) (T3 : (S208.Idx → Elt F .i32)) (T4 : (S208.Idx → Elt F .i32)) (T5 : (S208.Idx → Elt F .i32))
     (x0 : (S512x1024.Idx → Elt F .bf16)) (x1 : (S1024x8.Idx → Elt F .i32)) (x2 : (S1024x8.Idx → Elt F .f32)) (x3 : (S1024x1024.Idx → Elt F .f32)) (x4 : (S1x8x1024.Idx → Elt F .f32)) (x5 : (S1x1024.Idx → Elt F .f32)) (xa0 : Buf (Elt F) ((c : Thread nD τ).loc cc0_scratch0)) (k0_h1 : ¬((Scalar.cmpi .ne (Scalar.extui (Scalar.cmpi .eq (View.readAt (Elt F) (tbM0_3).view (Rect.unit (s := S208) (k0_off1 i) S1.size (k0_off1_inb i)).toLoadRect T3 (Shape.Idx.first (numel1_S1.symm ▸ Nat.one_pos))) 1#32)) 0#32) = 1#1)) (k0_h2 : (Scalar.cmpi .ne (Scalar.extui (Scalar.cmpi .eq (View.readAt (Elt F) (tbM0_5).view (Rect.unit (s := S208) (k0_off2 i) S1.size (k0_off2_inb i)).toLoadRect T5 (Shape.Idx.first (numel1_S1.symm ▸ Nat.one_pos))) 1#32)) 0#32) = 1#1) (k0_h3 : k0_cond3 (View.readAt (Elt F) (tbM0_4).view (Rect.unit (s := S208) (k0_off4 i) S1.size (k0_off4_inb i)).toLoadRect T4 (Shape.Idx.first (numel1_S1.symm ▸ Nat.one_pos))) = 1#1) (y : S1024x1024.Idx) :
    ∃ pc ∈ (kernelRun0_C c i arg7 harg7 arg8 harg8 arg9 harg9 arg10 harg10 arg11 harg11 arg12 harg12 arg13 harg13 T0 T1 T2 T3 T4 T5 x0 x1 x2 x3 x4 x5 xa0 k0_h1 k0_h2 k0_h3).1, y ∈ pc.1.set :=
  View.cover_of_tiledL (kernelRun0_C c i arg7 harg7 arg8 harg8 arg9 harg9 arg10 harg10 arg11 harg11 arg12 harg12 arg13 harg13 T0 T1 T2 T3 T4 T5 x0 x1 x2 x3 x4 x5 xa0 k0_h1 k0_h2 k0_h3).1 S1024x1024.size (by sl_kernel_rfl) y

/-- What path C leaves in the output's staging buffer: its pieces read back over junk. -/
def out0_C_6 (c : Dev nD) (i : grid0.Coords) (arg7 : Memref sig .tc .vmem S512x1024 .bf16) (harg7 : arg7.IsWhole) (arg8 : Memref sig .tc .vmem S1024x8 .i32) (harg8 : arg8.IsWhole) (arg9 : Memref sig .tc .vmem S1024x8 .f32) (harg9 : arg9.IsWhole) (arg10 : Memref sig .tc .vmem S1024x1024 .f32) (harg10 : arg10.IsWhole) (arg11 : Memref sig .tc .vmem S1x8x1024 .f32) (harg11 : arg11.IsWhole) (arg12 : Memref sig .tc .vmem S1x1024 .f32) (harg12 : arg12.IsWhole) (arg13 : Memref sig .tc .vmem S1024x1024 .f32) (harg13 : arg13.IsWhole) (T0 : (S208.Idx → Elt F .i32)) (T1 : (S208.Idx → Elt F .i32)) (T2 : (S208.Idx → Elt F .i32)) (T3 : (S208.Idx → Elt F .i32)) (T4 : (S208.Idx → Elt F .i32)) (T5 : (S208.Idx → Elt F .i32))
     (x0 : (S512x1024.Idx → Elt F .bf16)) (x1 : (S1024x8.Idx → Elt F .i32)) (x2 : (S1024x8.Idx → Elt F .f32)) (x3 : (S1024x1024.Idx → Elt F .f32)) (x4 : (S1x8x1024.Idx → Elt F .f32)) (x5 : (S1x1024.Idx → Elt F .f32)) (xa0 : Buf (Elt F) ((c : Thread nD τ).loc cc0_scratch0)) (k0_h1 : ¬((Scalar.cmpi .ne (Scalar.extui (Scalar.cmpi .eq (View.readAt (Elt F) (tbM0_3).view (Rect.unit (s := S208) (k0_off1 i) S1.size (k0_off1_inb i)).toLoadRect T3 (Shape.Idx.first (numel1_S1.symm ▸ Nat.one_pos))) 1#32)) 0#32) = 1#1)) (k0_h2 : (Scalar.cmpi .ne (Scalar.extui (Scalar.cmpi .eq (View.readAt (Elt F) (tbM0_5).view (Rect.unit (s := S208) (k0_off2 i) S1.size (k0_off2_inb i)).toLoadRect T5 (Shape.Idx.first (numel1_S1.symm ▸ Nat.one_pos))) 1#32)) 0#32) = 1#1) (k0_h3 : k0_cond3 (View.readAt (Elt F) (tbM0_4).view (Rect.unit (s := S208) (k0_off4 i) S1.size (k0_off4_inb i)).toLoadRect T4 (Shape.Idx.first (numel1_S1.symm ▸ Nat.one_pos))) = 1#1) : (S1024x1024.Idx → Elt F .f32) :=
  VO0_6.read (Elt F) (VO0_6.writes (Elt F) VO0_6.junk (kernelRun0_C c i arg7 harg7 arg8 harg8 arg9 harg9 arg10 harg10 arg11 harg11 arg12 harg12 arg13 harg13 T0 T1 T2 T3 T4 T5 x0 x1 x2 x3 x4 x5 xa0 k0_h1 k0_h2 k0_h3).1)

set_option backward.proofsInPublic true in
set_option maxHeartbeats 8000000 in
/-- PATH D (a pair not in use): what the body leaves in the scratch buffer, with the
    proof that from the inputs at their blocks and the tables, under the path's decisions on the words the body reads, the body
    runs to the continuation holding all of it as stated. -/
noncomputable def kernelRun0_D (c : Dev nD) (i : grid0.Coords) (arg7 : Memref sig .tc .vmem S512x1024 .bf16) (harg7 : arg7.IsWhole) (arg8 : Memref sig .tc .vmem S1024x8 .i32) (harg8 : arg8.IsWhole) (arg9 : Memref sig .tc .vmem S1024x8 .f32) (harg9 : arg9.IsWhole) (arg10 : Memref sig .tc .vmem S1024x1024 .f32) (harg10 : arg10.IsWhole) (arg11 : Memref sig .tc .vmem S1x8x1024 .f32) (harg11 : arg11.IsWhole) (arg12 : Memref sig .tc .vmem S1x1024 .f32) (harg12 : arg12.IsWhole) (arg13 : Memref sig .tc .vmem S1024x1024 .f32) (harg13 : arg13.IsWhole) (T0 : (S208.Idx → Elt F .i32)) (T1 : (S208.Idx → Elt F .i32)) (T2 : (S208.Idx → Elt F .i32)) (T3 : (S208.Idx → Elt F .i32)) (T4 : (S208.Idx → Elt F .i32)) (T5 : (S208.Idx → Elt F .i32))
     (x0 : (S512x1024.Idx → Elt F .bf16)) (x1 : (S1024x8.Idx → Elt F .i32)) (x2 : (S1024x8.Idx → Elt F .f32)) (x3 : (S1024x1024.Idx → Elt F .f32)) (x4 : (S1x8x1024.Idx → Elt F .f32)) (x5 : (S1x1024.Idx → Elt F .f32)) (xa0 : Buf (Elt F) ((c : Thread nD τ).loc cc0_scratch0)) (k0_h1 : ¬((Scalar.cmpi .ne (Scalar.extui (Scalar.cmpi .eq (View.readAt (Elt F) (tbM0_3).view (Rect.unit (s := S208) (k0_off1 i) S1.size (k0_off1_inb i)).toLoadRect T3 (Shape.Idx.first (numel1_S1.symm ▸ Nat.one_pos))) 1#32)) 0#32) = 1#1)) (k0_h2 : ¬((Scalar.cmpi .ne (Scalar.extui (Scalar.cmpi .eq (View.readAt (Elt F) (tbM0_5).view (Rect.unit (s := S208) (k0_off2 i) S1.size (k0_off2_inb i)).toLoadRect T5 (Shape.Idx.first (numel1_S1.symm ▸ Nat.one_pos))) 1#32)) 0#32) = 1#1)) (k0_h3 : ¬(k0_cond3 (View.readAt (Elt F) (tbM0_4).view (Rect.unit (s := S208) (k0_off4 i) S1.size (k0_off4_inb i)).toLoadRect T4 (Shape.Idx.first (numel1_S1.symm ▸ Nat.one_pos))) = 1#1)) :
    { out0 : Buf (Elt F) ((c : Thread nD τ).loc cc0_scratch0) //
      ∀ (y6 : (S1024x1024.Idx → Elt F .f32)) (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (arg9.view.loc (c : Thread nD τ) ↦[arg9.view.set]{fullShare} arg9.view.rep x2)
          ∗ (arg10.view.loc (c : Thread nD τ) ↦[arg10.view.set]{fullShare} arg10.view.rep x3)
          ∗ (arg11.view.loc (c : Thread nD τ) ↦[arg11.view.set]{fullShare} arg11.view.rep x4)
          ∗ (arg12.view.loc (c : Thread nD τ) ↦[arg12.view.set]{fullShare} arg12.view.rep x5)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ (tbM0_5.view.loc (c : Thread nD τ) ↦{fullShare.right} T5)
          ∗ owns (c : Thread nD τ) arg13 fullShare y6
          ∗ (scM0_0.view.loc (c : Thread nD τ) ↦{fullShare} xa0)
          ∗ (iprop((arg7.view.loc (c : Thread nD τ) ↦[arg7.view.set]{fullShare} arg7.view.rep x0)
              ∗ (arg8.view.loc (c : Thread nD τ) ↦[arg8.view.set]{fullShare} arg8.view.rep x1)
              ∗ (arg9.view.loc (c : Thread nD τ) ↦[arg9.view.set]{fullShare} arg9.view.rep x2)
              ∗ (arg10.view.loc (c : Thread nD τ) ↦[arg10.view.set]{fullShare} arg10.view.rep x3)
              ∗ (arg11.view.loc (c : Thread nD τ) ↦[arg11.view.set]{fullShare} arg11.view.rep x4)
              ∗ (arg12.view.loc (c : Thread nD τ) ↦[arg12.view.set]{fullShare} arg12.view.rep x5)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ (tbM0_5.view.loc (c : Thread nD τ) ↦{fullShare.right} T5)
              ∗ owns (c : Thread nD τ) arg13 fullShare y6
              ∗ (scM0_0.view.loc (c : Thread nD τ) ↦{fullShare} out0)) -∗ K ⟨⟩))
          ⊢ wp frame (wpE (defs₀ (F := F)) Variants.none c none) Set.univ (cc0_moe_combine i tbM0_0 (Memref.isWhole_whole _) tbM0_1 (Memref.isWhole_whole _) tbM0_2 (Memref.isWhole_whole _) tbM0_3 (Memref.isWhole_whole _) tbM0_4 (Memref.isWhole_whole _) tbM0_5 (Memref.isWhole_whole _) arg7 harg7 arg8 harg8 arg9 harg9 arg10 harg10 arg11 harg11 arg12 harg12 arg13 harg13 scM0_0 (Memref.isWhole_whole _)) K } :=
  ⟨_, fun (y6 : (S1024x1024.Idx → Elt F .f32)) K => by
    unfold owns
    rw [cc0_moe_combine_eq_skeleton]; unfold cc0_moe_combine_skel
    iintro ⟨H0, H1, H2, H3, H4, H5, HT0, HT1, HT2, HT3, HT4, HT5, ⟨%f6, %hf6, HO6⟩, HS0, Hk⟩
    obtain rfl := harg13.eq_unread hf6
    have hS0 : scM0_0.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    have hT5 : tbM0_5.IsWhole := Memref.isWhole_whole _
    sl_exec! (disch := first | exact k0_h1 | exact k0_h2 | exact k0_h3)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HT2]; · iexact HT2
    isplitl [HT3]; · iexact HT3
    isplitl [HT4]; · iexact HT4
    isplitl [HT5]; · iexact HT5
    isplitl [HO6]
    · iexists _; isplitr; · ipureintro; exact harg13.read_unread _
      iexact HO6
    iexact HS0⟩

set_option backward.proofsInPublic true in
set_option maxHeartbeats 8000000 in
/-- PATH E (a tile's only pair): what the body leaves in the scratch buffer and its pieces of the output, with the
    proof that from the inputs at their blocks and the tables, under the path's decisions on the words the body reads, the body
    runs to the continuation holding all of it as stated. -/
noncomputable def kernelRun0_E (c : Dev nD) (i : grid0.Coords) (arg7 : Memref sig .tc .vmem S512x1024 .bf16) (harg7 : arg7.IsWhole) (arg8 : Memref sig .tc .vmem S1024x8 .i32) (harg8 : arg8.IsWhole) (arg9 : Memref sig .tc .vmem S1024x8 .f32) (harg9 : arg9.IsWhole) (arg10 : Memref sig .tc .vmem S1024x1024 .f32) (harg10 : arg10.IsWhole) (arg11 : Memref sig .tc .vmem S1x8x1024 .f32) (harg11 : arg11.IsWhole) (arg12 : Memref sig .tc .vmem S1x1024 .f32) (harg12 : arg12.IsWhole) (arg13 : Memref sig .tc .vmem S1024x1024 .f32) (harg13 : arg13.IsWhole) (T0 : (S208.Idx → Elt F .i32)) (T1 : (S208.Idx → Elt F .i32)) (T2 : (S208.Idx → Elt F .i32)) (T3 : (S208.Idx → Elt F .i32)) (T4 : (S208.Idx → Elt F .i32)) (T5 : (S208.Idx → Elt F .i32))
     (x0 : (S512x1024.Idx → Elt F .bf16)) (x1 : (S1024x8.Idx → Elt F .i32)) (x2 : (S1024x8.Idx → Elt F .f32)) (x3 : (S1024x1024.Idx → Elt F .f32)) (x4 : (S1x8x1024.Idx → Elt F .f32)) (x5 : (S1x1024.Idx → Elt F .f32)) (k0_h1 : (Scalar.cmpi .ne (Scalar.extui (Scalar.cmpi .eq (View.readAt (Elt F) (tbM0_3).view (Rect.unit (s := S208) (k0_off1 i) S1.size (k0_off1_inb i)).toLoadRect T3 (Shape.Idx.first (numel1_S1.symm ▸ Nat.one_pos))) 1#32)) 0#32) = 1#1) (k0_h2 : (Scalar.cmpi .ne (Scalar.extui (Scalar.cmpi .eq (View.readAt (Elt F) (tbM0_5).view (Rect.unit (s := S208) (k0_off2 i) S1.size (k0_off2_inb i)).toLoadRect T5 (Shape.Idx.first (numel1_S1.symm ▸ Nat.one_pos))) 1#32)) 0#32) = 1#1) (k0_h3 : k0_cond3 (View.readAt (Elt F) (tbM0_4).view (Rect.unit (s := S208) (k0_off4 i) S1.size (k0_off4_inb i)).toLoadRect T4 (Shape.Idx.first (numel1_S1.symm ▸ Nat.one_pos))) = 1#1) :
    Σ' (out0 : List (View.Piece (Elt F) S1024x1024 .f32)), { out1 : Buf (Elt F) ((c : Thread nD τ).loc cc0_scratch0) //
      ∀ (xa0 : Buf (Elt F) ((c : Thread nD τ).loc cc0_scratch0)) (K : PUnit → sProp 𝕄),
        iprop((arg7.view.loc (c : Thread nD τ) ↦[arg7.view.set]{fullShare} arg7.view.rep x0)
          ∗ (arg8.view.loc (c : Thread nD τ) ↦[arg8.view.set]{fullShare} arg8.view.rep x1)
          ∗ (arg9.view.loc (c : Thread nD τ) ↦[arg9.view.set]{fullShare} arg9.view.rep x2)
          ∗ (arg10.view.loc (c : Thread nD τ) ↦[arg10.view.set]{fullShare} arg10.view.rep x3)
          ∗ (arg11.view.loc (c : Thread nD τ) ↦[arg11.view.set]{fullShare} arg11.view.rep x4)
          ∗ (arg12.view.loc (c : Thread nD τ) ↦[arg12.view.set]{fullShare} arg12.view.rep x5)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ (tbM0_5.view.loc (c : Thread nD τ) ↦{fullShare.right} T5)
          ∗ (∃ d, owns (c : Thread nD τ) arg13 fullShare d)
          ∗ (scM0_0.view.loc (c : Thread nD τ) ↦{fullShare} xa0)
          ∗ (iprop((arg7.view.loc (c : Thread nD τ) ↦[arg7.view.set]{fullShare} arg7.view.rep x0)
              ∗ (arg8.view.loc (c : Thread nD τ) ↦[arg8.view.set]{fullShare} arg8.view.rep x1)
              ∗ (arg9.view.loc (c : Thread nD τ) ↦[arg9.view.set]{fullShare} arg9.view.rep x2)
              ∗ (arg10.view.loc (c : Thread nD τ) ↦[arg10.view.set]{fullShare} arg10.view.rep x3)
              ∗ (arg11.view.loc (c : Thread nD τ) ↦[arg11.view.set]{fullShare} arg11.view.rep x4)
              ∗ (arg12.view.loc (c : Thread nD τ) ↦[arg12.view.set]{fullShare} arg12.view.rep x5)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ (tbM0_5.view.loc (c : Thread nD τ) ↦{fullShare.right} T5)
              ∗ (∃ f, arg13.view.loc (c : Thread nD τ) ↦[arg13.view.set]{fullShare} arg13.view.writes (Elt F) f out0)
              ∗ (scM0_0.view.loc (c : Thread nD τ) ↦{fullShare} out1)) -∗ K ⟨⟩))
          ⊢ wp frame (wpE (defs₀ (F := F)) Variants.none c none) Set.univ (cc0_moe_combine i tbM0_0 (Memref.isWhole_whole _) tbM0_1 (Memref.isWhole_whole _) tbM0_2 (Memref.isWhole_whole _) tbM0_3 (Memref.isWhole_whole _) tbM0_4 (Memref.isWhole_whole _) tbM0_5 (Memref.isWhole_whole _) arg7 harg7 arg8 harg8 arg9 harg9 arg10 harg10 arg11 harg11 arg12 harg12 arg13 harg13 scM0_0 (Memref.isWhole_whole _)) K } :=
  ⟨_, _, fun (xa0 : Buf (Elt F) ((c : Thread nD τ).loc cc0_scratch0)) K => by
    unfold owns
    rw [cc0_moe_combine_eq_skeleton]; unfold cc0_moe_combine_skel
    iintro ⟨H0, H1, H2, H3, H4, H5, HT0, HT1, HT2, HT3, HT4, HT5, ⟨%d6, %f6, -, HO6⟩, HS0, Hk⟩
    have hS0 : scM0_0.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    have hT5 : tbM0_5.IsWhole := Memref.isWhole_whole _
    sl_exec! (disch := first | exact k0_h1 | exact k0_h2 | exact k0_h3)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HT2]; · iexact HT2
    isplitl [HT3]; · iexact HT3
    isplitl [HT4]; · iexact HT4
    isplitl [HT5]; · iexact HT5
    isplitl [HO6]; · iexists _; iexact HO6
    iexact HS0⟩

/-- Path E's one store of the output tiles its block. -/
theorem cover0_E_6 (c : Dev nD) (i : grid0.Coords) (arg7 : Memref sig .tc .vmem S512x1024 .bf16) (harg7 : arg7.IsWhole) (arg8 : Memref sig .tc .vmem S1024x8 .i32) (harg8 : arg8.IsWhole) (arg9 : Memref sig .tc .vmem S1024x8 .f32) (harg9 : arg9.IsWhole) (arg10 : Memref sig .tc .vmem S1024x1024 .f32) (harg10 : arg10.IsWhole) (arg11 : Memref sig .tc .vmem S1x8x1024 .f32) (harg11 : arg11.IsWhole) (arg12 : Memref sig .tc .vmem S1x1024 .f32) (harg12 : arg12.IsWhole) (arg13 : Memref sig .tc .vmem S1024x1024 .f32) (harg13 : arg13.IsWhole) (T0 : (S208.Idx → Elt F .i32)) (T1 : (S208.Idx → Elt F .i32)) (T2 : (S208.Idx → Elt F .i32)) (T3 : (S208.Idx → Elt F .i32)) (T4 : (S208.Idx → Elt F .i32)) (T5 : (S208.Idx → Elt F .i32))
     (x0 : (S512x1024.Idx → Elt F .bf16)) (x1 : (S1024x8.Idx → Elt F .i32)) (x2 : (S1024x8.Idx → Elt F .f32)) (x3 : (S1024x1024.Idx → Elt F .f32)) (x4 : (S1x8x1024.Idx → Elt F .f32)) (x5 : (S1x1024.Idx → Elt F .f32)) (k0_h1 : (Scalar.cmpi .ne (Scalar.extui (Scalar.cmpi .eq (View.readAt (Elt F) (tbM0_3).view (Rect.unit (s := S208) (k0_off1 i) S1.size (k0_off1_inb i)).toLoadRect T3 (Shape.Idx.first (numel1_S1.symm ▸ Nat.one_pos))) 1#32)) 0#32) = 1#1) (k0_h2 : (Scalar.cmpi .ne (Scalar.extui (Scalar.cmpi .eq (View.readAt (Elt F) (tbM0_5).view (Rect.unit (s := S208) (k0_off2 i) S1.size (k0_off2_inb i)).toLoadRect T5 (Shape.Idx.first (numel1_S1.symm ▸ Nat.one_pos))) 1#32)) 0#32) = 1#1) (k0_h3 : k0_cond3 (View.readAt (Elt F) (tbM0_4).view (Rect.unit (s := S208) (k0_off4 i) S1.size (k0_off4_inb i)).toLoadRect T4 (Shape.Idx.first (numel1_S1.symm ▸ Nat.one_pos))) = 1#1) (y : S1024x1024.Idx) :
    ∃ pc ∈ (kernelRun0_E c i arg7 harg7 arg8 harg8 arg9 harg9 arg10 harg10 arg11 harg11 arg12 harg12 arg13 harg13 T0 T1 T2 T3 T4 T5 x0 x1 x2 x3 x4 x5 k0_h1 k0_h2 k0_h3).1, y ∈ pc.1.set :=
  View.cover_of_tiledL (kernelRun0_E c i arg7 harg7 arg8 harg8 arg9 harg9 arg10 harg10 arg11 harg11 arg12 harg12 arg13 harg13 T0 T1 T2 T3 T4 T5 x0 x1 x2 x3 x4 x5 k0_h1 k0_h2 k0_h3).1 S1024x1024.size (by sl_kernel_rfl) y

/-- What path E leaves in the output's staging buffer: its pieces read back over junk. -/
def out0_E_6 (c : Dev nD) (i : grid0.Coords) (arg7 : Memref sig .tc .vmem S512x1024 .bf16) (harg7 : arg7.IsWhole) (arg8 : Memref sig .tc .vmem S1024x8 .i32) (harg8 : arg8.IsWhole) (arg9 : Memref sig .tc .vmem S1024x8 .f32) (harg9 : arg9.IsWhole) (arg10 : Memref sig .tc .vmem S1024x1024 .f32) (harg10 : arg10.IsWhole) (arg11 : Memref sig .tc .vmem S1x8x1024 .f32) (harg11 : arg11.IsWhole) (arg12 : Memref sig .tc .vmem S1x1024 .f32) (harg12 : arg12.IsWhole) (arg13 : Memref sig .tc .vmem S1024x1024 .f32) (harg13 : arg13.IsWhole) (T0 : (S208.Idx → Elt F .i32)) (T1 : (S208.Idx → Elt F .i32)) (T2 : (S208.Idx → Elt F .i32)) (T3 : (S208.Idx → Elt F .i32)) (T4 : (S208.Idx → Elt F .i32)) (T5 : (S208.Idx → Elt F .i32))
     (x0 : (S512x1024.Idx → Elt F .bf16)) (x1 : (S1024x8.Idx → Elt F .i32)) (x2 : (S1024x8.Idx → Elt F .f32)) (x3 : (S1024x1024.Idx → Elt F .f32)) (x4 : (S1x8x1024.Idx → Elt F .f32)) (x5 : (S1x1024.Idx → Elt F .f32)) (k0_h1 : (Scalar.cmpi .ne (Scalar.extui (Scalar.cmpi .eq (View.readAt (Elt F) (tbM0_3).view (Rect.unit (s := S208) (k0_off1 i) S1.size (k0_off1_inb i)).toLoadRect T3 (Shape.Idx.first (numel1_S1.symm ▸ Nat.one_pos))) 1#32)) 0#32) = 1#1) (k0_h2 : (Scalar.cmpi .ne (Scalar.extui (Scalar.cmpi .eq (View.readAt (Elt F) (tbM0_5).view (Rect.unit (s := S208) (k0_off2 i) S1.size (k0_off2_inb i)).toLoadRect T5 (Shape.Idx.first (numel1_S1.symm ▸ Nat.one_pos))) 1#32)) 0#32) = 1#1) (k0_h3 : k0_cond3 (View.readAt (Elt F) (tbM0_4).view (Rect.unit (s := S208) (k0_off4 i) S1.size (k0_off4_inb i)).toLoadRect T4 (Shape.Idx.first (numel1_S1.symm ▸ Nat.one_pos))) = 1#1) : (S1024x1024.Idx → Elt F .f32) :=
  VO0_6.read (Elt F) (VO0_6.writes (Elt F) VO0_6.junk (kernelRun0_E c i arg7 harg7 arg8 harg8 arg9 harg9 arg10 harg10 arg11 harg11 arg12 harg12 arg13 harg13 T0 T1 T2 T3 T4 T5 x0 x1 x2 x3 x4 x5 k0_h1 k0_h2 k0_h3).1)

end Cert.MixCombine

end
-- ==== Proof.Combine.Facts.lean ====
/- The combine's pipeline at given tables, and the facts of each grid point its proof asks for, from the closed forms of the
   conditions: which path runs, when the output's buffer is left idle, when it is written back, when a buffer holds junk. -/
module

public import proofs.«01_k».proof.Proof.Combine.Runs

@[expose] public section

set_option maxRecDepth 16384
set_option Elab.async false

noncomputable section

namespace Cert.MixCombine

open Cert.CombineIdeal Cert.CombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The assertions' model. -/
local notation "𝕄" => MT nD τ sig Unit (Elt F) ℕ (UR sig nD τ) ℕ

variable (ch : Tables F)

/-- The admissible contents, the pipeline at them (208 points), as @main's one. -/
def adm : (pcfg0 (F := F)).Adm := ⟨pfN ch, ok_pfN ch⟩
abbrev cfgA : Pipeline.Cfg sig Λ₀ := cfg0 (F := F) (adm ch)
abbrev pcs : Fin 1 → Pipeline.Cfg sig Λ₀ := Pipeline.pin (pcfgs (F := F)) fun _ => adm ch

variable (m : (ℓ : Loc nD τ sig) → Buf (Elt F) ℓ) (ρ : Dev nD → PrngReg)

/-! ## The host lines around the launch -/

/-- What a core's buffers hold when the launch starts, after the host lines before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 4000000 in
/-- @main is the host lines, the launch, and the host line after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The line after the launch touches the pipeline's arrays and the buffers the launch leaves alone only, -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl
    all_goals intro j; fin_cases j <;> simp only [StableHlo.reshape_bufs, Finset.mem_insert, Finset.mem_singleton, not_or] <;> and_intros <;> exact StableHlo.devRef_ne_of_ne (by decide)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host line before the launch writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
/-- No host line before the launch writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
/-- No host line before the launch writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
/-- No host line before the launch writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
/-- No host line before the launch writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
/-- No host line before the launch writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
/-- No host line before the launch writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
/-- No host line before the launch writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
/-- No host line before the launch writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
/-- No host line before the launch writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
/-- No host line before the launch writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
/-- No host line before the launch writes `main_arg11`. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))

/-! ## A point's coordinates, words and staging memrefs -/

/-- Point `t`'s coordinates. -/
abbrev crd (t : Fin (cfgA ch).N) : (cfgA ch).grid.Coords := (cfgA ch).grid.coords t

/-- Each window's current staging memref at point `t`, and its wholeness. -/
abbrev ms0_0 (t : Fin (cfgA ch).N) : Memref sig .tc .vmem S512x1024 .bf16 := spec0_0.stage ((cfgA ch).slots t (0 : Fin 7))
abbrev hs0_0 (t : Fin (cfgA ch).N) : (ms0_0 ch t).IsWhole := hstage0_0 (((cfgA ch).slots t (0 : Fin 7)).cast nbuf0_0)
abbrev ms0_1 (t : Fin (cfgA ch).N) : Memref sig .tc .vmem S1024x8 .i32 := spec0_1.stage ((cfgA ch).slots t (1 : Fin 7))
abbrev hs0_1 (t : Fin (cfgA ch).N) : (ms0_1 ch t).IsWhole := hstage0_1 (((cfgA ch).slots t (1 : Fin 7)).cast nbuf0_1)
abbrev ms0_2 (t : Fin (cfgA ch).N) : Memref sig .tc .vmem S1024x8 .f32 := spec0_2.stage ((cfgA ch).slots t (2 : Fin 7))
abbrev hs0_2 (t : Fin (cfgA ch).N) : (ms0_2 ch t).IsWhole := hstage0_2 (((cfgA ch).slots t (2 : Fin 7)).cast nbuf0_2)
abbrev ms0_3 (t : Fin (cfgA ch).N) : Memref sig .tc .vmem S1024x1024 .f32 := spec0_3.stage ((cfgA ch).slots t (3 : Fin 7))
abbrev hs0_3 (t : Fin (cfgA ch).N) : (ms0_3 ch t).IsWhole := hstage0_3 (((cfgA ch).slots t (3 : Fin 7)).cast nbuf0_3)
abbrev ms0_4 (t : Fin (cfgA ch).N) : Memref sig .tc .vmem S1x8x1024 .f32 := spec0_4.stage ((cfgA ch).slots t (4 : Fin 7))
abbrev hs0_4 (t : Fin (cfgA ch).N) : (ms0_4 ch t).IsWhole := hstage0_4 (((cfgA ch).slots t (4 : Fin 7)).cast nbuf0_4)
abbrev ms0_5 (t : Fin (cfgA ch).N) : Memref sig .tc .vmem S1x1024 .f32 := spec0_5.stage ((cfgA ch).slots t (5 : Fin 7))
abbrev hs0_5 (t : Fin (cfgA ch).N) : (ms0_5 ch t).IsWhole := hstage0_5 (((cfgA ch).slots t (5 : Fin 7)).cast nbuf0_5)
abbrev ms0_6 (t : Fin (cfgA ch).N) : Memref sig .tc .vmem S1024x1024 .f32 := spec0_6.stage ((cfgA ch).slots t (6 : Fin 7))
abbrev hs0_6 (t : Fin (cfgA ch).N) : (ms0_6 ch t).IsWhole := hstage0_6 (((cfgA ch).slots t (6 : Fin 7)).cast nbuf0_6)

/-- Window `w`'s block at point `t`, read off its array at launch. -/
def iblk (c : Dev nD) (w : Fin (cfgA ch).W) (t : Fin (cfgA ch).N) : (((cfgA ch).win w).xblock (crd ch t)).Idx → Elt F ((cfgA ch).win w).elt :=
  (((cfgA ch).win w).blk t).view.read (Elt F) (V m c (Pipeline.arrRef spec0 w))

/-! ## The body's decisions at a point -/

abbrev P0_0 (t : Fin (cfgA ch).N) : Prop := (Scalar.cmpi .ne (Scalar.extui (Scalar.cmpi .eq (View.readAt (Elt F) (tbM0_3).view (Rect.unit (s := S208) (k0_off1 (crd ch t)) S1.size (k0_off1_inb (crd ch t))).toLoadRect ch.T3 (Shape.Idx.first (numel1_S1.symm ▸ Nat.one_pos))) 1#32)) 0#32) = 1#1
abbrev P0_1 (t : Fin (cfgA ch).N) : Prop := (Scalar.cmpi .ne (Scalar.extui (Scalar.cmpi .eq (View.readAt (Elt F) (tbM0_5).view (Rect.unit (s := S208) (k0_off2 (crd ch t)) S1.size (k0_off2_inb (crd ch t))).toLoadRect ch.T5 (Shape.Idx.first (numel1_S1.symm ▸ Nat.one_pos))) 1#32)) 0#32) = 1#1
abbrev P0_2 (t : Fin (cfgA ch).N) : Prop := k0_cond3 (View.readAt (Elt F) (tbM0_4).view (Rect.unit (s := S208) (k0_off4 (crd ch t)) S1.size (k0_off4_inb (crd ch t))).toLoadRect ch.T4 (Shape.Idx.first (numel1_S1.symm ▸ Nat.one_pos))) = 1#1

theorem N_eq : (cfgA ch).N = 208 := (by decide +kernel : grid0.N = 208)

/-- A table's word at a point, as a number. -/
theorem word_nat (T : S208.Idx → BitVec 32) (t : Fin (cfgA ch).N) (off : Fin 1 → ℕ) (hoff : off = ![((crd ch t) 0).val])
    (hin : ∀ a, off a + S1.size a ≤ S208.size a) (x : S1.Idx) :
    (T ((Rect.unit (s := S208) off S1.size hin).toLoadRect.idx x)).toNat = ent T t.val :=
  (congrArg (fun z => (T z).toNat) (load_idx (crd ch t) off hoff hin x)).trans (word_at T (crd ch t) t.val (coords0 t))

theorem P0_0_iff (t : Fin (cfgA ch).N) : P0_0 ch t ↔ ch.tf t.val = 1 :=
  (word_one _).trans (iff_of_eq (congrArg (· = 1) (word_nat ch ch.T3 t _ (k0_off1_eq (crd ch t)) _ _)))
theorem P0_1_iff (t : Fin (cfgA ch).N) : P0_1 ch t ↔ ch.tv t.val = 1 :=
  (word_one _).trans (iff_of_eq (congrArg (· = 1) (word_nat ch ch.T5 t _ (k0_off2_eq (crd ch t)) _ _)))
theorem P0_2_iff (t : Fin (cfgA ch).N) : P0_2 ch t ↔ ch.tl t.val = 1 :=
  (word_one _).trans (iff_of_eq (congrArg (· = 1) (word_nat ch ch.T4 t _ (k0_off4_eq (crd ch t)) _ _)))

/-! ## What the marks say at one pair -/

/-- A tile's first pair is in use; -/
theorem tf_tv (t : ℕ) (ht : t < 208) : ch.tf t = 1 → ch.tv t = 1 := by
  intro h
  cases t with
  | zero => exact ch.tv_0
  | succ k =>
    have h1 := ch.tf_step k ht
    have h2 := ch.tv_stay k ht
    unfold Tables.tf at h; unfold Tables.tv
    omega
/-- so is its last; -/
theorem tl_tv (t : ℕ) (ht : t < 208) : ch.tl t = 1 → ch.tv t = 1 := by
  intro h
  unfold Tables.tl at h; unfold Tables.tv
  by_cases h7 : t = 207
  · subst h7; exact ch.tl_end.mp h
  · exact ((ch.tl_step t (by omega)).mp h).1
/-- and what the next pair is to this one. -/
theorem next (t : ℕ) (ht : t < 208) :
    (t = 207 ∧ (ch.tl t = 1 ↔ ch.tv t = 1)) ∨
    (t + 1 < 208 ∧ (ch.tj (t + 1) = ch.tj t ∨ ch.tj (t + 1) = ch.tj t + 1) ∧ (ch.tv (t + 1) = 1 → ch.tv t = 1)
      ∧ (ch.tv (t + 1) ≠ 1 → ch.tj (t + 1) = ch.tj t) ∧ (ch.tl t = 1 ↔ (ch.tv t = 1 ∧ ¬(ch.tv (t + 1) = 1 ∧ ch.tj (t + 1) = ch.tj t)))) := by
  by_cases h7 : t = 207
  · subst h7; exact .inl ⟨rfl, ch.tl_end⟩
  · have h : t + 1 < 208 := by omega
    exact .inr ⟨h, ch.tj_step t h, ch.tv_step t h, ch.tv_stay t h, ch.tl_step t h⟩

/-! ## The output's schedule -/

theorem index6 (t : Fin (cfgA ch).N) : ((cfgA ch).win (6 : Fin 7)).index t = ![ch.tj t.val, 0] := by
  refine (tr6_eq ch (grid0.coords t)).trans ?_
  rw [coords0]

/-- The output's block is written back where the tile changes, and at the last pair. -/
theorem flush6 (t : Fin (cfgA ch).N) :
    ((cfgA ch).win (6 : Fin 7)).flush t = decide (t.val = 207 ∨ ch.tj (t.val + 1) ≠ ch.tj t.val) := by
  have hN := N_eq ch
  have ht := t.isLt
  rw [Bool.eq_iff_iff, Pipeline.Window.flush_eq_flushF]
  unfold Pipeline.Window.flushF
  rw [show ((cfgA ch).win (6 : Fin 7)).isOut = true from rfl, Bool.true_and, Bool.or_eq_true, decide_eq_true_eq, decide_eq_true_eq, decide_eq_true_eq]
  have hNN : (cfgA ch).grid.N = 208 := hN
  constructor
  · rintro (h | ⟨h, a, ha⟩)
    · left; omega
    · rw [index6, index6] at ha
      revert ha
      revert a
      show ∀ a : Fin 2, _ → _
      intro a ha
      fin_cases a
      · have ha : ch.tj (t.val + 1) ≠ ch.tj t.val := ha
        right; exact ha
      · exact absurd rfl ha
  · intro h
    by_cases h7 : t.val = 207
    · left; omega
    · right
      refine ⟨by omega, (0 : Fin 2), ?_⟩
      rw [index6, index6]
      show ch.tj (t.val + 1) ≠ ch.tj t.val
      exact h.resolve_left h7

/-- The output's buffer is stored at a tile's last pair only. -/
theorem idle6 (t : Fin (cfgA ch).N) :
    (cfgA ch).idle (6 : Fin 7) ((cfgA ch).grid.coords t) = !decide (ch.tl t.val = 1) := by
  have e : ((pfN ch).atD 4 (k0_off4 (crd ch t))).toNat = ch.tl t.val := by
    unfold Pipeline.Prefetch.Contents.atD
    refine (congrArg BitVec.toNat (dif_pos (show ∀ a : Fin 1, (k0_off4 (crd ch t)) a + 1 ≤ (![208] : Fin 1 → ℕ) a from fun a => by
      obtain rfl : a = (0 : Fin 1) := Subsingleton.elim (α := Fin 1) _ _
      rw [k0_off4_eq]
      exact ((crd ch t) 0).isLt))).trans ?_
    refine (congrArg (fun z => (ch.T4 z).toNat) (?_ : _ = ixK ((crd ch t) 0).val ((crd ch t) 0).isLt)).trans (word_at ch.T4 (crd ch t) t.val (coords0 t))
    funext a
    apply Fin.ext
    obtain rfl : a = (0 : Fin 1) := Subsingleton.elim (α := Fin 1) _ _
    exact congrFun (k0_off4_eq (crd ch t)) (0 : Fin 1)
  show (!(k0_cond3 ((pfN ch).atD 4 (k0_off4 (crd ch t))) == 1#1)) = _
  have h2 : k0_cond3 ((pfN ch).atD 4 (k0_off4 (crd ch t))) = 1#1 ↔ _ := word_one _
  rw [e] at h2
  rw [Bool.eq_iff_iff]
  simp only [Bool.not_eq_true', beq_eq_false_iff_ne, decide_eq_false_iff_not, ne_eq]
  rw [h2]

/-- Before position `k` the output's buffer holds nothing stored since its last write-back. -/
def frTab (k : ℕ) : Bool := decide (k = 208 ∨ ch.tv k = 1)

theorem frTab_step (t : Fin (cfgA ch).N) :
    frTab ch (t.val + 1) = (((cfgA ch).win (6 : Fin 7)).flush t || ((cfgA ch).idle (6 : Fin 7) ((cfgA ch).grid.coords t) && frTab ch t.val)) := by
  have hN := N_eq ch
  have ht := t.isLt
  have hn := next ch t.val (by omega)
  rw [flush6, idle6]
  unfold frTab
  rw [Bool.eq_iff_iff]
  simp only [Bool.or_eq_true, Bool.and_eq_true, Bool.not_eq_true', decide_eq_true_eq, decide_eq_false_iff_not]
  generalize ch.tl t.val = a at *
  generalize ch.tv t.val = b at *
  generalize ch.tv (t.val + 1) = b' at *
  generalize ch.tj t.val = j at *
  generalize ch.tj (t.val + 1) = j' at *
  omega

theorem freshF0_6 (t : Fin (cfgA ch).N) : (cfgA ch).fresh (6 : Fin 7) t.val = frTab ch t.val :=
  Pipeline.Cfg.fresh_tab (cfgA ch) (6 : Fin 7) (frTab ch)
    (by unfold frTab; exact decide_eq_true (.inr ch.tv_0)) (frTab_step ch) t.val (Nat.le_of_lt t.isLt)

/-- The scratch buffer holds junk before the first point only. -/
def sfresh0_0 (ch : Tables F) (k : ℕ) : Bool := decide (k = 0)

/-- Path A's conditions, as the run states them. -/
theorem hypsR0_A : ∀ (ch : Tables F) (t : Fin (cfgA ch).N), P0_0 ch t → ¬P0_2 ch t →
    ((Scalar.cmpi .ne (Scalar.extui (Scalar.cmpi .eq (View.readAt (Elt F) (tbM0_3).view (Rect.unit (s := S208) (k0_off1 (crd ch t)) S1.size (k0_off1_inb (crd ch t))).toLoadRect ch.T3 (Shape.Idx.first (numel1_S1.symm ▸ Nat.one_pos))) 1#32)) 0#32) = 1#1) ∧ (((Scalar.cmpi .ne (Scalar.extui (Scalar.cmpi .eq (View.readAt (Elt F) (tbM0_5).view (Rect.unit (s := S208) (k0_off2 (crd ch t)) S1.size (k0_off2_inb (crd ch t))).toLoadRect ch.T5 (Shape.Idx.first (numel1_S1.symm ▸ Nat.one_pos))) 1#32)) 0#32) = 1#1) ∧ (¬(k0_cond3 (View.readAt (Elt F) (tbM0_4).view (Rect.unit (s := S208) (k0_off4 (crd ch t)) S1.size (k0_off4_inb (crd ch t))).toLoadRect ch.T4 (Shape.Idx.first (numel1_S1.symm ▸ Nat.one_pos))) = 1#1))) := by
  intro ch t q0 q2
  exact ⟨q0, (P0_1_iff ch t).mpr (tf_tv ch t.val (Nat.lt_of_lt_of_eq t.isLt (N_eq ch)) ((P0_0_iff ch t).mp q0)), q2⟩

/-- Path A's schedule. -/
theorem sched0_A : ∀ (ch : Tables F) (t : Fin (cfgA ch).N), P0_0 ch t → ¬P0_2 ch t →
    (cfgA ch).idle (6 : Fin 7) ((cfgA ch).grid.coords t) = true ∧ ((cfgA ch).win (6 : Fin 7)).flush t = false ∧ (cfgA ch).fresh (6 : Fin 7) t.val = true ∧ sfresh0_0 ch (t.val + 1) = false := by
  intro ch t q0 q2
  have hN := N_eq ch
  have ht := t.isLt
  have hn := next ch t.val (by omega)
  have hf := tf_tv ch t.val (by omega)
  have hl := tl_tv ch t.val (by omega)
  have h0 : t.val = 0 → ch.tf t.val = 1 ∧ ch.tv t.val = 1 := fun h => by rw [h]; exact ⟨ch.tf_0, ch.tv_0⟩
  rw [P0_0_iff] at q0
  rw [P0_2_iff] at q2
  rw [freshF0_6 ch t, idle6, flush6]
  unfold frTab sfresh0_0
  simp only [Bool.not_eq_true', Bool.not_eq_false', decide_eq_true_eq, decide_eq_false_iff_not]
  generalize ch.tf t.val = z at *
  generalize ch.tl t.val = a at *
  generalize ch.tv t.val = b at *
  generalize ch.tv (t.val + 1) = b' at *
  generalize ch.tj t.val = j at *
  generalize ch.tj (t.val + 1) = j' at *
  omega

/-- Path B's conditions, as the run states them. -/
theorem hypsR0_B : ∀ (ch : Tables F) (t : Fin (cfgA ch).N), ¬P0_0 ch t → P0_1 ch t → ¬P0_2 ch t →
    (¬((Scalar.cmpi .ne (Scalar.extui (Scalar.cmpi .eq (View.readAt (Elt F) (tbM0_3).view (Rect.unit (s := S208) (k0_off1 (crd ch t)) S1.size (k0_off1_inb (crd ch t))).toLoadRect ch.T3 (Shape.Idx.first (numel1_S1.symm ▸ Nat.one_pos))) 1#32)) 0#32) = 1#1)) ∧ (((Scalar.cmpi .ne (Scalar.extui (Scalar.cmpi .eq (View.readAt (Elt F) (tbM0_5).view (Rect.unit (s := S208) (k0_off2 (crd ch t)) S1.size (k0_off2_inb (crd ch t))).toLoadRect ch.T5 (Shape.Idx.first (numel1_S1.symm ▸ Nat.one_pos))) 1#32)) 0#32) = 1#1) ∧ (¬(k0_cond3 (View.readAt (Elt F) (tbM0_4).view (Rect.unit (s := S208) (k0_off4 (crd ch t)) S1.size (k0_off4_inb (crd ch t))).toLoadRect ch.T4 (Shape.Idx.first (numel1_S1.symm ▸ Nat.one_pos))) = 1#1))) := by
  intro ch t q0 q1 q2
  exact ⟨q0, q1, q2⟩

/-- Path B's schedule. -/
theorem sched0_B : ∀ (ch : Tables F) (t : Fin (cfgA ch).N), ¬P0_0 ch t → P0_1 ch t → ¬P0_2 ch t →
    (cfgA ch).idle (6 : Fin 7) ((cfgA ch).grid.coords t) = true ∧ ((cfgA ch).win (6 : Fin 7)).flush t = false ∧ (cfgA ch).fresh (6 : Fin 7) t.val = true ∧ sfresh0_0 ch t.val = false ∧ sfresh0_0 ch (t.val + 1) = false := by
  intro ch t q0 q1 q2
  have hN := N_eq ch
  have ht := t.isLt
  have hn := next ch t.val (by omega)
  have hf := tf_tv ch t.val (by omega)
  have hl := tl_tv ch t.val (by omega)
  have h0 : t.val = 0 → ch.tf t.val = 1 ∧ ch.tv t.val = 1 := fun h => by rw [h]; exact ⟨ch.tf_0, ch.tv_0⟩
  rw [P0_0_iff] at q0
  rw [P0_1_iff] at q1
  rw [P0_2_iff] at q2
  rw [freshF0_6 ch t, idle6, flush6]
  unfold frTab sfresh0_0
  simp only [Bool.not_eq_true', Bool.not_eq_false', decide_eq_true_eq, decide_eq_false_iff_not]
  generalize ch.tf t.val = z at *
  generalize ch.tl t.val = a at *
  generalize ch.tv t.val = b at *
  generalize ch.tv (t.val + 1) = b' at *
  generalize ch.tj t.val = j at *
  generalize ch.tj (t.val + 1) = j' at *
  omega

/-- Path C's conditions, as the run states them. -/
theorem hypsR0_C : ∀ (ch : Tables F) (t : Fin (cfgA ch).N), ¬P0_0 ch t → P0_1 ch t → P0_2 ch t →
    (¬((Scalar.cmpi .ne (Scalar.extui (Scalar.cmpi .eq (View.readAt (Elt F) (tbM0_3).view (Rect.unit (s := S208) (k0_off1 (crd ch t)) S1.size (k0_off1_inb (crd ch t))).toLoadRect ch.T3 (Shape.Idx.first (numel1_S1.symm ▸ Nat.one_pos))) 1#32)) 0#32) = 1#1)) ∧ (((Scalar.cmpi .ne (Scalar.extui (Scalar.cmpi .eq (View.readAt (Elt F) (tbM0_5).view (Rect.unit (s := S208) (k0_off2 (crd ch t)) S1.size (k0_off2_inb (crd ch t))).toLoadRect ch.T5 (Shape.Idx.first (numel1_S1.symm ▸ Nat.one_pos))) 1#32)) 0#32) = 1#1) ∧ (k0_cond3 (View.readAt (Elt F) (tbM0_4).view (Rect.unit (s := S208) (k0_off4 (crd ch t)) S1.size (k0_off4_inb (crd ch t))).toLoadRect ch.T4 (Shape.Idx.first (numel1_S1.symm ▸ Nat.one_pos))) = 1#1)) := by
  intro ch t q0 q1 q2
  exact ⟨q0, q1, q2⟩

/-- Path C's schedule. -/
theorem sched0_C : ∀ (ch : Tables F) (t : Fin (cfgA ch).N), ¬P0_0 ch t → P0_1 ch t → P0_2 ch t →
    (cfgA ch).idle (6 : Fin 7) ((cfgA ch).grid.coords t) = false ∧ (cfgA ch).fresh (6 : Fin 7) t.val = true ∧ sfresh0_0 ch t.val = false ∧ sfresh0_0 ch (t.val + 1) = false := by
  intro ch t q0 q1 q2
  have hN := N_eq ch
  have ht := t.isLt
  have hn := next ch t.val (by omega)
  have hf := tf_tv ch t.val (by omega)
  have hl := tl_tv ch t.val (by omega)
  have h0 : t.val = 0 → ch.tf t.val = 1 ∧ ch.tv t.val = 1 := fun h => by rw [h]; exact ⟨ch.tf_0, ch.tv_0⟩
  rw [P0_0_iff] at q0
  rw [P0_1_iff] at q1
  rw [P0_2_iff] at q2
  rw [freshF0_6 ch t, idle6]
  unfold frTab sfresh0_0
  simp only [Bool.not_eq_true', Bool.not_eq_false', decide_eq_true_eq, decide_eq_false_iff_not]
  generalize ch.tf t.val = z at *
  generalize ch.tl t.val = a at *
  generalize ch.tv t.val = b at *
  generalize ch.tv (t.val + 1) = b' at *
  generalize ch.tj t.val = j at *
  generalize ch.tj (t.val + 1) = j' at *
  omega

/-- Path D's conditions, as the run states them. -/
theorem hypsR0_D : ∀ (ch : Tables F) (t : Fin (cfgA ch).N), ¬P0_0 ch t → ¬P0_1 ch t →
    (¬((Scalar.cmpi .ne (Scalar.extui (Scalar.cmpi .eq (View.readAt (Elt F) (tbM0_3).view (Rect.unit (s := S208) (k0_off1 (crd ch t)) S1.size (k0_off1_inb (crd ch t))).toLoadRect ch.T3 (Shape.Idx.first (numel1_S1.symm ▸ Nat.one_pos))) 1#32)) 0#32) = 1#1)) ∧ ((¬((Scalar.cmpi .ne (Scalar.extui (Scalar.cmpi .eq (View.readAt (Elt F) (tbM0_5).view (Rect.unit (s := S208) (k0_off2 (crd ch t)) S1.size (k0_off2_inb (crd ch t))).toLoadRect ch.T5 (Shape.Idx.first (numel1_S1.symm ▸ Nat.one_pos))) 1#32)) 0#32) = 1#1)) ∧ (¬(k0_cond3 (View.readAt (Elt F) (tbM0_4).view (Rect.unit (s := S208) (k0_off4 (crd ch t)) S1.size (k0_off4_inb (crd ch t))).toLoadRect ch.T4 (Shape.Idx.first (numel1_S1.symm ▸ Nat.one_pos))) = 1#1))) := by
  intro ch t q0 q1
  exact ⟨q0, q1, fun h => q1 ((P0_1_iff ch t).mpr (tl_tv ch t.val (Nat.lt_of_lt_of_eq t.isLt (N_eq ch)) ((P0_2_iff ch t).mp h)))⟩

/-- Path D's schedule. -/
theorem sched0_D : ∀ (ch : Tables F) (t : Fin (cfgA ch).N), ¬P0_0 ch t → ¬P0_1 ch t →
    (cfgA ch).idle (6 : Fin 7) ((cfgA ch).grid.coords t) = true ∧ (cfgA ch).fresh (6 : Fin 7) t.val = false ∧ sfresh0_0 ch t.val = false ∧ sfresh0_0 ch (t.val + 1) = false := by
  intro ch t q0 q1
  have hN := N_eq ch
  have ht := t.isLt
  have hn := next ch t.val (by omega)
  have hf := tf_tv ch t.val (by omega)
  have hl := tl_tv ch t.val (by omega)
  have h0 : t.val = 0 → ch.tf t.val = 1 ∧ ch.tv t.val = 1 := fun h => by rw [h]; exact ⟨ch.tf_0, ch.tv_0⟩
  rw [P0_0_iff] at q0
  rw [P0_1_iff] at q1
  rw [freshF0_6 ch t, idle6]
  unfold frTab sfresh0_0
  simp only [Bool.not_eq_true', Bool.not_eq_false', decide_eq_true_eq, decide_eq_false_iff_not]
  generalize ch.tf t.val = z at *
  generalize ch.tl t.val = a at *
  generalize ch.tv t.val = b at *
  generalize ch.tv (t.val + 1) = b' at *
  generalize ch.tj t.val = j at *
  generalize ch.tj (t.val + 1) = j' at *
  omega

/-- Path E's conditions, as the run states them. -/
theorem hypsR0_E : ∀ (ch : Tables F) (t : Fin (cfgA ch).N), P0_0 ch t → P0_2 ch t →
    ((Scalar.cmpi .ne (Scalar.extui (Scalar.cmpi .eq (View.readAt (Elt F) (tbM0_3).view (Rect.unit (s := S208) (k0_off1 (crd ch t)) S1.size (k0_off1_inb (crd ch t))).toLoadRect ch.T3 (Shape.Idx.first (numel1_S1.symm ▸ Nat.one_pos))) 1#32)) 0#32) = 1#1) ∧ (((Scalar.cmpi .ne (Scalar.extui (Scalar.cmpi .eq (View.readAt (Elt F) (tbM0_5).view (Rect.unit (s := S208) (k0_off2 (crd ch t)) S1.size (k0_off2_inb (crd ch t))).toLoadRect ch.T5 (Shape.Idx.first (numel1_S1.symm ▸ Nat.one_pos))) 1#32)) 0#32) = 1#1) ∧ (k0_cond3 (View.readAt (Elt F) (tbM0_4).view (Rect.unit (s := S208) (k0_off4 (crd ch t)) S1.size (k0_off4_inb (crd ch t))).toLoadRect ch.T4 (Shape.Idx.first (numel1_S1.symm ▸ Nat.one_pos))) = 1#1)) := by
  intro ch t q0 q2
  exact ⟨q0, (P0_1_iff ch t).mpr (tf_tv ch t.val (Nat.lt_of_lt_of_eq t.isLt (N_eq ch)) ((P0_0_iff ch t).mp q0)), q2⟩

/-- Path E's schedule. -/
theorem sched0_E : ∀ (ch : Tables F) (t : Fin (cfgA ch).N), P0_0 ch t → P0_2 ch t →
    (cfgA ch).idle (6 : Fin 7) ((cfgA ch).grid.coords t) = false ∧ (cfgA ch).fresh (6 : Fin 7) t.val = true ∧ sfresh0_0 ch (t.val + 1) = false := by
  intro ch t q0 q2
  have hN := N_eq ch
  have ht := t.isLt
  have hn := next ch t.val (by omega)
  have hf := tf_tv ch t.val (by omega)
  have hl := tl_tv ch t.val (by omega)
  have h0 : t.val = 0 → ch.tf t.val = 1 ∧ ch.tv t.val = 1 := fun h => by rw [h]; exact ⟨ch.tf_0, ch.tv_0⟩
  rw [P0_0_iff] at q0
  rw [P0_2_iff] at q2
  rw [freshF0_6 ch t, idle6]
  unfold frTab sfresh0_0
  simp only [Bool.not_eq_true', Bool.not_eq_false', decide_eq_true_eq, decide_eq_false_iff_not]
  generalize ch.tf t.val = z at *
  generalize ch.tl t.val = a at *
  generalize ch.tv t.val = b at *
  generalize ch.tv (t.val + 1) = b' at *
  generalize ch.tj t.val = j at *
  generalize ch.tj (t.val + 1) = j' at *
  omega

end Cert.MixCombine

end
-- ==== Proof.Combine.Frame.lean ====
/- The combine's launch at all tables: what the buffers hold after each grid point, the body's obligation there, and the run of
   the whole program, for any floats. Both frame claims and the value claim read this one run. -/
module

public import Idealize.ShloMosaic.Lib.Claim
public import proofs.«01_k».proof.Proof.Combine.Facts

@[expose] public section

set_option maxRecDepth 16384
set_option Elab.async false

noncomputable section

namespace Cert.MixCombine

open Cert.CombineIdeal Cert.CombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The assertions' model. -/
local notation "𝕄" => MT nD τ sig Unit (Elt F) ℕ (UR sig nD τ) ℕ

variable (ch : Tables F)
variable (m : (ℓ : Loc nD τ sig) → Buf (Elt F) ℓ) (ρ : Dev nD → PrngReg)

/-! ## What the output and the scratch buffer hold after each point -/

/-- What the output's buffer is said to hold while nothing has been stored in it. -/
def junk6 : (S1024x1024.Idx → Elt F .f32) := VO0_6.read (Elt F) VO0_6.junk
/-- What the scratch buffer is said to hold before the first point. -/
def junkS : (S1024x1024.Idx → Elt F .f32) := scM0_0.view.read (Elt F) scM0_0.view.junk

/-- ONE STEP: what the output's current buffer and the scratch buffer hold after the body at point `t`, from what they held
    before (`prev`): the path the decisions select at `t`, its run's contents. -/
def step0 (c : Dev nD) (t : Fin (cfgA ch).N) (prev : ((S1024x1024.Idx → Elt F .f32)) × Buf (Elt F) ((c : Thread nD τ).loc cc0_scratch0)) : ((S1024x1024.Idx → Elt F .f32)) × Buf (Elt F) ((c : Thread nD τ).loc cc0_scratch0) :=
  if q0 : P0_0 ch t then
    if q2 : P0_2 ch t then
      (out0_E_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) (hypsR0_E ch t q0 q2).1 (hypsR0_E ch t q0 q2).2.1 (hypsR0_E ch t q0 q2).2.2, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) (hypsR0_E ch t q0 q2).1 (hypsR0_E ch t q0 q2).2.1 (hypsR0_E ch t q0 q2).2.2).2.1)
    else
      ((if (cfgA ch).fresh (6 : Fin 7) t.val then junk6 else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) (hypsR0_A ch t q0 q2).1 (hypsR0_A ch t q0 q2).2.1 (hypsR0_A ch t q0 q2).2.2).1)
  else
    if q1 : P0_1 ch t then
      if q2 : P0_2 ch t then
        (out0_C_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) prev.2 (hypsR0_C ch t q0 q1 q2).1 (hypsR0_C ch t q0 q1 q2).2.1 (hypsR0_C ch t q0 q1 q2).2.2, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) prev.2 (hypsR0_C ch t q0 q1 q2).1 (hypsR0_C ch t q0 q1 q2).2.1 (hypsR0_C ch t q0 q1 q2).2.2).2.1)
      else
        ((if (cfgA ch).fresh (6 : Fin 7) t.val then junk6 else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) prev.2 (hypsR0_B ch t q0 q1 q2).1 (hypsR0_B ch t q0 q1 q2).2.1 (hypsR0_B ch t q0 q1 q2).2.2).1)
    else
      ((if (cfgA ch).fresh (6 : Fin 7) t.val then junk6 else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) prev.2 (hypsR0_D ch t q0 q1).1 (hypsR0_D ch t q0 q1).2.1 (hypsR0_D ch t q0 q1).2.2).1)

/-- The contents after position `n`. -/
def traj0 (c : Dev nD) : (n : ℕ) → n < (cfgA ch).N → ((S1024x1024.Idx → Elt F .f32)) × Buf (Elt F) ((c : Thread nD τ).loc cc0_scratch0)
  | 0, h => step0 ch m c ⟨0, h⟩ (junk6, junkS)
  | n + 1, h => step0 ch m c ⟨n + 1, h⟩ (traj0 c n (Nat.lt_of_succ_lt h))

/-- What they held BEFORE point `t` (junk before the first). -/
def prev0 (c : Dev nD) (t : Fin (cfgA ch).N) : ((S1024x1024.Idx → Elt F .f32)) × Buf (Elt F) ((c : Thread nD τ).loc cc0_scratch0) :=
  if h : t.val = 0 then (junk6, junkS) else traj0 ch m c (t.val - 1) (by omega)

theorem traj0_eq (c : Dev nD) (t : Fin (cfgA ch).N) : traj0 ch m c t.val t.isLt = step0 ch m c t (prev0 ch m c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : ((S1024x1024.Idx → Elt F .f32)) × Buf (Elt F) ((c : Thread nD τ).loc cc0_scratch0)) (q0 : P0_0 ch t) (q2 : ¬P0_2 ch t) :
    step0 ch m c t prev = ((if (cfgA ch).fresh (6 : Fin 7) t.val then junk6 else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) (hypsR0_A ch t q0 q2).1 (hypsR0_A ch t q0 q2).2.1 (hypsR0_A ch t q0 q2).2.2).1) := by
  unfold step0; simp only [dif_pos q0, dif_neg q2]

/-- `step0` at a point of path B. -/
theorem step0_B (c : Dev nD) (t : Fin (cfgA ch).N) (prev : ((S1024x1024.Idx → Elt F .f32)) × Buf (Elt F) ((c : Thread nD τ).loc cc0_scratch0)) (q0 : ¬P0_0 ch t) (q1 : P0_1 ch t) (q2 : ¬P0_2 ch t) :
    step0 ch m c t prev = ((if (cfgA ch).fresh (6 : Fin 7) t.val then junk6 else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) prev.2 (hypsR0_B ch t q0 q1 q2).1 (hypsR0_B ch t q0 q1 q2).2.1 (hypsR0_B ch t q0 q1 q2).2.2).1) := by
  unfold step0; simp only [dif_neg q0, dif_pos q1, dif_neg q2]

/-- `step0` at a point of path C. -/
theorem step0_C (c : Dev nD) (t : Fin (cfgA ch).N) (prev : ((S1024x1024.Idx → Elt F .f32)) × Buf (Elt F) ((c : Thread nD τ).loc cc0_scratch0)) (q0 : ¬P0_0 ch t) (q1 : P0_1 ch t) (q2 : P0_2 ch t) :
    step0 ch m c t prev = (out0_C_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) prev.2 (hypsR0_C ch t q0 q1 q2).1 (hypsR0_C ch t q0 q1 q2).2.1 (hypsR0_C ch t q0 q1 q2).2.2, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) prev.2 (hypsR0_C ch t q0 q1 q2).1 (hypsR0_C ch t q0 q1 q2).2.1 (hypsR0_C ch t q0 q1 q2).2.2).2.1) := by
  unfold step0; simp only [dif_neg q0, dif_pos q1, dif_pos q2]

/-- `step0` at a point of path D. -/
theorem step0_D (c : Dev nD) (t : Fin (cfgA ch).N) (prev : ((S1024x1024.Idx → Elt F .f32)) × Buf (Elt F) ((c : Thread nD τ).loc cc0_scratch0)) (q0 : ¬P0_0 ch t) (q1 : ¬P0_1 ch t) :
    step0 ch m c t prev = ((if (cfgA ch).fresh (6 : Fin 7) t.val then junk6 else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) prev.2 (hypsR0_D ch t q0 q1).1 (hypsR0_D ch t q0 q1).2.1 (hypsR0_D ch t q0 q1).2.2).1) := by
  unfold step0; simp only [dif_neg q0, dif_neg q1]

/-- `step0` at a point of path E. -/
theorem step0_E (c : Dev nD) (t : Fin (cfgA ch).N) (prev : ((S1024x1024.Idx → Elt F .f32)) × Buf (Elt F) ((c : Thread nD τ).loc cc0_scratch0)) (q0 : P0_0 ch t) (q2 : P0_2 ch t) :
    step0 ch m c t prev = (out0_E_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) (hypsR0_E ch t q0 q2).1 (hypsR0_E ch t q0 q2).2.1 (hypsR0_E ch t q0 q2).2.2, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) (hypsR0_E ch t q0 q2).1 (hypsR0_E ch t q0 q2).2.1 (hypsR0_E ch t q0 q2).2.2).2.1) := by
  unfold step0; simp only [dif_pos q0, dif_pos q2]

/-! ## The pipeline's proof data -/

/-- What the buffers held before position `t` of `Fin (N+1)`. -/
def prev0T (c : Dev nD) (t : Fin ((cfgA ch).N + 1)) : ((S1024x1024.Idx → Elt F .f32)) × Buf (Elt F) ((c : Thread nD τ).loc cc0_scratch0) :=
  if h : t.val = 0 then (junk6, junkS) else traj0 ch m c (t.val - 1) (by omega)

theorem prev0T_castSucc (c : Dev nD) (t : Fin (cfgA ch).N) : prev0T ch m c t.castSucc = prev0 ch m c t := by
  unfold prev0T prev0; simp only [Fin.val_castSucc]
theorem prev0T_succ (c : Dev nD) (t : Fin (cfgA ch).N) : prev0T ch m c t.succ = traj0 ch m c t.val t.isLt := by
  unfold prev0T; simp only [Fin.val_succ, Nat.add_one_ne_zero, ↓reduceDIte, Nat.add_one_sub_one]

/-- THE INVARIANT before point `t`: the scratch buffer at what the points before left (anything before the first), the
    body's halves of the tables, and the random-number register, which the body leaves alone. -/
def Phi (c : Dev nD) (t : Fin ((cfgA ch).N + 1)) : sProp 𝕄 :=
  iprop((∃ a, ⌜sfresh0_0 ch t.val = false → a = (prev0T ch m c t).2⌝ ∗ (scM0_0.view.loc (c : Thread nD τ) ↦{fullShare} a)) ∗ (tbM0_0.view.loc (c : Thread nD τ) ↦{fullShare.right} ch.T0) ∗ (tbM0_1.view.loc (c : Thread nD τ) ↦{fullShare.right} ch.T1) ∗ (tbM0_2.view.loc (c : Thread nD τ) ↦{fullShare.right} ch.T2) ∗ (tbM0_3.view.loc (c : Thread nD τ) ↦{fullShare.right} ch.T3) ∗ (tbM0_4.view.loc (c : Thread nD τ) ↦{fullShare.right} ch.T4) ∗ (tbM0_5.view.loc (c : Thread nD τ) ↦{fullShare.right} ch.T5) ∗ (∃ r, prngReg c r))

/-- The proof data of the one pipeline on core `c`. -/
def dats (_ : Fin 1) (c : Dev nD) : Dat τ (Elt F) Unit ℕ (UR sig nD τ) ℕ (cfgA ch) c where
  A w := V m c (Pipeline.arrRef spec0 w)
  after w t := match w with
    | ⟨0, _⟩ => iblk ch m c (0 : Fin 7) t
    | ⟨1, _⟩ => iblk ch m c (1 : Fin 7) t
    | ⟨2, _⟩ => iblk ch m c (2 : Fin 7) t
    | ⟨3, _⟩ => iblk ch m c (3 : Fin 7) t
    | ⟨4, _⟩ => iblk ch m c (4 : Fin 7) t
    | ⟨5, _⟩ => iblk ch m c (5 : Fin 7) t
    | ⟨6, _⟩ => (traj0 ch m c t.val t.isLt).1
  Φ t := Phi ch m c t
  q _ := fullShare
  owed _ := 0

theorem after0_0 (c : Dev nD) (t : Fin (cfgA ch).N) : (dats ch m 0 c).after (0 : Fin 7) t = iblk ch m c (0 : Fin 7) t := rfl
theorem after0_1 (c : Dev nD) (t : Fin (cfgA ch).N) : (dats ch m 0 c).after (1 : Fin 7) t = iblk ch m c (1 : Fin 7) t := rfl
theorem after0_2 (c : Dev nD) (t : Fin (cfgA ch).N) : (dats ch m 0 c).after (2 : Fin 7) t = iblk ch m c (2 : Fin 7) t := rfl
theorem after0_3 (c : Dev nD) (t : Fin (cfgA ch).N) : (dats ch m 0 c).after (3 : Fin 7) t = iblk ch m c (3 : Fin 7) t := rfl
theorem after0_4 (c : Dev nD) (t : Fin (cfgA ch).N) : (dats ch m 0 c).after (4 : Fin 7) t = iblk ch m c (4 : Fin 7) t := rfl
theorem after0_5 (c : Dev nD) (t : Fin (cfgA ch).N) : (dats ch m 0 c).after (5 : Fin 7) t = iblk ch m c (5 : Fin 7) t := rfl
theorem after0_6 (c : Dev nD) (t : Fin (cfgA ch).N) : (dats ch m 0 c).after (6 : Fin 7) t = (traj0 ch m c t.val t.isLt).1 := rfl

/-- Input window 0 holds its block, fetched there or not. -/
theorem before0_0 (c : Dev nD) (t : Fin (cfgA ch).N) (d) : (dats ch m 0 c).before (0 : Fin 7) t d = iblk ch m c (0 : Fin 7) t :=
  ((dats ch m 0 c).before_in_eq_fetched (0 : Fin 7) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA ch).N) (d) : (dats ch m 0 c).before (1 : Fin 7) t d = iblk ch m c (1 : Fin 7) t :=
  ((dats ch m 0 c).before_in_eq_fetched (1 : Fin 7) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA ch).N) (d) : (dats ch m 0 c).before (2 : Fin 7) t d = iblk ch m c (2 : Fin 7) t :=
  ((dats ch m 0 c).before_in_eq_fetched (2 : Fin 7) rfl (fun _ => rfl) (fun _ _ _ => rfl) (fun t => by rw [after0_2]; unfold Dat.blockOf iblk; rfl) t d).trans
    (by unfold Dat.fetched Dat.blockOf iblk; rfl)

/-- Input window 3 holds its block, fetched there or not. -/
theorem before0_3 (c : Dev nD) (t : Fin (cfgA ch).N) (d) : (dats ch m 0 c).before (3 : Fin 7) t d = iblk ch m c (3 : Fin 7) t :=
  ((dats ch m 0 c).before_in_eq_fetched (3 : Fin 7) rfl (fun _ => rfl) (fun _ _ _ => rfl) (fun t => by rw [after0_3]; unfold Dat.blockOf iblk; rfl) t d).trans
    (by unfold Dat.fetched Dat.blockOf iblk; rfl)

/-- Input window 4 holds its block, fetched there or not. -/
theorem before0_4 (c : Dev nD) (t : Fin (cfgA ch).N) (d) : (dats ch m 0 c).before (4 : Fin 7) t d = iblk ch m c (4 : Fin 7) t :=
  ((dats ch m 0 c).before_in_eq_fetched (4 : Fin 7) rfl (fun _ => rfl) (fun _ _ _ => rfl) (fun t => by rw [after0_4]; unfold Dat.blockOf iblk; rfl) t d).trans
    (by unfold Dat.fetched Dat.blockOf iblk; rfl)

/-- Input window 5 holds its block, fetched there or not. -/
theorem before0_5 (c : Dev nD) (t : Fin (cfgA ch).N) (d) : (dats ch m 0 c).before (5 : Fin 7) t d = iblk ch m c (5 : Fin 7) t :=
  ((dats ch m 0 c).before_in_eq_fetched (5 : Fin 7) rfl (fun _ => rfl) (fun _ _ _ => rfl) (fun t => by rw [after0_5]; unfold Dat.blockOf iblk; rfl) t d).trans
    (by unfold Dat.fetched Dat.blockOf iblk; rfl)

/-- The output's contents carry through the points that leave it idle. -/
theorem hcarry0_6 (c : Dev nD) : ∀ (t : Fin (cfgA ch).N) (ht : t.val ≠ 0), (cfgA ch).idle (6 : Fin 7) ((cfgA ch).grid.coords t) = true → (cfgA ch).fresh (6 : Fin 7) t.val = false →
    (dats ch m 0 c).after (6 : Fin 7) t = (dats ch m 0 c).after (6 : Fin 7) ⟨t.val - 1, by omega⟩ := by
  intro t ht hi hf
  rw [after0_6, after0_6, traj0_eq]
  by_cases q0 : P0_0 ch t
  · by_cases q2 : P0_2 ch t
    · have i6 := (sched0_E ch t q0 q2).1
      rw [i6] at hi; exact absurd hi (by decide)
    · rw [step0_A ch m c t _ q0 q2]
      simp only [hf, Bool.false_eq_true, ↓reduceIte]
      unfold prev0; rw [dif_neg ht]
  · by_cases q1 : P0_1 ch t
    · by_cases q2 : P0_2 ch t
      · have i6 := (sched0_C ch t q0 q1 q2).1
        rw [i6] at hi; exact absurd hi (by decide)
      · rw [step0_B ch m c t _ q0 q1 q2]
        simp only [hf, Bool.false_eq_true, ↓reduceIte]
        unfold prev0; rw [dif_neg ht]
    · rw [step0_D ch m c t _ q0 q1]
      simp only [hf, Bool.false_eq_true, ↓reduceIte]
      unfold prev0; rw [dif_neg ht]

/-- The output's buffer, when the body runs at `t`: junk if nothing was stored since its last write-back, else what the point
    before left. -/
theorem before0_6 (c : Dev nD) (t : Fin (cfgA ch).N) (d) :
    (dats ch m 0 c).before (6 : Fin 7) t d = if (cfgA ch).fresh (6 : Fin 7) t.val then d else (prev0 ch m c t).1 := by
  rw [(dats ch m 0 c).before_out_traj (6 : Fin 7) rfl (fun _ _ => rfl) (hcarry0_6 ch m c) t.val t rfl d]
  by_cases hf : (cfgA ch).fresh (6 : Fin 7) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_6]; unfold prev0; rw [dif_neg h0]

/-! ## The body's obligation, at a generic point, by path -/

/-- The body at point `t` on its staging memrefs, as the pipeline calls it. -/
abbrev bodyAt0 (t : Fin (cfgA ch).N) : Prog (TpuEff nD τ sig (Elt F) Λ₀ .tc) PUnit :=
  cc0_moe_combine (crd ch t) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (Memref.whole cc0_scratch0) (Memref.isWhole_whole _)

set_option maxHeartbeats 16000000 in
/-- THE BODY'S OBLIGATION at point `t`: the decisions there tell the path; the inputs hold their blocks; the path's run applies. -/
theorem sound_body (c : Dev nD) (t : Fin (cfgA ch).N) :
    iprop((dats ch m 0 c).Φ t.castSucc ∗ (dats ch m 0 c).owesAt () t.castSucc
        ∗ (∃ d, owns (c : Thread nD τ) (ms0_0 ch t) fullShare ((dats ch m 0 c).before (0 : Fin 7) t d))
        ∗ (∃ d, owns (c : Thread nD τ) (ms0_1 ch t) fullShare ((dats ch m 0 c).before (1 : Fin 7) t d))
        ∗ (∃ d, owns (c : Thread nD τ) (ms0_2 ch t) fullShare ((dats ch m 0 c).before (2 : Fin 7) t d))
        ∗ (∃ d, owns (c : Thread nD τ) (ms0_3 ch t) fullShare ((dats ch m 0 c).before (3 : Fin 7) t d))
        ∗ (∃ d, owns (c : Thread nD τ) (ms0_4 ch t) fullShare ((dats ch m 0 c).before (4 : Fin 7) t d))
        ∗ (∃ d, owns (c : Thread nD τ) (ms0_5 ch t) fullShare ((dats ch m 0 c).before (5 : Fin 7) t d))
        ∗ (∃ d, owns (c : Thread nD τ) (ms0_6 ch t) fullShare ((dats ch m 0 c).before (6 : Fin 7) t d)))
      ⊢ wp frame (wpE (defs₀ (F := F)) Variants.none c none) Set.univ (bodyAt0 ch t) fun _ =>
          iprop((dats ch m 0 c).Φ t.succ ∗ (dats ch m 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m 0 c).before w t d))
                  | true => owns (c : Thread nD τ) (((cfgA ch).win w).stage ((cfgA ch).slots t w)) fullShare ((dats ch m 0 c).after w t)
                | false => owns (c : Thread nD τ) (((cfgA ch).win w).stage ((cfgA ch).slots t w)) fullShare ((dats ch m 0 c).after w t)) := by
  rw [bigSep_W0]
  by_cases q0 : P0_0 ch t
  · by_cases q2 : P0_2 ch t
    · obtain ⟨i6, fr6, sfn0⟩ := sched0_E ch t q0 q2
      have F0 := hypsR0_E ch t q0 q2
      have k0_h1 := F0.1; have k0_h2 := F0.2.1; have k0_h3 := F0.2.2
      clear F0
      rewrite [i6]
      simp only [before0_0, before0_1, before0_2, before0_3, before0_4, before0_5, before0_6, after0_0, after0_1, after0_2, after0_3, after0_4, after0_5, after0_6]
      simp only [fr6, Bool.false_eq_true, ↓reduceIte]
      rewrite [show (dats ch m 0 c).Φ t.succ = Phi ch m c t.succ from rfl, show (dats ch m 0 c).Φ t.castSucc = Phi ch m c t.castSucc from rfl,
        show (dats ch m 0 c).owesAt () t.succ = (dats ch m 0 c).owesAt () t.castSucc from rfl]
      try rewrite [traj0_eq, step0_E ch m c t _ q0 q2]
      unfold Phi; simp only [prev0T_castSucc, prev0T_succ, traj0_eq, step0_E ch m c t _ q0 q2, Fin.val_castSucc, Fin.val_succ]
      iintro ⟨⟨⟨%a0, %ha0, HS0⟩, HT0, HT1, HT2, HT3, HT4, HT5, Hp⟩, Ho, ⟨%d0, H0⟩, ⟨%d1, H1⟩, ⟨%d2, H2⟩, ⟨%d3, H3⟩, ⟨%d4, H4⟩, ⟨%d5, H5⟩, ⟨%d6, H6⟩⟩
      iapply ((kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) k0_h1 k0_h2 k0_h3).2.2 a0 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [HT2]; · iexact HT2
      isplitl [HT3]; · iexact HT3
      isplitl [HT4]; · iexact HT4
      isplitl [HT5]; · iexact HT5
      isplitl [H6]; · iexists _; iexact H6
      isplitl [HS0]; · iexact HS0
      iintro ⟨H0, H1, H2, H3, H4, H5, HT0, HT1, HT2, HT3, HT4, HT5, ⟨%e6, H6⟩, HS0⟩
      isplitl [HS0 HT0 HT1 HT2 HT3 HT4 HT5 Hp]
      · isplitl [HS0]
        · iexists _; isplitr; swap
          · iexact HS0
          · ipureintro; intro hn; first | rfl | exact absurd hn (by rw [sfn0]; exact Bool.false_ne_true)
        isplitl [HT0]
        · iexact HT0
        isplitl [HT1]
        · iexact HT1
        isplitl [HT2]
        · iexact HT2
        isplitl [HT3]
        · iexact HT3
        isplitl [HT4]
        · iexact HT4
        isplitl [HT5]
        · iexact HT5
        iexact Hp
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      unfold owns; iexists _; isplitr; swap
      · iexact H6
      · ipureintro; exact View.read_writes_of_cover _ _ _ _ _ (cover0_E_6 c _ _ _ _ _ _ _ _ _ _ _ _ _ _ _ _ _ _ _ _ _ _ _ _ _ _ _ _ _ _)
    · obtain ⟨i6, f6, fr6, sfn0⟩ := sched0_A ch t q0 q2
      have F0 := hypsR0_A ch t q0 q2
      have k0_h1 := F0.1; have k0_h2 := F0.2.1; have k0_h3 := F0.2.2
      clear F0
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats ch m 0 c).Φ t.succ = Phi ch m c t.succ from rfl, show (dats ch m 0 c).Φ t.castSucc = Phi ch m c t.castSucc from rfl,
        show (dats ch m 0 c).owesAt () t.succ = (dats ch m 0 c).owesAt () t.castSucc from rfl]
      try rewrite [traj0_eq, step0_A ch m c t _ q0 q2]
      unfold Phi; simp only [prev0T_castSucc, prev0T_succ, traj0_eq, step0_A ch m c t _ q0 q2, Fin.val_castSucc, Fin.val_succ]
      iintro ⟨⟨⟨%a0, %ha0, HS0⟩, HT0, HT1, HT2, HT3, HT4, HT5, Hp⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) k0_h1 k0_h2 k0_h3).2 _ a0 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [HT2]; · iexact HT2
      isplitl [HT3]; · iexact HT3
      isplitl [HT4]; · iexact HT4
      isplitl [HT5]; · iexact HT5
      isplitl [H6]; · iexact H6
      isplitl [HS0]; · iexact HS0
      iintro ⟨H0, H1, H2, H3, H4, H5, HT0, HT1, HT2, HT3, HT4, HT5, H6, HS0⟩
      isplitl [HS0 HT0 HT1 HT2 HT3 HT4 HT5 Hp]
      · isplitl [HS0]
        · iexists _; isplitr; swap
          · iexact HS0
          · ipureintro; intro hn; first | rfl | exact absurd hn (by rw [sfn0]; exact Bool.false_ne_true)
        isplitl [HT0]
        · iexact HT0
        isplitl [HT1]
        · iexact HT1
        isplitl [HT2]
        · iexact HT2
        isplitl [HT3]
        · iexact HT3
        isplitl [HT4]
        · iexact HT4
        isplitl [HT5]
        · iexact HT5
        iexact Hp
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      first | (iexists d6; iexact H6) | iexact H6
  · by_cases q1 : P0_1 ch t
    · by_cases q2 : P0_2 ch t
      · obtain ⟨i6, fr6, sf0, sfn0⟩ := sched0_C ch t q0 q1 q2
        have F0 := hypsR0_C ch t q0 q1 q2
        have k0_h1 := F0.1; have k0_h2 := F0.2.1; have k0_h3 := F0.2.2
        clear F0
        rewrite [i6]
        simp only [before0_0, before0_1, before0_2, before0_3, before0_4, before0_5, before0_6, after0_0, after0_1, after0_2, after0_3, after0_4, after0_5, after0_6]
        simp only [fr6, Bool.false_eq_true, ↓reduceIte]
        rewrite [show (dats ch m 0 c).Φ t.succ = Phi ch m c t.succ from rfl, show (dats ch m 0 c).Φ t.castSucc = Phi ch m c t.castSucc from rfl,
          show (dats ch m 0 c).owesAt () t.succ = (dats ch m 0 c).owesAt () t.castSucc from rfl]
        try rewrite [traj0_eq, step0_C ch m c t _ q0 q1 q2]
        unfold Phi; simp only [prev0T_castSucc, prev0T_succ, traj0_eq, step0_C ch m c t _ q0 q1 q2, Fin.val_castSucc, Fin.val_succ]
        simp only [exists_held sf0]
        iintro ⟨⟨HS0, HT0, HT1, HT2, HT3, HT4, HT5, Hp⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) _ k0_h1 k0_h2 k0_h3).2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        isplitl [HT1]; · iexact HT1
        isplitl [HT2]; · iexact HT2
        isplitl [HT3]; · iexact HT3
        isplitl [HT4]; · iexact HT4
        isplitl [HT5]; · iexact HT5
        isplitl [H6]; · iexists _; iexact H6
        isplitl [HS0]; · iexact HS0
        iintro ⟨H0, H1, H2, H3, H4, H5, HT0, HT1, HT2, HT3, HT4, HT5, ⟨%e6, H6⟩, HS0⟩
        isplitl [HS0 HT0 HT1 HT2 HT3 HT4 HT5 Hp]
        · isplitl [HS0]
          · iexists _; isplitr; swap
            · iexact HS0
            · ipureintro; intro hn; first | rfl | exact absurd hn (by rw [sfn0]; exact Bool.false_ne_true)
          isplitl [HT0]
          · iexact HT0
          isplitl [HT1]
          · iexact HT1
          isplitl [HT2]
          · iexact HT2
          isplitl [HT3]
          · iexact HT3
          isplitl [HT4]
          · iexact HT4
          isplitl [HT5]
          · iexact HT5
          iexact Hp
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        unfold owns; iexists _; isplitr; swap
        · iexact H6
        · ipureintro; exact View.read_writes_of_cover _ _ _ _ _ (cover0_C_6 c _ _ _ _ _ _ _ _ _ _ _ _ _ _ _ _ _ _ _ _ _ _ _ _ _ _ _ _ _ _ _)
      · obtain ⟨i6, f6, fr6, sf0, sfn0⟩ := sched0_B ch t q0 q1 q2
        have F0 := hypsR0_B ch t q0 q1 q2
        have k0_h1 := F0.1; have k0_h2 := F0.2.1; have k0_h3 := F0.2.2
        clear F0
        rewrite [i6]
        simp only [before0_0, before0_1, before0_2, before0_3, before0_4, before0_5, before0_6, after0_0, after0_1, after0_2, after0_3, after0_4, after0_5, after0_6, f6]
        simp only [fr6, Bool.false_eq_true, ↓reduceIte]
        rewrite [show (dats ch m 0 c).Φ t.succ = Phi ch m c t.succ from rfl, show (dats ch m 0 c).Φ t.castSucc = Phi ch m c t.castSucc from rfl,
          show (dats ch m 0 c).owesAt () t.succ = (dats ch m 0 c).owesAt () t.castSucc from rfl]
        try rewrite [traj0_eq, step0_B ch m c t _ q0 q1 q2]
        unfold Phi; simp only [prev0T_castSucc, prev0T_succ, traj0_eq, step0_B ch m c t _ q0 q1 q2, Fin.val_castSucc, Fin.val_succ]
        simp only [exists_held sf0]
        iintro ⟨⟨HS0, HT0, HT1, HT2, HT3, HT4, HT5, Hp⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) _ k0_h1 k0_h2 k0_h3).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        isplitl [HT1]; · iexact HT1
        isplitl [HT2]; · iexact HT2
        isplitl [HT3]; · iexact HT3
        isplitl [HT4]; · iexact HT4
        isplitl [HT5]; · iexact HT5
        isplitl [H6]; · iexact H6
        isplitl [HS0]; · iexact HS0
        iintro ⟨H0, H1, H2, H3, H4, H5, HT0, HT1, HT2, HT3, HT4, HT5, H6, HS0⟩
        isplitl [HS0 HT0 HT1 HT2 HT3 HT4 HT5 Hp]
        · isplitl [HS0]
          · iexists _; isplitr; swap
            · iexact HS0
            · ipureintro; intro hn; first | rfl | exact absurd hn (by rw [sfn0]; exact Bool.false_ne_true)
          isplitl [HT0]
          · iexact HT0
          isplitl [HT1]
          · iexact HT1
          isplitl [HT2]
          · iexact HT2
          isplitl [HT3]
          · iexact HT3
          isplitl [HT4]
          · iexact HT4
          isplitl [HT5]
          · iexact HT5
          iexact Hp
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        first | (iexists d6; iexact H6) | iexact H6
    · obtain ⟨i6, fr6, sf0, sfn0⟩ := sched0_D ch t q0 q1
      have F0 := hypsR0_D ch t q0 q1
      have k0_h1 := F0.1; have k0_h2 := F0.2.1; have k0_h3 := F0.2.2
      clear F0
      cases f6 : ((cfgA ch).win (6 : Fin 7)).flush t
      · rewrite [i6]
        simp only [before0_0, before0_1, before0_2, before0_3, before0_4, before0_5, before0_6, after0_0, after0_1, after0_2, after0_3, after0_4, after0_5, after0_6, f6]
        simp only [fr6, Bool.false_eq_true, ↓reduceIte]
        rewrite [show (dats ch m 0 c).Φ t.succ = Phi ch m c t.succ from rfl, show (dats ch m 0 c).Φ t.castSucc = Phi ch m c t.castSucc from rfl,
          show (dats ch m 0 c).owesAt () t.succ = (dats ch m 0 c).owesAt () t.castSucc from rfl]
        try rewrite [traj0_eq, step0_D ch m c t _ q0 q1]
        unfold Phi; simp only [prev0T_castSucc, prev0T_succ, traj0_eq, step0_D ch m c t _ q0 q1, Fin.val_castSucc, Fin.val_succ]
        simp only [exists_held sf0]
        iintro ⟨⟨HS0, HT0, HT1, HT2, HT3, HT4, HT5, Hp⟩, Ho, ⟨%d0, H0⟩, ⟨%d1, H1⟩, ⟨%d2, H2⟩, ⟨%d3, H3⟩, ⟨%d4, H4⟩, ⟨%d5, H5⟩, ⟨%d6, H6⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) _ k0_h1 k0_h2 k0_h3).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        isplitl [HT1]; · iexact HT1
        isplitl [HT2]; · iexact HT2
        isplitl [HT3]; · iexact HT3
        isplitl [HT4]; · iexact HT4
        isplitl [HT5]; · iexact HT5
        isplitl [H6]; · iexact H6
        isplitl [HS0]; · iexact HS0
        iintro ⟨H0, H1, H2, H3, H4, H5, HT0, HT1, HT2, HT3, HT4, HT5, H6, HS0⟩
        isplitl [HS0 HT0 HT1 HT2 HT3 HT4 HT5 Hp]
        · isplitl [HS0]
          · iexists _; isplitr; swap
            · iexact HS0
            · ipureintro; intro hn; first | rfl | exact absurd hn (by rw [sfn0]; exact Bool.false_ne_true)
          isplitl [HT0]
          · iexact HT0
          isplitl [HT1]
          · iexact HT1
          isplitl [HT2]
          · iexact HT2
          isplitl [HT3]
          · iexact HT3
          isplitl [HT4]
          · iexact HT4
          isplitl [HT5]
          · iexact HT5
          iexact Hp
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        first | (iexists d6; iexact H6) | iexact H6
      · rewrite [i6]
        simp only [before0_0, before0_1, before0_2, before0_3, before0_4, before0_5, before0_6, after0_0, after0_1, after0_2, after0_3, after0_4, after0_5, after0_6, f6]
        simp only [fr6, Bool.false_eq_true, ↓reduceIte]
        rewrite [show (dats ch m 0 c).Φ t.succ = Phi ch m c t.succ from rfl, show (dats ch m 0 c).Φ t.castSucc = Phi ch m c t.castSucc from rfl,
          show (dats ch m 0 c).owesAt () t.succ = (dats ch m 0 c).owesAt () t.castSucc from rfl]
        try rewrite [traj0_eq, step0_D ch m c t _ q0 q1]
        unfold Phi; simp only [prev0T_castSucc, prev0T_succ, traj0_eq, step0_D ch m c t _ q0 q1, Fin.val_castSucc, Fin.val_succ, fr6, Bool.false_eq_true, ↓reduceIte]
        simp only [exists_held sf0]
        iintro ⟨⟨HS0, HT0, HT1, HT2, HT3, HT4, HT5, Hp⟩, Ho, ⟨%d0, H0⟩, ⟨%d1, H1⟩, ⟨%d2, H2⟩, ⟨%d3, H3⟩, ⟨%d4, H4⟩, ⟨%d5, H5⟩, ⟨%d6, H6⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.T0 ch.T1 ch.T2 ch.T3 ch.T4 ch.T5 (iblk ch m c (0 : Fin 7) t) (iblk ch m c (1 : Fin 7) t) (iblk ch m c (2 : Fin 7) t) (iblk ch m c (3 : Fin 7) t) (iblk ch m c (4 : Fin 7) t) (iblk ch m c (5 : Fin 7) t) _ k0_h1 k0_h2 k0_h3).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        isplitl [HT1]; · iexact HT1
        isplitl [HT2]; · iexact HT2
        isplitl [HT3]; · iexact HT3
        isplitl [HT4]; · iexact HT4
        isplitl [HT5]; · iexact HT5
        isplitl [H6]; · iexact H6
        isplitl [HS0]; · iexact HS0
        iintro ⟨H0, H1, H2, H3, H4, H5, HT0, HT1, HT2, HT3, HT4, HT5, H6, HS0⟩
        isplitl [HS0 HT0 HT1 HT2 HT3 HT4 HT5 Hp]
        · isplitl [HS0]
          · iexists _; isplitr; swap
            · iexact HS0
            · ipureintro; intro hn; first | rfl | exact absurd hn (by rw [sfn0]; exact Bool.false_ne_true)
          isplitl [HT0]
          · iexact HT0
          isplitl [HT1]
          · iexact HT1
          isplitl [HT2]
          · iexact HT2
          isplitl [HT3]
          · iexact HT3
          isplitl [HT4]
          · iexact HT4
          isplitl [HT5]
          · iexact HT5
          iexact Hp
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        first | (iexists d6; iexact H6) | iexact H6

/-- The obligation at every point. -/
theorem body_obligation (c : Dev nD) : BodyObligation (dats ch m 0 c) (defs₀ (F := F)) Variants.none () Set.univ := fun t => by
  rw [bigSep_W0]
  exact sound_body ch m c t

/-! ## The launch -/

theorem share_eq (c : Dev nD) (w : Fin (cfgA ch).W) : (dats ch m 0 c).share w = fullShare := by unfold Dat.share; split <;> rfl

/-- The tables as the launch hands them to the region, one by one. -/
theorem prefHeld_eq (c : Dev nD) (q : Fin 6 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2) ∗ (((c : Thread nD τ).loc main_arg3) ↦{q 3} v 3) ∗ (((c : Thread nD τ).loc main_arg4) ↦{q 4} v 4) ∗ (((c : Thread nD τ).loc main_arg5) ↦{q 5} v 5)) :=
  bigSep_univ_eq_bigSepL [(0 : Fin 6), (1 : Fin 6), (2 : Fin 6), (3 : Fin 6), (4 : Fin 6), (5 : Fin 6)] (by decide) (by decide) _

/-- The invariant at the first point from the tables and the scratch buffer; -/
theorem phi0_intro (c : Dev nD) :
    iprop(Pipeline.ΦA (U := UR sig nD τ) (Val := Elt F) spec0 c ∗ Pipeline.ΦT (U := UR sig nD τ) pre0 (adm ch).1 c) ⊢ (dats ch m 0 c).Φ 0 := by
  unfold Pipeline.ΦA Pipeline.ΦT
  rw [prefHeld_eq, scopedRest0_eq, show (dats ch m 0 c).Φ 0 = Phi ch m c 0 from rfl]
  unfold Phi
  iintro ⟨⟨⟨%a0, HS0⟩, Hp⟩, HT0, HT1, HT2, HT3, HT4, HT5⟩
  isplitl [HS0]
  · iexists a0; isplitr; swap
    · iexact HS0
    · ipureintro; intro h; exact absurd (h.symm.trans (show sfresh0_0 ch 0 = true from rfl)) Bool.false_ne_true
  isplitl [HT0]
  · iexact HT0
  isplitl [HT1]
  · iexact HT1
  isplitl [HT2]
  · iexact HT2
  isplitl [HT3]
  · iexact HT3
  isplitl [HT4]
  · iexact HT4
  isplitl [HT5]
  · iexact HT5
  iexact Hp

/-- at the last point it gives the scratch buffer and the register back. -/
theorem phiN_exit (c : Dev nD) : (dats ch m 0 c).Φ (Fin.last (cfgA ch).N) ⊢ Pipeline.ΦA (U := UR sig nD τ) (Val := Elt F) spec0 c := by
  unfold Pipeline.ΦA
  rw [scopedRest0_eq, show (dats ch m 0 c).Φ (Fin.last (cfgA ch).N) = Phi ch m c (Fin.last _) from rfl]
  unfold Phi
  iintro ⟨⟨%a0, -, HS0⟩, -, -, -, -, -, -, Hp⟩
  isplitl [HS0]; · iexists a0; iexact HS0
  iexact Hp

theorem A_eq (c : Dev nD) (w : Fin (cfgA ch).W) : (dats ch m 0 c).A w = V0 m c (Proc.devRef .tc (Pipeline.arrRef spec0 w)) := by
  dsimp only [dats]

theorem V_pre (hp : Pinned ch m) (c : Dev nD) (j : Fin 6) : V0 m c (Proc.devRef .tc (pre0.ref j)) = (adm ch).1 j := by
  fin_cases j
  · exact (V_main_arg0 m c).trans (hp c).1
  · exact (V_main_arg1 m c).trans (hp c).2.1
  · exact (V_main_arg2 m c).trans (hp c).2.2.1
  · exact (V_main_arg3 m c).trans (hp c).2.2.2.1
  · exact (V_main_arg4 m c).trans (hp c).2.2.2.2.1
  · exact (V_main_arg5 m c).trans (hp c).2.2.2.2.2

set_option backward.isDefEq.respectTransparency.types false in
set_option maxHeartbeats 4000000 in
/-- From any memory with zero counters whose tables are `ch`'s: every weakly fair execution of @main on the TensorCores
    terminates, and every final state has each array at the computed contents, what the host line after the launch computes
    from them, and every semaphore counter at zero. -/
theorem run_main_quiescent (hp : Pinned ch m) : θ_run (defs (F := F)) (onTc (τ := τ) (main (F := F))) (s₀ m ρ) (fun r => (Pipeline.FramePost (pcs ch) (dats ch m) 0 (Pipeline.afterTail pcfgs (fun _ => adm ch) (dats ch m) 0 (V0 m) [hostOps1])) r ∧ r.2.sem = fun _ => 0) :=
  Pipeline.θ_run_frameP_around_track (Q' := _) pcfgs (fun _ => adm ch) (dats ch m) (0 : Fin 1) launch0 defs₀ Variants.none m ρ main
    (hbody := fun c => (body_obligation ch m c).loose) (hshare := fun c => share_eq ch m c)
    (howed := fun _ _ => rfl) (V₀ := V0 m) (opss := [hostOps1]) (hsub := sfx_sub) (hfresh := sfx_fresh) (hkeep := sfx_keeps)
    (hmain := hmain m Variants.none) (hA := A_eq ch m) (hpf := V_pre ch m hp) (hin := phi0_intro ch m) (hout := phiN_exit ch m)

/-- `run_main_quiescent` without the counters. -/
theorem run_main (hp : Pinned ch m) : θ_run (defs (F := F)) (onTc (τ := τ) (main (F := F))) (s₀ m ρ) (Pipeline.FramePost (pcs ch) (dats ch m) 0 (Pipeline.afterTail pcfgs (fun _ => adm ch) (dats ch m) 0 (V0 m) [hostOps1])) :=
  (θ_run defs _ _).mono (fun _ h => h.1) (run_main_quiescent ch m ρ hp)

/-- The host line after the launch does not write `main_arg0`, which is no array of the pipeline: it ends as launched. -/
theorem W_main_arg0 (c : Dev nD) :
    Pipeline.afterTail pcfgs (fun _ => adm ch) (dats ch m) 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
/-- The host line after the launch does not write `main_arg1`, which is no array of the pipeline: it ends as launched. -/
theorem W_main_arg1 (c : Dev nD) :
    Pipeline.afterTail pcfgs (fun _ => adm ch) (dats ch m) 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c
/-- The host line after the launch does not write `main_arg2`, which is no array of the pipeline: it ends as launched. -/
theorem W_main_arg2 (c : Dev nD) :
    Pipeline.afterTail pcfgs (fun _ => adm ch) (dats ch m) 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c
/-- The host line after the launch does not write `main_arg3`, which is no array of the pipeline: it ends as launched. -/
theorem W_main_arg3 (c : Dev nD) :
    Pipeline.afterTail pcfgs (fun _ => adm ch) (dats ch m) 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c
/-- The host line after the launch does not write `main_arg4`, which is no array of the pipeline: it ends as launched. -/
theorem W_main_arg4 (c : Dev nD) :
    Pipeline.afterTail pcfgs (fun _ => adm ch) (dats ch m) 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c
/-- The host line after the launch does not write `main_arg5`, which is no array of the pipeline: it ends as launched. -/
theorem W_main_arg5 (c : Dev nD) :
    Pipeline.afterTail pcfgs (fun _ => adm ch) (dats ch m) 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c
/-- The host line after the launch does not write `main_arg9`, which is no array of the pipeline: it ends as launched. -/
theorem W_main_arg9 (c : Dev nD) :
    Pipeline.afterTail pcfgs (fun _ => adm ch) (dats ch m) 0 (V0 m) [hostOps1] c main_arg9 = m ((c : Thread nD τ).loc main_arg9) := by
  unfold Pipeline.afterTail
  rw [StableHlo.after_of_forall_not_mem (b := Proc.devRef .tc main_arg9) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c
/-- The host line after the launch does not write `main_arg10`, which is no array of the pipeline: it ends as launched. -/
theorem W_main_arg10 (c : Dev nD) :
    Pipeline.afterTail pcfgs (fun _ => adm ch) (dats ch m) 0 (V0 m) [hostOps1] c main_arg10 = m ((c : Thread nD τ).loc main_arg10) := by
  unfold Pipeline.afterTail
  rw [StableHlo.after_of_forall_not_mem (b := Proc.devRef .tc main_arg10) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg10 (by exact (by decide : ∀ w, Pipeline.arrRef spec0 w ≠ main_arg10))]
  exact V_main_arg10 m c
/-- The host line after the launch does not write `main_arg11`, which is no array of the pipeline: it ends as launched. -/
theorem W_main_arg11 (c : Dev nD) :
    Pipeline.afterTail pcfgs (fun _ => adm ch) (dats ch m) 0 (V0 m) [hostOps1] c main_arg11 = m ((c : Thread nD τ).loc main_arg11) := by
  unfold Pipeline.afterTail
  rw [StableHlo.after_of_forall_not_mem (b := Proc.devRef .tc main_arg11) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg11 (by exact (by decide : ∀ w, Pipeline.arrRef spec0 w ≠ main_arg11))]
  exact V_main_arg11 m c

/-- `frame` without the counters: the argument arrays end unchanged. -/
theorem unchanged (hp : Pinned ch m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by exact (by decide : ∀ w : Fin 7, (spec0 w).arr.view.ref ≠ main_arg0)))).trans (W_main_arg0 ch m c),
      ((h c).2 main_arg1 (Pipeline.mem_restRefs_of main_arg1 (by decide) (by exact (by decide : ∀ w : Fin 7, (spec0 w).arr.view.ref ≠ main_arg1)))).trans (W_main_arg1 ch m c),
      ((h c).2 main_arg2 (Pipeline.mem_restRefs_of main_arg2 (by decide) (by exact (by decide : ∀ w : Fin 7, (spec0 w).arr.view.ref ≠ main_arg2)))).trans (W_main_arg2 ch m c),
      ((h c).2 main_arg3 (Pipeline.mem_restRefs_of main_arg3 (by decide) (by exact (by decide : ∀ w : Fin 7, (spec0 w).arr.view.ref ≠ main_arg3)))).trans (W_main_arg3 ch m c),
      ((h c).2 main_arg4 (Pipeline.mem_restRefs_of main_arg4 (by decide) (by exact (by decide : ∀ w : Fin 7, (spec0 w).arr.view.ref ≠ main_arg4)))).trans (W_main_arg4 ch m c),
      ((h c).2 main_arg5 (Pipeline.mem_restRefs_of main_arg5 (by decide) (by exact (by decide : ∀ w : Fin 7, (spec0 w).arr.view.ref ≠ main_arg5)))).trans (W_main_arg5 ch m c),
      ((h c).1 (0 : Fin 7)).trans (((dats ch m 0 c).arrAt_in (0 : Fin 7) rfl _).trans ((A_eq ch m c _).trans (V_main_arg6 m c))),
      ((h c).1 (1 : Fin 7)).trans (((dats ch m 0 c).arrAt_in (1 : Fin 7) rfl _).trans ((A_eq ch m c _).trans (V_main_arg7 m c))),
      ((h c).1 (2 : Fin 7)).trans (((dats ch m 0 c).arrAt_in (2 : Fin 7) rfl _).trans ((A_eq ch m c _).trans (V_main_arg8 m c))),
      ((h c).2 main_arg9 (Pipeline.mem_restRefs_of main_arg9 (by decide) (by exact (by decide : ∀ w : Fin 7, (spec0 w).arr.view.ref ≠ main_arg9)))).trans (W_main_arg9 ch m c),
      ((h c).2 main_arg10 (Pipeline.mem_restRefs_of main_arg10 (by decide) (by exact (by decide : ∀ w : Fin 7, (spec0 w).arr.view.ref ≠ main_arg10)))).trans (W_main_arg10 ch m c),
      ((h c).2 main_arg11 (Pipeline.mem_restRefs_of main_arg11 (by decide) (by exact (by decide : ∀ w : Fin 7, (spec0 w).arr.view.ref ≠ main_arg11)))).trans (W_main_arg11 ch m c)⟩) (run_main ch m ρ hp)

/-- THE FRAME at given tables: from a launch memory that holds them, every weakly fair execution terminates, nothing faults,
    every argument array ends unchanged and every semaphore counter reads zero at every final state. -/
theorem frame (hp : Pinned ch m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged ch m ρ hp) ((θ_run defs _ _).mono (fun _ h => h.2) (run_main_quiescent ch m ρ hp))

end Cert.MixCombine

end
-- ==== Proof.Combine.Pre.lean ====
/- What the precondition says of the tables, pair by pair, read back from the printed predicate; and the frames of the combine at
   the machine's floats and at the reals. -/
module

public import proofs.«01_k».proof.Proof.Combine.Frame
public import proofs.«01_k».proof.Proof.Gen.Combine
public import proofs.«01_k».proof.Proof.Gen.Pre_planned
public import Idealize.ShloMosaic.Lib.ReduceAll
public import Idealize.ShloMosaic.Lib.WordCmp
public import Idealize.ShloMosaic.Lib.Pointwise

@[expose] public section

set_option maxRecDepth 16384

noncomputable section

namespace Cert.MixCombine

open Cert.CombineIdeal Cert.CombineIdeal.Gen
open Idealize.ShloMosaic
open Idealize.ShloMosaic.TcCoe
open Idealize.SL.Sem

variable {F : FTy → Type} [FloatOps F]

/-! ## One-bit words -/

theorem not_one (c : BitVec 1) : ~~~c = 1#1 ↔ ¬c = 1#1 := by revert c; decide
theorem bit_eq (c d : BitVec 1) : IntOp.cmpi .eq c d = 1#1 ↔ (c = 1#1 ↔ d = 1#1) := by revert c d; decide

/-- A conjunction over a finite type. -/
theorem fold_andi {ι : Type} [Fintype ι] (f : ι → BitVec 1) : Finset.fold IntOp.andi (1#1) f Finset.univ = 1#1 ↔ ∀ x, f x = 1#1 := by
  classical
  have h : ∀ s : Finset ι, Finset.fold IntOp.andi (1#1) f s = 1#1 ↔ ∀ x ∈ s, f x = 1#1 := fun s => by
    induction s using Finset.induction_on with
    | empty => simp
    | insert a s ha ih => rw [Finset.fold_insert ha, IntOp.andi_eq_one, ih]; simp
  exact (h _).trans (by simp)

/-! ## Words against numbers -/

theorem word_eq_nat (x : BitVec 32) (n : ℕ) (hn : n < 2 ^ 32) : x = BitVec.ofNat 32 n ↔ x.toNat = n := by
  rw [← BitVec.toNat_inj, BitVec.toNat_ofNat, Nat.mod_eq_of_lt hn]

/-- A signed bound below 2³¹ on a word that is not negative is the bound on its value. -/
theorem word_lt (x : BitVec 32) (k : ℕ) (hk : k < 2 ^ 31) (h0 : (0 : ℤ) ≤ x.toInt) (h1 : x.toInt < k) : x.toNat < k := by
  have hx := x.isLt
  rw [BitVec.toInt_eq_toNat_cond] at h0 h1
  split at h0 <;> omega

theorem int_of_lt (x : BitVec 32) (h : x.toNat < 2 ^ 31) : x.toInt = x.toNat := by
  rw [BitVec.toInt_eq_toNat_cond, if_pos (by omega)]

theorem mul_nat (c : ℕ) (x : BitVec 32) (h : c * x.toNat < 2 ^ 31) (hc : c < 2 ^ 31) : (IntOp.muli (BitVec.ofNat 32 c) x).toNat = c * x.toNat := by
  show (BitVec.ofNat 32 c * x).toNat = _
  rw [BitVec.toNat_mul, BitVec.toNat_ofNat, Nat.mod_eq_of_lt (show c < 2 ^ 32 by omega), Nat.mod_eq_of_lt (by omega)]

theorem add_nat (c : ℕ) (x : BitVec 32) (h : x.toNat + c < 2 ^ 31) : (IntOp.addi x (BitVec.ofNat 32 c)).toNat = x.toNat + c := by
  show (x + BitVec.ofNat 32 c).toNat = _
  rw [BitVec.toNat_add, BitVec.toNat_ofNat, Nat.mod_eq_of_lt (show c < 2 ^ 32 by omega), Nat.mod_eq_of_lt (by omega)]

/-- The conjuncts of the precondition, as numbers: at one pair, at two pairs, and at one token's row for one expert. -/
structure Planned (a0 a1 a2 a3 a4 a5 : IVec S208 32) (a7 : IVec S16384x8 32) : Prop where
  bounds : ∀ k : Fin 208, (a0 (ix1 k)).toNat < 16 ∧ (a1 (ix1 k)).toNat < 80 ∧ (a2 (ix1 k)).toNat < 8
  start : ∀ k : Fin 208, k.val = 0 → (a0 (ix1 k)).toNat = 0 ∧ (a5 (ix1 k)).toNat = 1 ∧ (a3 (ix1 k)).toNat = 1
  fin : ∀ k : Fin 208, k.val = 207 → (a0 (ix1 k)).toNat = 15 ∧ ((a4 (ix1 k)).toNat = 1 ↔ (a5 (ix1 k)).toNat = 1)
  step : ∀ k k' : Fin 208, k'.val = k.val + 1 →
    (((((a0 (ix1 k')).toNat = (a0 (ix1 k)).toNat ∨ (a0 (ix1 k')).toNat = (a0 (ix1 k)).toNat + 1)
      ∧ ((a5 (ix1 k)).toNat = 1 ∨ ¬(a5 (ix1 k')).toNat = 1))
      ∧ ((a5 (ix1 k')).toNat = 1 ∨ (a0 (ix1 k')).toNat = (a0 (ix1 k)).toNat))
      ∧ ((a3 (ix1 k')).toNat = 1 ↔ (a0 (ix1 k')).toNat = (a0 (ix1 k)).toNat + 1))
      ∧ ((a4 (ix1 k)).toNat = 1 ↔ (a5 (ix1 k)).toNat = 1 ∧ ¬((a5 (ix1 k')).toNat = 1 ∧ (a0 (ix1 k')).toNat = (a0 (ix1 k)).toNat))
  once : ∀ k k' : Fin 208, (a5 (ix1 k)).toNat = 1 → (a5 (ix1 k')).toNat = 1 → (a0 (ix1 k')).toNat = (a0 (ix1 k)).toNat →
    (a2 (ix1 k)).toNat = (a2 (ix1 k')).toNat → (a1 (ix1 k)).toNat = (a1 (ix1 k')).toNat → k = k'
  placed : ∀ (t : Fin 16384) (e : Fin 8), (a7 (ix2 t e)).toNat < 2 ^ 31 → ∃ k : Fin 208, (a5 (ix1 k)).toNat = 1
    ∧ 1024 * (a0 (ix1 k)).toNat ≤ t.val ∧ t.val < 1024 * (a0 (ix1 k)).toNat + 1024 ∧ (a2 (ix1 k)).toNat = e.val
    ∧ 512 * (a1 (ix1 k)).toNat ≤ (a7 (ix2 t e)).toNat ∧ (a7 (ix2 t e)).toNat < 512 * (a1 (ix1 k)).toNat + 512

set_option maxHeartbeats 4000000 in
theorem planned_of_pre (a0 a1 a2 a3 a4 a5 : IVec S208 32) (a6 : FVec F S40960x1024 .bf16) (a7 : IVec S16384x8 32) (a8 : FVec F S16384x8 .f32)
    (a9 : FVec F S2x8192x1024 .f32) (a10 : FVec F S2x6x1024 .f32) (a11 : FVec F S1024 .f32)
    (h : Cert.Pre_planned.fn (F := F) a0 a1 a2 a3 a4 a5 a6 a7 a8 a9 a10 a11 = fun _ => 1#1) : Planned a0 a1 a2 a3 a4 a5 a7 := by
  have e0 := congrFun h (fun a => a.elim0)
  unfold Cert.Pre_planned.fn Cert.Pre_planned.fn_part1 Cert.Pre_planned.fn_part2 Cert.Pre_planned.fn_part3 Cert.Pre_planned.fn_part4 Cert.Pre_planned.fn_part5 Cert.Pre_planned.fn_part6 Cert.Pre_planned.fn_part7 Cert.Pre_planned.fn_part8 at e0
  obtain ⟨e1, h6⟩ := IntOp.andi_eq_one.1 e0
  obtain ⟨e2, h5⟩ := IntOp.andi_eq_one.1 e1
  obtain ⟨e3, h4⟩ := IntOp.andi_eq_one.1 e2
  obtain ⟨e4, h3⟩ := IntOp.andi_eq_one.1 e3
  obtain ⟨h1, h2⟩ := IntOp.andi_eq_one.1 e4
  clear e0 e1 e2 e3 e4 h
  haveI : Subsingleton Cert.Pre_planned.S_.Idx := ⟨fun a b => funext fun k => k.elim0⟩
  have b : ∀ k : Fin 208, (a0 (ix1 k)).toNat < 16 ∧ (a1 (ix1 k)).toNat < 80 ∧ (a2 (ix1 k)).toNat < 8 := fun k => by
    have g := Host.reduce_andi_all _ _ _ _ _ h1 (ix1 k)
    pointwise at g
    simp only [IntOp.andi_eq_one, IntOp.cmpi_sge, IntOp.cmpi_slt] at g
    obtain ⟨⟨⟨⟨⟨g1, g2⟩, g3⟩, g4⟩, g5⟩, g6⟩ := g
    exact ⟨word_lt _ 16 (by norm_num) g1 g2, word_lt _ 80 (by norm_num) g3 g4, word_lt _ 8 (by norm_num) g5 g6⟩
  have one : ∀ x : BitVec 32, x = 1#32 ↔ x.toNat = 1 := fun x => word_eq_nat x 1 (by norm_num)
  have zero : ∀ x : BitVec 32, x = 0#32 ↔ x.toNat = 0 := fun x => word_eq_nat x 0 (by norm_num)
  have w15 : ∀ x : BitVec 32, x = 15#32 ↔ x.toNat = 15 := fun x => word_eq_nat x 15 (by norm_num)
  have same : ∀ x y : BitVec 32, x = y ↔ x.toNat = y.toNat := fun x y => BitVec.toNat_inj.symm
  have nxt : ∀ k k' : Fin 208, (IntOp.addi (a0 (ix1 k)) 1#32).toNat = (a0 (ix1 k)).toNat + 1 := fun k k' =>
    add_nat 1 _ (by have := (b k).1; omega)
  refine ⟨b, ?_, ?_, ?_, ?_, ?_⟩
  · intro k hk
    have g := Host.reduce_andi_all _ _ _ _ _ h2 (ix1 k)
    pointwise at g
    simp only [IntOp.andi_eq_one, IntOp.ori_eq_one, IntOp.cmpi_eq, IntOp.cmpi_ne, one, zero] at g
    rcases g with g | ⟨⟨g1, g2⟩, g3⟩
    · exact absurd (by rw [hk]) g
    · exact ⟨g1, g2, g3⟩
  · intro k hk
    have g := Host.reduce_andi_all _ _ _ _ _ h3 (ix1 k)
    pointwise at g
    simp only [IntOp.andi_eq_one, IntOp.ori_eq_one, bit_eq] at g
    simp only [IntOp.cmpi_eq, IntOp.cmpi_ne, one, w15] at g
    rcases g with g | g
    · exact absurd (by rw [hk]) g
    · exact g
  · intro k k' hk
    have g := Host.reduce_andi_all _ _ _ _ _ h4 (ix2 k k')
    pointwise at g
    simp only [IntOp.andi_eq_one, IntOp.ori_eq_one, not_one, bit_eq] at g
    simp only [IntOp.cmpi_eq, IntOp.cmpi_ne, same, nxt k k'] at g
    rcases g with g | g
    · refine absurd (BitVec.eq_of_toNat_eq ?_) g
      rw [show (IntOp.addi (BitVec.ofNat 32 k.val) 1#32).toNat = (BitVec.ofNat 32 k.val).toNat + 1 from
        add_nat 1 _ (by rw [BitVec.toNat_ofNat]; have := k.isLt; omega), BitVec.toNat_ofNat, BitVec.toNat_ofNat]
      have := k.isLt
      omega
    · exact g
  · intro k k' v v' hj he hd
    have g := Host.reduce_andi_all _ _ _ _ _ h5 (ix2 k k')
    pointwise at g
    simp only [IntOp.andi_eq_one, IntOp.ori_eq_one, not_one] at g
    simp only [IntOp.cmpi_eq, same] at g
    rcases g with g | g
    · rw [BitVec.toNat_ofNat, BitVec.toNat_ofNat] at g
      have := k.isLt; have := k'.isLt
      apply Fin.ext; omega
    · exact absurd ⟨⟨⟨⟨v, v'⟩, hj⟩, he⟩, hd⟩ g
  · intro t e hp
    have g := Host.reduce_andi_all _ _ _ _ _ h6 (ix2 t e)
    pointwise at g
    rw [IntOp.ori_eq_one, not_one, fold_andi] at g
    rcases g with g | g
    · rw [IntOp.cmpi_slt, int_of_lt _ hp] at g
      exact absurd g (by show ¬((_ : ℕ) : ℤ) < (0 : ℤ); omega)
    · obtain ⟨k, g⟩ := not_forall.mp g
      rw [not_one, not_not] at g
      obtain ⟨bj, bd, be⟩ := b k
      have t1 := t.isLt; have t2 := e.isLt
      have m1 : (IntOp.muli 1024#32 (a0 (ix1 k))).toNat = 1024 * (a0 (ix1 k)).toNat := mul_nat 1024 _ (by omega) (by norm_num)
      have m2 : (IntOp.muli 512#32 (a1 (ix1 k))).toNat = 512 * (a1 (ix1 k)).toNat := mul_nat 512 _ (by omega) (by norm_num)
      have m3 : (IntOp.addi (IntOp.muli 1024#32 (a0 (ix1 k))) 1024#32).toNat = 1024 * (a0 (ix1 k)).toNat + 1024 :=
        (add_nat 1024 _ (by omega)).trans (by rw [m1])
      have m4 : (IntOp.addi (IntOp.muli 512#32 (a1 (ix1 k))) 512#32).toNat = 512 * (a1 (ix1 k)).toNat + 512 :=
        (add_nat 512 _ (by omega)).trans (by rw [m2])
      have m5 : (BitVec.ofNat 32 t.val).toNat = t.val := by rw [BitVec.toNat_ofNat]; omega
      have m6 : (BitVec.ofNat 32 e.val).toNat = e.val := by rw [BitVec.toNat_ofNat]; omega
      simp only [IntOp.andi_eq_one, IntOp.cmpi_eq, IntOp.cmpi_sle, IntOp.cmpi_slt, same] at g
      rw [int_of_lt _ (show (IntOp.muli 1024#32 (a0 (ix1 k))).toNat < 2 ^ 31 by omega), int_of_lt _ (show (BitVec.ofNat 32 t.val).toNat < 2 ^ 31 by omega),
        int_of_lt _ (show (IntOp.addi (IntOp.muli 1024#32 (a0 (ix1 k))) 1024#32).toNat < 2 ^ 31 by omega),
        int_of_lt _ (show (IntOp.muli 512#32 (a1 (ix1 k))).toNat < 2 ^ 31 by omega), int_of_lt _ hp,
        int_of_lt _ (show (IntOp.addi (IntOp.muli 512#32 (a1 (ix1 k))) 512#32).toNat < 2 ^ 31 by omega), m1, m2, m3, m4, m5, m6] at g
      obtain ⟨⟨⟨⟨⟨g1, g2⟩, g3⟩, g4⟩, g5⟩, g6⟩ := g
      exact ⟨k, g1, by exact_mod_cast g2, by exact_mod_cast g3, g4, by exact_mod_cast g5, by exact_mod_cast g6⟩

/-! ## The tables of such arguments -/

theorem ixK_eq (k : Fin 208) : ixK k.val k.isLt = ix1 k := by
  funext a
  obtain rfl : a = (0 : Fin 1) := Subsingleton.elim (α := Fin 1) _ _
  rfl

theorem ent_fin (T : IVec S208 32) (k : ℕ) (hk : k < 208) : ent T k = (T (ix1 ⟨k, hk⟩)).toNat := by
  unfold ent
  rw [dif_pos hk]
  exact congrArg (fun z => (T z).toNat) (ixK_eq ⟨k, hk⟩)

/-- The precondition makes the arguments tables. -/
def tablesOf (a0 a1 a2 a3 a4 a5 : IVec S208 32) (a7 : IVec S16384x8 32) (h : Planned a0 a1 a2 a3 a4 a5 a7) : Tables F where
  T0 := a0
  T1 := a1
  T2 := a2
  T3 := a3
  T4 := a4
  T5 := a5
  tj_lt k hk := by rw [ent_fin _ k hk]; exact (h.bounds _).1
  td_lt k hk := by rw [ent_fin _ k hk]; exact (h.bounds _).2.1
  te_lt k hk := by rw [ent_fin _ k hk]; exact (h.bounds _).2.2
  tj_0 := by rw [ent_fin _ 0 (by norm_num)]; exact (h.start _ rfl).1
  tf_0 := by rw [ent_fin _ 0 (by norm_num)]; exact (h.start _ rfl).2.2
  tv_0 := by rw [ent_fin _ 0 (by norm_num)]; exact (h.start _ rfl).2.1
  tj_end := by rw [ent_fin _ 207 (by norm_num)]; exact (h.fin _ rfl).1
  tl_end := by rw [ent_fin _ 207 (by norm_num), ent_fin _ 207 (by norm_num)]; exact (h.fin _ rfl).2
  tj_step k hk := by
    rw [ent_fin _ (k + 1) hk, ent_fin _ k (by omega)]
    exact (h.step ⟨k, by omega⟩ ⟨k + 1, hk⟩ rfl).1.1.1.1
  tv_step k hk := by
    rw [ent_fin _ (k + 1) hk, ent_fin _ k (by omega)]
    intro g
    exact (h.step ⟨k, by omega⟩ ⟨k + 1, hk⟩ rfl).1.1.1.2.resolve_right (fun x => x g)
  tv_stay k hk := by
    rw [ent_fin _ (k + 1) hk, ent_fin _ (k + 1) hk, ent_fin _ k (by omega)]
    intro g
    exact (h.step ⟨k, by omega⟩ ⟨k + 1, hk⟩ rfl).1.1.2.resolve_left g
  tf_step k hk := by
    rw [ent_fin _ (k + 1) hk, ent_fin _ (k + 1) hk, ent_fin _ k (by omega)]
    exact (h.step ⟨k, by omega⟩ ⟨k + 1, hk⟩ rfl).1.2
  tl_step k hk := by
    rw [ent_fin _ (k + 1) hk, ent_fin _ (k + 1) hk, ent_fin _ k (by omega), ent_fin _ k (by omega), ent_fin _ k (by omega)]
    exact (h.step ⟨k, by omega⟩ ⟨k + 1, hk⟩ rfl).2

/-- One device, so its tables are the tables. -/
theorem exists_tables (m : (ℓ : Loc nD τ sig) → Buf (Elt F) ℓ)
    (h : ∀ c : Dev nD, Cert.Pre_planned.fn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = fun _ => 1#1) :
    ∃ ch : Tables F, Pinned ch m ∧ ∀ c : Dev nD, Planned ch.T0 ch.T1 ch.T2 ch.T3 ch.T4 ch.T5 (m ((c : Thread nD τ).loc main_arg7)) := by
  have hc : ∀ c : Dev nD, c = 0 := by decide
  have hP := planned_of_pre _ _ _ _ _ _ _ _ _ _ _ _ (h 0)
  refine ⟨tablesOf _ _ _ _ _ _ _ hP, fun c => ?_, fun c => ?_⟩
  · rw [hc c]
    exact ⟨rfl, rfl, rfl, rfl, rfl, rfl⟩
  · rw [hc c]
    exact hP

/-- The frame of the kernel at the reals. -/
theorem frame_ideal : Cert.quiescent_CombineIdeal := fun m ρ hpre => by
  obtain ⟨ch, hp, -⟩ := exists_tables (F := Ideal) m hpre
  exact frame ch m ρ hp

/-- The two printed kernels are one text: their body tables are equal, -/
theorem bodies_eq : Cert.Combine.defs₀ (F := Bits) = Cert.CombineIdeal.defs₀ (F := Bits) := by
  unfold Cert.Combine.defs₀ Cert.CombineIdeal.defs₀
  apply congrArg Defs.onTc
  funext l a
  obtain ⟨l, hl⟩ := l
  obtain rfl : l = 0 := by have : l < 1 := hl; omega
  rfl

theorem defs_eq : Cert.Combine.defs (F := Bits) = Cert.CombineIdeal.defs (F := Bits) := by
  unfold Cert.Combine.defs Cert.CombineIdeal.defs
  exact congrArg (Pipeline.defs (Cert.CombineIdeal.pcfgs (F := Bits))) bodies_eq

set_option maxHeartbeats 2000000 in
/-- and so are their main programs. -/
theorem main_eq : Cert.Combine.main (F := Bits) = Cert.CombineIdeal.main (F := Bits) := by
  unfold Cert.Combine.main Cert.CombineIdeal.main
  congr 1

/-- The frame of the kernel at the machine's floats: the same text, so the same run. -/
theorem frame_bits : Cert.quiescent_Combine := fun m ρ hpre => by
  obtain ⟨ch, hp, -⟩ := exists_tables (F := Bits) m hpre
  rw [defs_eq, main_eq]
  exact frame (F := Bits) ch m ρ hp

end Cert.MixCombine

end
-- ==== Proof.Combine.Stage.lean ====
/- What the combine's body computes at a grid point: the accumulator is set to zero at a tile's first pair, each pair adds its
   gathered rows, and the tile's last pair finishes the rows and stores them. -/
module

public import proofs.«01_k».proof.Proof.Combine.Frame
public import Idealize.ShloMosaic.Lib.Pipeline.Value

@[expose] public section

set_option maxRecDepth 16384

noncomputable section

namespace Cert.MixCombine

open Cert.CombineIdeal Cert.CombineIdeal.Gen
open Idealize.ShloMosaic
open Idealize.ShloMosaic.TcCoe Idealize.ShloMosaic.Tactic
open Idealize.SL Idealize.SL.RA Idealize.SL.BI
open scoped Idealize.SL.BI
open Idealize.SL.Sem

variable {F : FTy → Type} [FloatOps F]

theorem hz2 : (![0, 0] : Fin 2 → Nat) = fun _ => 0 := funext fun a => by fin_cases a <;> rfl

/-- A store through a whole view, last, leaves its payload. -/
theorem read_whole_store1 {sig : RefSig} {κ : Kind} {sp : Space} {S : Shape} {e : EltTy} (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  subst h
  funext y
  have hr := View.read_writes_cons_emb (v := v) (f := f) (Rect.whole S) w L y
  rw [Rect.emb_whole_apply] at hr
  exact hr

/-- The word of a table the body reads at a point. -/
def wd (T : S208.Idx → BitVec 32) (i : grid0.Coords) : BitVec 32 :=
  T ((Rect.unit (s := S208) (k0_off3 i) S1.size (k0_off3_inb i)).toLoadRect.idx (Shape.Idx.first (numel1_S1.symm ▸ Nat.one_pos)))

/-- The row of the modulation's block the body reads. -/
def mrow (x4 : S1x8x1024.Idx → Elt F .f32) : S1x1x1024.Idx → Elt F .f32 := fun y =>
  x4 ((Rect.unit (s := S1x8x1024) ![0, 5, 0] S1x1x1024.size inb_S1x8x1024_S1x1x1024_0_5_0).toLoadRect.idx y)

/-- A tile's first pair: the accumulator ends holding zero plus the pair's rows. -/
theorem scratch_A (c : Dev nD) (i : grid0.Coords) (arg7 : Memref sig .tc .vmem S512x1024 .bf16) (harg7 : arg7.IsWhole) (arg8 : Memref sig .tc .vmem S1024x8 .i32) (harg8 : arg8.IsWhole) (arg9 : Memref sig .tc .vmem S1024x8 .f32) (harg9 : arg9.IsWhole) (arg10 : Memref sig .tc .vmem S1024x1024 .f32) (harg10 : arg10.IsWhole) (arg11 : Memref sig .tc .vmem S1x8x1024 .f32) (harg11 : arg11.IsWhole) (arg12 : Memref sig .tc .vmem S1x1024 .f32) (harg12 : arg12.IsWhole) (arg13 : Memref sig .tc .vmem S1024x1024 .f32) (harg13 : arg13.IsWhole) (T0 : (S208.Idx → Elt F .i32)) (T1 : (S208.Idx → Elt F .i32)) (T2 : (S208.Idx → Elt F .i32)) (T3 : (S208.Idx → Elt F .i32)) (T4 : (S208.Idx → Elt F .i32)) (T5 : (S208.Idx → Elt F .i32))
     (x0 : (S512x1024.Idx → Elt F .bf16)) (x1 : (S1024x8.Idx → Elt F .i32)) (x2 : (S1024x8.Idx → Elt F .f32)) (x3 : (S1024x1024.Idx → Elt F .f32)) (x4 : (S1x8x1024.Idx → Elt F .f32)) (x5 : (S1x1024.Idx → Elt F .f32)) (k0_h1 : (Scalar.cmpi .ne (Scalar.extui (Scalar.cmpi .eq (View.readAt (Elt F) (tbM0_3).view (Rect.unit (s := S208) (k0_off1 i) S1.size (k0_off1_inb i)).toLoadRect T3 (Shape.Idx.first (numel1_S1.symm ▸ Nat.one_pos))) 1#32)) 0#32) = 1#1) (k0_h2 : (Scalar.cmpi .ne (Scalar.extui (Scalar.cmpi .eq (View.readAt (Elt F) (tbM0_5).view (Rect.unit (s := S208) (k0_off2 i) S1.size (k0_off2_inb i)).toLoadRect T5 (Shape.Idx.first (numel1_S1.symm ▸ Nat.one_pos))) 1#32)) 0#32) = 1#1) (k0_h3 : ¬(k0_cond3 (View.readAt (Elt F) (tbM0_4).view (Rect.unit (s := S208) (k0_off4 i) S1.size (k0_off4_inb i)).toLoadRect T4 (Shape.Idx.first (numel1_S1.symm ▸ Nat.one_pos))) = 1#1)) :
    (kernelRun0_A c i arg7 harg7 arg8 harg8 arg9 harg9 arg10 harg10 arg11 harg11 arg12 harg12 arg13 harg13 T0 T1 T2 T3 T4 T5 x0 x1 x2 x3 x4 x5 k0_h1 k0_h2 k0_h3).1 = k0_pay2 (F := F) (wd T2 i) x1 x2 (wd T1 i) x0 k0_pay1 := by
  unfold kernelRun0_A
  dsimp only
  sl_unfold_words
  refine (View.read_whole cc0_scratch0 _).symm.trans ?_
  refine (read_whole_store1 _ _ hz2 _ _ _).trans ?_
  rw [View.readCov_unit_zero (S := S1024x1024) _ hz2]
  simp only [View.readAt_eq_ld, View.read_rep, View.ld_unit_zero (S := S1024x1024) hz2, View.ld_unit_zero (S := S1024x8) hz2, View.ld_unit_zero (S := S512x1024) hz2, View.ld_unit_zero (S := S1x1024) hz2]
  rfl

/-- A middle pair adds its rows. -/
theorem scratch_B (c : Dev nD) (i : grid0.Coords) (arg7 : Memref sig .tc .vmem S512x1024 .bf16) (harg7 : arg7.IsWhole) (arg8 : Memref sig .tc .vmem S1024x8 .i32) (harg8 : arg8.IsWhole) (arg9 : Memref sig .tc .vmem S1024x8 .f32) (harg9 : arg9.IsWhole) (arg10 : Memref sig .tc .vmem S1024x1024 .f32) (harg10 : arg10.IsWhole) (arg11 : Memref sig .tc .vmem S1x8x1024 .f32) (harg11 : arg11.IsWhole) (arg12 : Memref sig .tc .vmem S1x1024 .f32) (harg12 : arg12.IsWhole) (arg13 : Memref sig .tc .vmem S1024x1024 .f32) (harg13 : arg13.IsWhole) (T0 : (S208.Idx → Elt F .i32)) (T1 : (S208.Idx → Elt F .i32)) (T2 : (S208.Idx → Elt F .i32)) (T3 : (S208.Idx → Elt F .i32)) (T4 : (S208.Idx → Elt F .i32)) (T5 : (S208.Idx → Elt F .i32))
     (x0 : (S512x1024.Idx → Elt F .bf16)) (x1 : (S1024x8.Idx → Elt F .i32)) (x2 : (S1024x8.Idx → Elt F .f32)) (x3 : (S1024x1024.Idx → Elt F .f32)) (x4 : (S1x8x1024.Idx → Elt F .f32)) (x5 : (S1x1024.Idx → Elt F .f32)) (xa0 : Buf (Elt F) ((c : Thread nD τ).loc cc0_scratch0)) (k0_h1 : ¬((Scalar.cmpi .ne (Scalar.extui (Scalar.cmpi .eq (View.readAt (Elt F) (tbM0_3).view (Rect.unit (s := S208) (k0_off1 i) S1.size (k0_off1_inb i)).toLoadRect T3 (Shape.Idx.first (numel1_S1.symm ▸ Nat.one_pos))) 1#32)) 0#32) = 1#1)) (k0_h2 : (Scalar.cmpi .ne (Scalar.extui (Scalar.cmpi .eq (View.readAt (Elt F) (tbM0_5).view (Rect.unit (s := S208) (k0_off2 i) S1.size (k0_off2_inb i)).toLoadRect T5 (Shape.Idx.first (numel1_S1.symm ▸ Nat.one_pos))) 1#32)) 0#32) = 1#1) (k0_h3 : ¬(k0_cond3 (View.readAt (Elt F) (tbM0_4).view (Rect.unit (s := S208) (k0_off4 i) S1.size (k0_off4_inb i)).toLoadRect T4 (Shape.Idx.first (numel1_S1.symm ▸ Nat.one_pos))) = 1#1)) :
    (kernelRun0_B c i arg7 harg7 arg8 harg8 arg9 harg9 arg10 harg10 arg11 harg11 arg12 harg12 arg13 harg13 T0 T1 T2 T3 T4 T5 x0 x1 x2 x3 x4 x5 xa0 k0_h1 k0_h2 k0_h3).1 = k0_pay2 (F := F) (wd T2 i) x1 x2 (wd T1 i) x0 xa0 := by
  unfold kernelRun0_B
  dsimp only
  sl_unfold_words
  refine (View.read_whole cc0_scratch0 _).symm.trans ?_
  refine (read_whole_store1 _ _ hz2 _ _ _).trans ?_
  simp only [View.readAt_eq_ld, View.read_rep, View.ld_unit_zero (S := S1024x1024) hz2, View.ld_unit_zero (S := S1024x8) hz2, View.ld_unit_zero (S := S512x1024) hz2, View.ld_unit_zero (S := S1x1024) hz2]
  rfl

/-- A tile's last pair adds its rows. -/
theorem scratch_C (c : Dev nD) (i : grid0.Coords) (arg7 : Memref sig .tc .vmem S512x1024 .bf16) (harg7 : arg7.IsWhole) (arg8 : Memref sig .tc .vmem S1024x8 .i32) (harg8 : arg8.IsWhole) (arg9 : Memref sig .tc .vmem S1024x8 .f32) (harg9 : arg9.IsWhole) (arg10 : Memref sig .tc .vmem S1024x1024 .f32) (harg10 : arg10.IsWhole) (arg11 : Memref sig .tc .vmem S1x8x1024 .f32) (harg11 : arg11.IsWhole) (arg12 : Memref sig .tc .vmem S1x1024 .f32) (harg12 : arg12.IsWhole) (arg13 : Memref sig .tc .vmem S1024x1024 .f32) (harg13 : arg13.IsWhole) (T0 : (S208.Idx → Elt F .i32)) (T1 : (S208.Idx → Elt F .i32)) (T2 : (S208.Idx → Elt F .i32)) (T3 : (S208.Idx → Elt F .i32)) (T4 : (S208.Idx → Elt F .i32)) (T5 : (S208.Idx → Elt F .i32))
     (x0 : (S512x1024.Idx → Elt F .bf16)) (x1 : (S1024x8.Idx → Elt F .i32)) (x2 : (S1024x8.Idx → Elt F .f32)) (x3 : (S1024x1024.Idx → Elt F .f32)) (x4 : (S1x8x1024.Idx → Elt F .f32)) (x5 : (S1x1024.Idx → Elt F .f32)) (xa0 : Buf (Elt F) ((c : Thread nD τ).loc cc0_scratch0)) (k0_h1 : ¬((Scalar.cmpi .ne (Scalar.extui (Scalar.cmpi .eq (View.readAt (Elt F) (tbM0_3).view (Rect.unit (s := S208) (k0_off1 i) S1.size (k0_off1_inb i)).toLoadRect T3 (Shape.Idx.first (numel1_S1.symm ▸ Nat.one_pos))) 1#32)) 0#32) = 1#1)) (k0_h2 : (Scalar.cmpi .ne (Scalar.extui (Scalar.cmpi .eq (View.readAt (Elt F) (tbM0_5).view (Rect.unit (s := S208) (k0_off2 i) S1.size (k0_off2_inb i)).toLoadRect T5 (Shape.Idx.first (numel1_S1.symm ▸ Nat.one_pos))) 1#32)) 0#32) = 1#1) (k0_h3 : k0_cond3 (View.readAt (Elt F) (tbM0_4).view (Rect.unit (s := S208) (k0_off4 i) S1.size (k0_off4_inb i)).toLoadRect T4 (Shape.Idx.first (numel1_S1.symm ▸ Nat.one_pos))) = 1#1) :
    (kernelRun0_C c i arg7 harg7 arg8 harg8 arg9 harg9 arg10 harg10 arg11 harg11 arg12 harg12 arg13 harg13 T0 T1 T2 T3 T4 T5 x0 x1 x2 x3 x4 x5 xa0 k0_h1 k0_h2 k0_h3).2.1 = k0_pay2 (F := F) (wd T2 i) x1 x2 (wd T1 i) x0 xa0 := by
  unfold kernelRun0_C
  dsimp only
  sl_unfold_words
  refine (View.read_whole cc0_scratch0 _).symm.trans ?_
  refine (read_whole_store1 _ _ hz2 _ _ _).trans ?_
  simp only [View.readAt_eq_ld, View.read_rep, View.ld_unit_zero (S := S1024x1024) hz2, View.ld_unit_zero (S := S1024x8) hz2, View.ld_unit_zero (S := S512x1024) hz2, View.ld_unit_zero (S := S1x1024) hz2]
  rfl

/-- A tile's only pair: zero plus its rows. -/
theorem scratch_E (c : Dev nD) (i : grid0.Coords) (arg7 : Memref sig .tc .vmem S512x1024 .bf16) (harg7 : arg7.IsWhole) (arg8 : Memref sig .tc .vmem S1024x8 .i32) (harg8 : arg8.IsWhole) (arg9 : Memref sig .tc .vmem S1024x8 .f32) (harg9 : arg9.IsWhole) (arg10 : Memref sig .tc .vmem S1024x1024 .f32) (harg10 : arg10.IsWhole) (arg11 : Memref sig .tc .vmem S1x8x1024 .f32) (harg11 : arg11.IsWhole) (arg12 : Memref sig .tc .vmem S1x1024 .f32) (harg12 : arg12.IsWhole) (arg13 : Memref sig .tc .vmem S1024x1024 .f32) (harg13 : arg13.IsWhole) (T0 : (S208.Idx → Elt F .i32)) (T1 : (S208.Idx → Elt F .i32)) (T2 : (S208.Idx → Elt F .i32)) (T3 : (S208.Idx → Elt F .i32)) (T4 : (S208.Idx → Elt F .i32)) (T5 : (S208.Idx → Elt F .i32))
     (x0 : (S512x1024.Idx → Elt F .bf16)) (x1 : (S1024x8.Idx → Elt F .i32)) (x2 : (S1024x8.Idx → Elt F .f32)) (x3 : (S1024x1024.Idx → Elt F .f32)) (x4 : (S1x8x1024.Idx → Elt F .f32)) (x5 : (S1x1024.Idx → Elt F .f32)) (k0_h1 : (Scalar.cmpi .ne (Scalar.extui (Scalar.cmpi .eq (View.readAt (Elt F) (tbM0_3).view (Rect.unit (s := S208) (k0_off1 i) S1.size (k0_off1_inb i)).toLoadRect T3 (Shape.Idx.first (numel1_S1.symm ▸ Nat.one_pos))) 1#32)) 0#32) = 1#1) (k0_h2 : (Scalar.cmpi .ne (Scalar.extui (Scalar.cmpi .eq (View.readAt (Elt F) (tbM0_5).view (Rect.unit (s := S208) (k0_off2 i) S1.size (k0_off2_inb i)).toLoadRect T5 (Shape.Idx.first (numel1_S1.symm ▸ Nat.one_pos))) 1#32)) 0#32) = 1#1) (k0_h3 : k0_cond3 (View.readAt (Elt F) (tbM0_4).view (Rect.unit (s := S208) (k0_off4 i) S1.size (k0_off4_inb i)).toLoadRect T4 (Shape.Idx.first (numel1_S1.symm ▸ Nat.one_pos))) = 1#1) :
    (kernelRun0_E c i arg7 harg7 arg8 harg8 arg9 harg9 arg10 harg10 arg11 harg11 arg12 harg12 arg13 harg13 T0 T1 T2 T3 T4 T5 x0 x1 x2 x3 x4 x5 k0_h1 k0_h2 k0_h3).2.1 = k0_pay2 (F := F) (wd T2 i) x1 x2 (wd T1 i) x0 k0_pay1 := by
  unfold kernelRun0_E
  dsimp only
  sl_unfold_words
  refine (View.read_whole cc0_scratch0 _).symm.trans ?_
  refine (read_whole_store1 _ _ hz2 _ _ _).trans ?_
  rw [View.readCov_unit_zero (S := S1024x1024) _ hz2]
  simp only [View.readAt_eq_ld, View.read_rep, View.ld_unit_zero (S := S1024x1024) hz2, View.ld_unit_zero (S := S1024x8) hz2, View.ld_unit_zero (S := S512x1024) hz2, View.ld_unit_zero (S := S1x1024) hz2]
  rfl

/-- That pair stores the tile's rows, finished. -/
theorem output_C (c : Dev nD) (i : grid0.Coords) (arg7 : Memref sig .tc .vmem S512x1024 .bf16) (harg7 : arg7.IsWhole) (arg8 : Memref sig .tc .vmem S1024x8 .i32) (harg8 : arg8.IsWhole) (arg9 : Memref sig .tc .vmem S1024x8 .f32) (harg9 : arg9.IsWhole) (arg10 : Memref sig .tc .vmem S1024x1024 .f32) (harg10 : arg10.IsWhole) (arg11 : Memref sig .tc .vmem S1x8x1024 .f32) (harg11 : arg11.IsWhole) (arg12 : Memref sig .tc .vmem S1x1024 .f32) (harg12 : arg12.IsWhole) (arg13 : Memref sig .tc .vmem S1024x1024 .f32) (harg13 : arg13.IsWhole) (T0 : (S208.Idx → Elt F .i32)) (T1 : (S208.Idx → Elt F .i32)) (T2 : (S208.Idx → Elt F .i32)) (T3 : (S208.Idx → Elt F .i32)) (T4 : (S208.Idx → Elt F .i32)) (T5 : (S208.Idx → Elt F .i32))
     (x0 : (S512x1024.Idx → Elt F .bf16)) (x1 : (S1024x8.Idx → Elt F .i32)) (x2 : (S1024x8.Idx → Elt F .f32)) (x3 : (S1024x1024.Idx → Elt F .f32)) (x4 : (S1x8x1024.Idx → Elt F .f32)) (x5 : (S1x1024.Idx → Elt F .f32)) (xa0 : Buf (Elt F) ((c : Thread nD τ).loc cc0_scratch0)) (k0_h1 : ¬((Scalar.cmpi .ne (Scalar.extui (Scalar.cmpi .eq (View.readAt (Elt F) (tbM0_3).view (Rect.unit (s := S208) (k0_off1 i) S1.size (k0_off1_inb i)).toLoadRect T3 (Shape.Idx.first (numel1_S1.symm ▸ Nat.one_pos))) 1#32)) 0#32) = 1#1)) (k0_h2 : (Scalar.cmpi .ne (Scalar.extui (Scalar.cmpi .eq (View.readAt (Elt F) (tbM0_5).view (Rect.unit (s := S208) (k0_off2 i) S1.size (k0_off2_inb i)).toLoadRect T5 (Shape.Idx.first (numel1_S1.symm ▸ Nat.one_pos))) 1#32)) 0#32) = 1#1) (k0_h3 : k0_cond3 (View.readAt (Elt F) (tbM0_4).view (Rect.unit (s := S208) (k0_off4 i) S1.size (k0_off4_inb i)).toLoadRect T4 (Shape.Idx.first (numel1_S1.symm ▸ Nat.one_pos))) = 1#1) :
    out0_C_6 c i arg7 harg7 arg8 harg8 arg9 harg9 arg10 harg10 arg11 harg11 arg12 harg12 arg13 harg13 T0 T1 T2 T3 T4 T5 x0 x1 x2 x3 x4 x5 xa0 k0_h1 k0_h2 k0_h3 = k0_pay3 x3 (mrow x4) (k0_pay2 (F := F) (wd T2 i) x1 x2 (wd T1 i) x0 xa0) x5 := by
  unfold out0_C_6
  rw [View.read_writes_eq_canon _ _ _ (cover0_C_6 c i arg7 harg7 arg8 harg8 arg9 harg9 arg10 harg10 arg11 harg11 arg12 harg12 arg13 harg13 T0 T1 T2 T3 T4 T5 x0 x1 x2 x3 x4 x5 xa0 k0_h1 k0_h2 k0_h3)]
  unfold kernelRun0_C
  dsimp only
  sl_unfold_words
  rw [View.canon_unit_zero (S := S1024x1024) hz2]
  simp only [View.readCov_cons_toLoadRect]
  simp only [View.readAt_eq_ld, View.read_rep, View.ld_unit_zero (S := S1024x1024) hz2, View.ld_unit_zero (S := S1024x8) hz2, View.ld_unit_zero (S := S512x1024) hz2, View.ld_unit_zero (S := S1x1024) hz2]
  rfl

/-- That pair stores the tile's rows, finished. -/
theorem output_E (c : Dev nD) (i : grid0.Coords) (arg7 : Memref sig .tc .vmem S512x1024 .bf16) (harg7 : arg7.IsWhole) (arg8 : Memref sig .tc .vmem S1024x8 .i32) (harg8 : arg8.IsWhole) (arg9 : Memref sig .tc .vmem S1024x8 .f32) (harg9 : arg9.IsWhole) (arg10 : Memref sig .tc .vmem S1024x1024 .f32) (harg10 : arg10.IsWhole) (arg11 : Memref sig .tc .vmem S1x8x1024 .f32) (harg11 : arg11.IsWhole) (arg12 : Memref sig .tc .vmem S1x1024 .f32) (harg12 : arg12.IsWhole) (arg13 : Memref sig .tc .vmem S1024x1024 .f32) (harg13 : arg13.IsWhole) (T0 : (S208.Idx → Elt F .i32)) (T1 : (S208.Idx → Elt F .i32)) (T2 : (S208.Idx → Elt F .i32)) (T3 : (S208.Idx → Elt F .i32)) (T4 : (S208.Idx → Elt F .i32)) (T5 : (S208.Idx → Elt F .i32))
     (x0 : (S512x1024.Idx → Elt F .bf16)) (x1 : (S1024x8.Idx → Elt F .i32)) (x2 : (S1024x8.Idx → Elt F .f32)) (x3 : (S1024x1024.Idx → Elt F .f32)) (x4 : (S1x8x1024.Idx → Elt F .f32)) (x5 : (S1x1024.Idx → Elt F .f32)) (k0_h1 : (Scalar.cmpi .ne (Scalar.extui (Scalar.cmpi .eq (View.readAt (Elt F) (tbM0_3).view (Rect.unit (s := S208) (k0_off1 i) S1.size (k0_off1_inb i)).toLoadRect T3 (Shape.Idx.first (numel1_S1.symm ▸ Nat.one_pos))) 1#32)) 0#32) = 1#1) (k0_h2 : (Scalar.cmpi .ne (Scalar.extui (Scalar.cmpi .eq (View.readAt (Elt F) (tbM0_5).view (Rect.unit (s := S208) (k0_off2 i) S1.size (k0_off2_inb i)).toLoadRect T5 (Shape.Idx.first (numel1_S1.symm ▸ Nat.one_pos))) 1#32)) 0#32) = 1#1) (k0_h3 : k0_cond3 (View.readAt (Elt F) (tbM0_4).view (Rect.unit (s := S208) (k0_off4 i) S1.size (k0_off4_inb i)).toLoadRect T4 (Shape.Idx.first (numel1_S1.symm ▸ Nat.one_pos))) = 1#1) :
    out0_E_6 c i arg7 harg7 arg8 harg8 arg9 harg9 arg10 harg10 arg11 harg11 arg12 harg12 arg13 harg13 T0 T1 T2 T3 T4 T5 x0 x1 x2 x3 x4 x5 k0_h1 k0_h2 k0_h3 = k0_pay3 x3 (mrow x4) (k0_pay2 (F := F) (wd T2 i) x1 x2 (wd T1 i) x0 k0_pay1) x5 := by
  unfold out0_E_6
  rw [View.read_writes_eq_canon _ _ _ (cover0_E_6 c i arg7 harg7 arg8 harg8 arg9 harg9 arg10 harg10 arg11 harg11 arg12 harg12 arg13 harg13 T0 T1 T2 T3 T4 T5 x0 x1 x2 x3 x4 x5 k0_h1 k0_h2 k0_h3)]
  unfold kernelRun0_E
  dsimp only
  sl_unfold_words
  rw [View.canon_unit_zero (S := S1024x1024) hz2]
  simp only [View.readCov_cons_toLoadRect]
  simp only [View.readAt_eq_ld, View.read_rep, View.ld_unit_zero (S := S1024x1024) hz2, View.ld_unit_zero (S := S1024x8) hz2, View.ld_unit_zero (S := S512x1024) hz2, View.ld_unit_zero (S := S1x1024) hz2]
  rfl

/-- An idle point keeps the accumulator. -/
theorem scratch_D (c : Dev nD) (i : grid0.Coords) (arg7 : Memref sig .tc .vmem S512x1024 .bf16) (harg7 : arg7.IsWhole) (arg8 : Memref sig .tc .vmem S1024x8 .i32) (harg8 : arg8.IsWhole) (arg9 : Memref sig .tc .vmem S1024x8 .f32) (harg9 : arg9.IsWhole) (arg10 : Memref sig .tc .vmem S1024x1024 .f32) (harg10 : arg10.IsWhole) (arg11 : Memref sig .tc .vmem S1x8x1024 .f32) (harg11 : arg11.IsWhole) (arg12 : Memref sig .tc .vmem S1x1024 .f32) (harg12 : arg12.IsWhole) (arg13 : Memref sig .tc .vmem S1024x1024 .f32) (harg13 : arg13.IsWhole) (T0 : (S208.Idx → Elt F .i32)) (T1 : (S208.Idx → Elt F .i32)) (T2 : (S208.Idx → Elt F .i32)) (T3 : (S208.Idx → Elt F .i32)) (T4 : (S208.Idx → Elt F .i32)) (T5 : (S208.Idx → Elt F .i32))
     (x0 : (S512x1024.Idx → Elt F .bf16)) (x1 : (S1024x8.Idx → Elt F .i32)) (x2 : (S1024x8.Idx → Elt F .f32)) (x3 : (S1024x1024.Idx → Elt F .f32)) (x4 : (S1x8x1024.Idx → Elt F .f32)) (x5 : (S1x1024.Idx → Elt F .f32)) (xa0 : Buf (Elt F) ((c : Thread nD τ).loc cc0_scratch0)) (k0_h1 : ¬((Scalar.cmpi .ne (Scalar.extui (Scalar.cmpi .eq (View.readAt (Elt F) (tbM0_3).view (Rect.unit (s := S208) (k0_off1 i) S1.size (k0_off1_inb i)).toLoadRect T3 (Shape.Idx.first (numel1_S1.symm ▸ Nat.one_pos))) 1#32)) 0#32) = 1#1)) (k0_h2 : ¬((Scalar.cmpi .ne (Scalar.extui (Scalar.cmpi .eq (View.readAt (Elt F) (tbM0_5).view (Rect.unit (s := S208) (k0_off2 i) S1.size (k0_off2_inb i)).toLoadRect T5 (Shape.Idx.first (numel1_S1.symm ▸ Nat.one_pos))) 1#32)) 0#32) = 1#1)) (k0_h3 : ¬(k0_cond3 (View.readAt (Elt F) (tbM0_4).view (Rect.unit (s := S208) (k0_off4 i) S1.size (k0_off4_inb i)).toLoadRect T4 (Shape.Idx.first (numel1_S1.symm ▸ Nat.one_pos))) = 1#1)) :
    (kernelRun0_D c i arg7 harg7 arg8 harg8 arg9 harg9 arg10 harg10 arg11 harg11 arg12 harg12 arg13 harg13 T0 T1 T2 T3 T4 T5 x0 x1 x2 x3 x4 x5 xa0 k0_h1 k0_h2 k0_h3).1 = xa0 := by
  unfold kernelRun0_D
  rfl

end Cert.MixCombine

end
-- ==== Proof.Combine.Spec.lean ====
/- What the combine computes, written over the arrays: one pair's share of a row, the rows of a tile as a sum over its pairs, the
   same sum over the experts, and the finished row. -/
module

public import proofs.«01_k».proof.Proof.Combine.Stage
public import proofs.«01_k».proof.Proof.Combine.Pre

@[expose] public section

set_option maxRecDepth 16384
set_option Elab.async false

noncomputable section

namespace Cert.MixCombine

open Cert.CombineIdeal Cert.CombineIdeal.Gen
open Idealize.ShloMosaic
open Idealize.ShloMosaic.TcCoe

/-- The arrays, at the extended reals. -/
abbrev Rows := S40960x1024.Idx → Elt Ideal .bf16
abbrev Poss := S16384x8.Idx → Elt Ideal .i32
abbrev Gates := S16384x8.Idx → Elt Ideal .f32
abbrev Stream := S2x8192x1024.Idx → Elt Ideal .f32
abbrev Mods := S2x6x1024.Idx → Elt Ideal .f32
abbrev Chan := S1024.Idx → Elt Ideal .f32

/-! ## One pair -/

/-- The row the word `P` names, where it lies in row block `d`. -/
def piece (ys : Rows) (P : BitVec 32) (d : ℕ) (o : Fin 1024) : EReal :=
  if h : (512 * d ≤ P.toNat ∧ P.toNat < 512 * d + 512) ∧ P.toNat < 40960 then ys (ix2 ⟨P.toNat, h.2⟩ o) else 0

theorem sel_one {α : Type} (c : BitVec 1) (a b : α) : Scalar.select c a b = if c = 1#1 then a else b := rfl

theorem lane_eq (x e : Fin 8) : BitVec.ofNat 32 x.val = BitVec.ofNat 32 e.val ↔ x = e := by
  rw [← BitVec.toNat_inj, BitVec.toNat_ofNat, BitVec.toNat_ofNat, Fin.ext_iff]
  have := x.isLt; have := e.isLt
  omega

theorem fold_lane (w : Fin 8 → BitVec 32) (e : Fin 8) :
    Finset.fold IntOp.addi (0#32) (fun x => if x = e then w x else 0#32) Finset.univ = w e := by
  have h : ∀ s : Finset (Fin 8), Finset.fold IntOp.addi (0#32) (fun x => if x = e then w x else 0#32) s = if e ∈ s then w e else 0#32 := fun s => by
    induction s using Finset.induction_on with
    | empty => simp
    | insert a s ha ih =>
      rw [Finset.fold_insert ha, ih]
      by_cases hae : a = e
      · subst hae
        rw [if_pos rfl, if_neg ha, if_pos (Finset.mem_insert_self _ _)]
        exact BitVec.add_zero _
      · rw [if_neg hae]
        have hm : e ∈ insert a s ↔ e ∈ s := Finset.mem_insert.trans (or_iff_right fun x => hae x.symm)
        rw [if_congr hm rfl rfl]
        exact BitVec.zero_add _
  rw [h, if_pos (Finset.mem_univ _)]

theorem pay1_apply (i : S1024x1024.Idx) : k0_pay1 (F := Ideal) i = 0 := by
  unfold k0_pay1
  pointwise

theorem pay2_apply (te td : BitVec 32) (x1 : Vec Ideal S1024x8 .i32) (x2 : Vec Ideal S1024x8 .f32) (x0 : Vec Ideal S512x1024 .bf16) (acc : Vec Ideal S1024x1024 .f32)
    (p o : Fin 1024) (e : Fin 8) (he : te = BitVec.ofNat 32 e.val) :
    k0_pay2 (F := Ideal) te x1 x2 td x0 acc (ix2 p o) = acc (ix2 p o) + x2 (ix2 p e) * ∑ q : Fin 512,
      (if x1 (ix2 p e) = IntOp.addi (Scalar.muli td 512#32) (BitVec.ofNat 32 q.val) then x0 (ix2 q o) else 0) := by
  subst he
  unfold k0_pay2
  pointwise
  simp only [sel_one, IntOp.cmpi_eq, lane_eq, fold_lane (fun x => x1 (ix2 p x)) e]
  congr 2
  exact (Finset.sum_ite_eq' Finset.univ e fun x => x2 (ix2 p x)).trans (if_pos (Finset.mem_univ e))

/-- One pair's payload, its blocks cuts of the arrays: the accumulator plus the gate times the row named. -/
theorem pay2_at (ys : Rows) (te td : BitVec 32) (x1 : Vec Ideal S1024x8 .i32) (x2 : Vec Ideal S1024x8 .f32) (x0 : Vec Ideal S512x1024 .bf16) (acc : Vec Ideal S1024x1024 .f32)
    (p o : Fin 1024) (e : Fin 8) (he : te.toNat = e.val) (hd : td.toNat < 80)
    (h0 : ∀ (q : Fin 512) (r : Fin 40960), r.val = 512 * td.toNat + q.val → x0 (ix2 q o) = ys (ix2 r o)) :
    k0_pay2 (F := Ideal) te x1 x2 td x0 acc (ix2 p o) = acc (ix2 p o) + x2 (ix2 p e) * piece ys (x1 (ix2 p e)) td.toNat o := by
  have he' : te = BitVec.ofNat 32 e.val := by
    apply BitVec.eq_of_toNat_eq
    rw [he, BitVec.toNat_ofNat]
    have := e.isLt
    omega
  refine (pay2_apply te td x1 x2 x0 acc p o e he').trans ?_
  congr 2
  generalize x1 (ix2 p e) = P
  have hw : ∀ q : Fin 512, (IntOp.addi (Scalar.muli td 512#32) (BitVec.ofNat 32 q.val)).toNat = 512 * td.toNat + q.val := fun q => by
    show (td * 512#32 + BitVec.ofNat 32 q.val).toNat = _
    rw [BitVec.toNat_add, BitVec.toNat_mul, BitVec.toNat_ofNat, BitVec.toNat_ofNat]
    have := q.isLt
    omega
  have hq : ∀ q : Fin 512, P = IntOp.addi (Scalar.muli td 512#32) (BitVec.ofNat 32 q.val) ↔ P.toNat = 512 * td.toNat + q.val := fun q => by
    rw [← BitVec.toNat_inj, hw]
  simp only [hq]
  unfold piece
  by_cases hP : 512 * td.toNat ≤ P.toNat ∧ P.toNat < 512 * td.toNat + 512
  · have hP2 : P.toNat < 40960 := by omega
    rw [dif_pos ⟨hP, hP2⟩]
    refine (Finset.sum_eq_single (⟨P.toNat - 512 * td.toNat, by omega⟩ : Fin 512) (fun q _ hne => ?_) (fun h => absurd (Finset.mem_univ _) h)).trans ?_
    · exact if_neg fun hx => hne (Fin.ext (by show q.val = P.toNat - 512 * td.toNat; omega))
    · rw [if_pos (by show P.toNat = 512 * td.toNat + (P.toNat - 512 * td.toNat); omega)]
      exact h0 _ _ (by show P.toNat = 512 * td.toNat + (P.toNat - 512 * td.toNat); omega)
  · rw [dif_neg fun h => hP h.1]
    refine Finset.sum_eq_zero fun q _ => if_neg fun hx => hP ?_
    have := q.isLt
    omega

/-! ## A finished row -/

/-- Column `o` of a row `x` with the gathered sum `f` added in, normed and weighted. -/
def fin (x md f w : Fin 1024 → EReal) (o : Fin 1024) : EReal :=
  (x o + md o * f o) * Ideal.rsqrt (Ideal.div (∑ q : Fin 1024, (x q + md q * f q) * (x q + md q * f q)) (Ideal.ofBits FTy.f32 1149239296#32)
    + Ideal.ofBits FTy.f32 897988541#32) * w o

theorem pay3_at (x : Vec Ideal S1024x1024 .f32) (md : Vec Ideal S1x1x1024 .f32) (acc : Vec Ideal S1024x1024 .f32) (w : Vec Ideal S1x1024 .f32) (p o : Fin 1024) :
    k0_pay3 (F := Ideal) x md acc w (ix2 p o) = fin (fun q => x (ix2 p q)) (fun q => md (ix3 0 0 q)) (fun q => acc (ix2 p q)) (fun q => w (ix2 0 q)) o := by
  unfold k0_pay3 fin
  pointwise

/-! ## A tile's pairs, and the experts -/

variable (ch : Tables Ideal) (ys : Rows) (ps : Poss) (gs : Gates)

/-- Pair `k`'s share of row `r`, column `o`. -/
def share (k : ℕ) (r : Fin 16384) (o : Fin 1024) : EReal :=
  if h : ch.te k < 8 then gs (ix2 r ⟨ch.te k, h⟩) * piece ys (ps (ix2 r ⟨ch.te k, h⟩)) (ch.td k) o else 0

/-- What the pairs up to `n` of tile `j` add to row `r`. -/
def sofar (n j : ℕ) (r : Fin 16384) (o : Fin 1024) : EReal :=
  ∑ k ∈ Finset.range n, if ch.tv k = 1 ∧ ch.tj k = j then share ch ys ps gs k r o else 0

theorem sofar_succ (n j : ℕ) (r : Fin 16384) (o : Fin 1024) :
    sofar ch ys ps gs (n + 1) j r o = sofar ch ys ps gs n j r o + if ch.tv n = 1 ∧ ch.tj n = j then share ch ys ps gs n r o else 0 := by
  unfold sofar
  rw [Finset.sum_range_succ]

/-- The row expert `e` gives row `r` (nothing where there is none). -/
def given (P : BitVec 32) (o : Fin 1024) : EReal :=
  if h : P.toNat < 40960 then ys (ix2 ⟨P.toNat, h⟩ o) else 0

/-- All the pairs of a row's tile add up to the sum over the experts: each row named lies in exactly one of the pairs' blocks. -/
theorem all_pairs (hP : Planned ch.T0 ch.T1 ch.T2 ch.T3 ch.T4 ch.T5 ps) (r : Fin 16384) (o : Fin 1024) :
    sofar ch ys ps gs 208 (r.val / 1024) r o = ∑ e : Fin 8, gs (ix2 r e) * given ys (ps (ix2 r e)) o := by
  unfold sofar
  rw [Finset.sum_range]
  have e1 : ∀ k : Fin 208, (if ch.tv k.val = 1 ∧ ch.tj k.val = r.val / 1024 then share ch ys ps gs k.val r o else 0)
      = ∑ e : Fin 8, if ch.te k.val = e.val then (if ch.tv k.val = 1 ∧ ch.tj k.val = r.val / 1024 then gs (ix2 r e) * piece ys (ps (ix2 r e)) (ch.td k.val) o else 0) else 0 := fun k => by
    have hk := ch.te_lt k.val k.isLt
    symm
    refine (Finset.sum_eq_single (⟨ch.te k.val, hk⟩ : Fin 8) (fun e _ hne => if_neg fun hx => hne (Fin.ext hx.symm)) (fun h => absurd (Finset.mem_univ _) h)).trans ?_
    rw [if_pos rfl]
    unfold share
    rw [dif_pos hk]
  rw [Finset.sum_congr rfl fun k _ => e1 k, Finset.sum_comm]
  refine Finset.sum_congr rfl fun e _ => ?_
  have ef : ∀ (T : S208.Idx → BitVec 32) (k : Fin 208), (T (ix1 k)).toNat = ent T k.val := fun T k => (ent_fin T k.val k.isLt).symm
  generalize hp : ps (ix2 r e) = P
  by_cases hlt : P.toNat < 2 ^ 31
  · obtain ⟨k, v, j1, j2, te, d1, d2⟩ := hP.placed r e (by rw [hp]; exact hlt)
    rw [hp] at d1 d2
    rw [ef] at v j1 j2 te d1 d2
    have hd := ch.td_lt k.val k.isLt
    have hj : ch.tj k.val = r.val / 1024 := by unfold Tables.tj; omega
    refine (Finset.sum_eq_single k (fun k' _ hne => ?_) (fun h => absurd (Finset.mem_univ _) h)).trans ?_
    · by_cases te' : ch.te k'.val = e.val
      · rw [if_pos te']
        by_cases vj : ch.tv k'.val = 1 ∧ ch.tj k'.val = r.val / 1024
        · rw [if_pos vj]
          unfold piece
          rw [dif_neg, mul_zero]
          rintro ⟨⟨a, b⟩, -⟩
          refine hne (hP.once k' k ?_ ?_ ?_ ?_ ?_)
          · rw [ef]; exact vj.1
          · rw [ef]; exact v
          · rw [ef, ef]; exact hj.trans vj.2.symm
          · rw [ef, ef]; exact te'.trans te.symm
          · rw [ef, ef]; show ch.td k'.val = ent ch.T1 k.val; omega
        · rw [if_neg vj]
      · rw [if_neg te']
    · rw [if_pos te, if_pos ⟨v, hj⟩]
      congr 1
      unfold piece given
      have h4 : P.toNat < 40960 := by omega
      rw [dif_pos ⟨⟨d1, d2⟩, h4⟩, dif_pos h4]
  · have hz : ∀ d : ℕ, piece ys P d o = 0 := fun d => dif_neg fun h => by omega
    unfold given
    rw [dif_neg (by omega), mul_zero]
    refine Finset.sum_eq_zero fun k _ => ?_
    rw [hz, mul_zero, ite_self, ite_self]

end Cert.MixCombine

end
-- ==== Proof.Combine.Value.lean ====
/- The combine's run at the extended reals: the accumulator after each pair holds the tile's rows so far, the output's buffer after a
   tile's last pair the finished rows, and the output array after the run. -/
module

public import proofs.«01_k».proof.Proof.Combine.Spec

@[expose] public section

set_option maxRecDepth 16384
set_option Elab.async false

noncomputable section

namespace Cert.MixCombine

open Cert.CombineIdeal Cert.CombineIdeal.Gen
open Idealize.ShloMosaic
open Idealize.ShloMosaic.TcCoe
open Idealize.SL.Sem
open Idealize.ShloMosaic.Pipeline (Dat Cfg Window)

/-! ## The tables along the grid -/

section Order

variable (ch : Tables Ideal) (ys : Rows) (ps : Poss) (gs : Gates)

theorem tj_mono (k n : ℕ) (hn : n < 208) (h : k ≤ n) : ch.tj k ≤ ch.tj n := by
  induction n with
  | zero => rw [Nat.le_zero.mp h]
  | succ n ih =>
    by_cases he : k = n + 1
    · rw [he]
    · have h1 := ih (by omega) (by omega)
      have h2 := ch.tj_step n hn
      unfold Tables.tj at *
      omega

/-- Past a tile's last pair there is no pair of the tile. -/
theorem after_last (n : ℕ) (hn : n < 208) (hl : ch.tl n = 1) : ∀ k, n < k → k < 208 → ch.tv k = 1 → ch.tj n < ch.tj k := by
  intro k
  induction k with
  | zero => intro h; omega
  | succ k ih =>
    intro h1 h2 hv
    by_cases he : k = n
    · subst he
      have e1 := ch.tl_step k h2
      have e2 := ch.tj_step k h2
      unfold Tables.tj Tables.tv Tables.tl at *
      omega
    · have e1 := ih (by omega) (by omega) (ch.tv_step k h2 hv)
      have e2 := ch.tj_step k h2
      unfold Tables.tj Tables.tv at *
      omega

theorem sofar_first (n : ℕ) (hn : n + 1 < 208) (hf : ch.tf (n + 1) = 1) (r : Fin 16384) (o : Fin 1024) :
    sofar ch ys ps gs (n + 1) (ch.tj (n + 1)) r o = 0 := by
  unfold sofar
  refine Finset.sum_eq_zero fun k hk => if_neg fun h => ?_
  have h1 := tj_mono ch k n (by omega) (by have := Finset.mem_range.mp hk; omega)
  have h2 := (ch.tf_step n hn).mp hf
  have h3 := h.2
  unfold Tables.tj at *
  omega

theorem sofar_last (n : ℕ) (hn : n < 208) (hl : ch.tl n = 1) (r : Fin 16384) (o : Fin 1024) :
    sofar ch ys ps gs (n + 1) (ch.tj n) r o = sofar ch ys ps gs 208 (ch.tj n) r o := by
  unfold sofar
  refine Finset.sum_subset (fun k hk => Finset.mem_range.mpr (by have := Finset.mem_range.mp hk; omega)) fun k hk hnk => if_neg fun h => ?_
  have h1 := after_last ch n hn hl k (by have : ¬ k < n + 1 := fun x => hnk (Finset.mem_range.mpr x); omega) (Finset.mem_range.mp hk) h.1
  have h3 := h.2
  omega

/-- Every tile has a last point. -/
theorem tile_end : ∀ n, n < 208 → ∀ j, j ≤ ch.tj n → ∃ t, t ≤ n ∧ ch.tj t = j ∧ (t = n ∨ ch.tj (t + 1) ≠ ch.tj t) := by
  intro n
  induction n with
  | zero =>
    intro hn j hj
    have h0 := ch.tj_0
    exact ⟨0, le_refl _, by unfold Tables.tj at *; omega, Or.inl rfl⟩
  | succ n ih =>
    intro hn j hj
    by_cases he : j = ch.tj (n + 1)
    · exact ⟨n + 1, le_refl _, he.symm, Or.inl rfl⟩
    · have hs := ch.tj_step n hn
      obtain ⟨t, h1, h2, h3⟩ := ih (by omega) j (by unfold Tables.tj at *; omega)
      refine ⟨t, by omega, h2, Or.inr ?_⟩
      rcases h3 with h3 | h3
      · subst h3; intro hx; exact he (h2.symm.trans hx.symm)
      · exact h3

theorem flush_end (t : ℕ) (ht : t < 208) (h : t = 207 ∨ ch.tj (t + 1) ≠ ch.tj t) : ch.tl t = 1 ∨ ch.tv t ≠ 1 := by
  by_cases hv : ch.tv t = 1
  · refine Or.inl ?_
    rcases h with h | h
    · subst h; exact ch.tl_end.mpr hv
    · by_cases h7 : t = 207
      · subst h7; exact ch.tl_end.mpr hv
      · exact (ch.tl_step t (by omega)).mpr ⟨hv, fun x => h x.2⟩
  · exact Or.inr hv

end Order

/-! ## The arrays as the grid finds them -/

section Blocks

variable (ch : Tables Ideal) (m : (ℓ : Loc nD τ sig) → Buf (Elt Ideal) ℓ)

abbrev aY (c : Dev nD) : Rows := m ((c : Thread nD τ).loc main_arg6)
abbrev aP (c : Dev nD) : Poss := m ((c : Thread nD τ).loc main_arg7)
abbrev aG (c : Dev nD) : Gates := m ((c : Thread nD τ).loc main_arg8)
abbrev aX (c : Dev nD) : Stream := m ((c : Thread nD τ).loc main_arg9)
abbrev aM (c : Dev nD) : Mods := m ((c : Thread nD τ).loc main_arg10)
abbrev aW (c : Dev nD) : Chan := m ((c : Thread nD τ).loc main_arg11)

theorem V_mods (c : Dev nD) : V m c main_v0 = pad S2x8x1024 ![0, 0, 0] ![0, 2, 0] ![0, 0, 0] (m ((c : Thread nD τ).loc main_arg10) : FVec Ideal S2x6x1024 .f32) (sitofp (F := Ideal) .f32 (constantI S_ 32 0#32)) pads_S2x6x1024_S2x8x1024_000_020_000 h_S_ := by
  unfold V V0
  simp only [hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results

theorem V_rows (c : Dev nD) : V m c main_v1 = shapeCast S16384x1024 (m ((c : Thread nD τ).loc main_arg9) : FVec Ideal S2x8192x1024 .f32) shapeCasts_S2x8192x1024_S16384x1024 := by
  unfold V V0
  simp only [hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results
  rfl

theorem V_norm (c : Dev nD) : V m c main_v2 = broadcastInDim S1x1024 ![1] bcast_S1024_S1x1024_1 (m ((c : Thread nD τ).loc main_arg11)) := by
  unfold V V0
  simp only [hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results

theorem mods_at (x : FVec Ideal S2x6x1024 .f32) (b : Fin 2) (k : Fin 1024) :
    let y : FVec Ideal S2x8x1024 .f32 := pad S2x8x1024 ![0, 0, 0] ![0, 2, 0] ![0, 0, 0] x (sitofp (F := Ideal) .f32 (constantI S_ 32 0#32)) pads_S2x6x1024_S2x8x1024_000_020_000 h_S_
    y (ix3 b 5 k) = x (ix3 b 5 k) := by
  pointwise

theorem norm_at (x : FVec Ideal S1024 .f32) (k : Fin 1024) : broadcastInDim S1x1024 ![1] bcast_S1024_S1x1024_1 x (ix2 0 k) = x (ix1 k) := by
  pointwise

theorem rows_at (x : FVec Ideal S2x8192x1024 .f32) (r : Fin 16384) (b : Fin 2) (t : Fin 8192) (k : Fin 1024) (h : r.val = 8192 * b.val + t.val) :
    shapeCast S16384x1024 x shapeCasts_S2x8192x1024_S16384x1024 (ix2 r k) = x (ix3 b t k) :=
  shapeCast_apply x shapeCasts_S2x8192x1024_S16384x1024 (ix2 r k) (ix3 b t k) (by
    rewrite [Shape.rowMajor_val_two, Shape.rowMajor_val_three]
    show (b.val * 8192 + t.val) * 1024 + k.val = r.val * 1024 + k.val
    omega)

theorem index0 (t : Fin (cfgA ch).N) : ((cfgA ch).win (0 : Fin 7)).index t = ![ch.td t.val, 0] := by
  refine (tr0_eq ch (grid0.coords t)).trans ?_
  rw [coords0]
theorem index1 (t : Fin (cfgA ch).N) : ((cfgA ch).win (1 : Fin 7)).index t = ![ch.tj t.val, 0] := by
  refine (tr1_eq ch (grid0.coords t)).trans ?_
  rw [coords0]
theorem index2 (t : Fin (cfgA ch).N) : ((cfgA ch).win (2 : Fin 7)).index t = ![ch.tj t.val, 0] := by
  refine (tr2_eq ch (grid0.coords t)).trans ?_
  rw [coords0]
theorem index3 (t : Fin (cfgA ch).N) : ((cfgA ch).win (3 : Fin 7)).index t = ![ch.tj t.val, 0] := by
  refine (tr3_eq ch (grid0.coords t)).trans ?_
  rw [coords0]
theorem index4 (t : Fin (cfgA ch).N) : ((cfgA ch).win (4 : Fin 7)).index t = ![ch.tj t.val / 8, 0, 0] := by
  refine (tr4_eq ch (grid0.coords t)).trans ?_
  rw [coords0]
theorem index5 (t : Fin (cfgA ch).N) : ((cfgA ch).win (5 : Fin 7)).index t = ![0, 0] := rfl

theorem iblk0_at (c : Dev nD) (t : Fin (cfgA ch).N) (q : Fin 512) (o : Fin 1024) (r : Fin 40960) (hr : r.val = 512 * ch.td t.val + q.val) :
    (iblk ch m c (0 : Fin 7) t : S512x1024.Idx → Elt Ideal .bf16) (ix2 q o) = aY m c (ix2 r o) := by
  unfold iblk
  rw [View.read_apply]
  show V m c main_arg6 _ = _
  rw [V_main_arg6]
  show m (c.tc.loc main_arg6) _ = m (c.tc.loc main_arg6) _
  congr 1
  have hi := index0 ch t
  funext a
  apply Fin.ext
  match a with
  | ⟨0, _⟩ =>
    show ((cfgA ch).win (0 : Fin 7)).index t (0 : Fin 2) * 512 + 1 * q.val = r.val
    rw [hi]
    show ch.td t.val * 512 + 1 * q.val = r.val
    omega
  | ⟨1, _⟩ =>
    show ((cfgA ch).win (0 : Fin 7)).index t (1 : Fin 2) * 1024 + 1 * o.val = o.val
    rw [hi]
    show 0 * 1024 + 1 * o.val = o.val
    omega

theorem iblk1_at (c : Dev nD) (t : Fin (cfgA ch).N) (p : Fin 1024) (e : Fin 8) (r : Fin 16384) (hr : r.val = 1024 * ch.tj t.val + p.val) :
    (iblk ch m c (1 : Fin 7) t : S1024x8.Idx → Elt Ideal .i32) (ix2 p e) = aP m c (ix2 r e) := by
  unfold iblk
  rw [View.read_apply]
  show V m c main_arg7 _ = _
  rw [V_main_arg7]
  show m (c.tc.loc main_arg7) _ = m (c.tc.loc main_arg7) _
  congr 1
  have hi := index1 ch t
  funext a
  apply Fin.ext
  match a with
  | ⟨0, _⟩ =>
    show ((cfgA ch).win (1 : Fin 7)).index t (0 : Fin 2) * 1024 + 1 * p.val = r.val
    rw [hi]
    show ch.tj t.val * 1024 + 1 * p.val = r.val
    omega
  | ⟨1, _⟩ =>
    show ((cfgA ch).win (1 : Fin 7)).index t (1 : Fin 2) * 8 + 1 * e.val = e.val
    rw [hi]
    show 0 * 8 + 1 * e.val = e.val
    omega

theorem iblk2_at (c : Dev nD) (t : Fin (cfgA ch).N) (p : Fin 1024) (e : Fin 8) (r : Fin 16384) (hr : r.val = 1024 * ch.tj t.val + p.val) :
    (iblk ch m c (2 : Fin 7) t : S1024x8.Idx → Elt Ideal .f32) (ix2 p e) = aG m c (ix2 r e) := by
  unfold iblk
  rw [View.read_apply]
  show V m c main_arg8 _ = _
  rw [V_main_arg8]
  show m (c.tc.loc main_arg8) _ = m (c.tc.loc main_arg8) _
  congr 1
  have hi := index2 ch t
  funext a
  apply Fin.ext
  match a with
  | ⟨0, _⟩ =>
    show ((cfgA ch).win (2 : Fin 7)).index t (0 : Fin 2) * 1024 + 1 * p.val = r.val
    rw [hi]
    show ch.tj t.val * 1024 + 1 * p.val = r.val
    omega
  | ⟨1, _⟩ =>
    show ((cfgA ch).win (2 : Fin 7)).index t (1 : Fin 2) * 8 + 1 * e.val = e.val
    rw [hi]
    show 0 * 8 + 1 * e.val = e.val
    omega

theorem iblk3_at (c : Dev nD) (t : Fin (cfgA ch).N) (p q : Fin 1024) (r : Fin 16384) (hr : r.val = 1024 * ch.tj t.val + p.val)
    (b : Fin 2) (s : Fin 8192) (hs : r.val = 8192 * b.val + s.val) :
    (iblk ch m c (3 : Fin 7) t : S1024x1024.Idx → Elt Ideal .f32) (ix2 p q) = aX m c (ix3 b s q) := by
  unfold iblk
  rw [View.read_apply]
  show V m c main_v1 _ = _
  rw [V_rows]
  refine Eq.trans ?_ (rows_at (aX m c) r b s q hs)
  show shapeCast S16384x1024 _ _ _ = shapeCast S16384x1024 _ _ _
  congr 1
  have hi := index3 ch t
  funext a
  apply Fin.ext
  match a with
  | ⟨0, _⟩ =>
    show ((cfgA ch).win (3 : Fin 7)).index t (0 : Fin 2) * 1024 + 1 * p.val = r.val
    rw [hi]
    show ch.tj t.val * 1024 + 1 * p.val = r.val
    omega
  | ⟨1, _⟩ =>
    show ((cfgA ch).win (3 : Fin 7)).index t (1 : Fin 2) * 1024 + 1 * q.val = q.val
    rw [hi]
    show 0 * 1024 + 1 * q.val = q.val
    omega

theorem mrow_at (x4 : S1x8x1024.Idx → Elt Ideal .f32) (q : Fin 1024) : mrow (F := Ideal) x4 (ix3 0 0 q) = x4 (ix3 0 5 q) := by
  unfold mrow
  congr 1
  funext a
  apply Fin.ext
  match a with
  | ⟨0, _⟩ => rfl
  | ⟨1, _⟩ => rfl
  | ⟨2, _⟩ => show 0 + 1 * q.val = q.val; omega

theorem iblk4_at (c : Dev nD) (t : Fin (cfgA ch).N) (q : Fin 1024) (b : Fin 2) (hb : b.val = ch.tj t.val / 8) :
    (mrow (F := Ideal) (iblk ch m c (4 : Fin 7) t : S1x8x1024.Idx → Elt Ideal .f32)) (ix3 0 0 q) = aM m c (ix3 b 5 q) := by
  refine (mrow_at _ q).trans ?_
  unfold iblk
  rw [View.read_apply]
  show V m c main_v0 _ = _
  rw [V_mods]
  refine Eq.trans ?_ (mods_at (aM m c) b q)
  dsimp only
  show pad S2x8x1024 _ _ _ _ _ _ _ _ = pad S2x8x1024 _ _ _ _ _ _ _ _
  congr 1
  have hi := index4 ch t
  funext a
  apply Fin.ext
  match a with
  | ⟨0, _⟩ =>
    show ((cfgA ch).win (4 : Fin 7)).index t (0 : Fin 3) * 1 + 1 * 0 = b.val
    rw [hi]
    show ch.tj t.val / 8 * 1 + 1 * 0 = b.val
    omega
  | ⟨1, _⟩ =>
    show ((cfgA ch).win (4 : Fin 7)).index t (1 : Fin 3) * 8 + 1 * 5 = 5
    rw [hi]
    rfl
  | ⟨2, _⟩ =>
    show ((cfgA ch).win (4 : Fin 7)).index t (2 : Fin 3) * 1024 + 1 * q.val = q.val
    rw [hi]
    show 0 * 1024 + 1 * q.val = q.val
    omega

theorem iblk5_at (c : Dev nD) (t : Fin (cfgA ch).N) (q : Fin 1024) :
    (iblk ch m c (5 : Fin 7) t : S1x1024.Idx → Elt Ideal .f32) (ix2 0 q) = aW m c (ix1 q) := by
  unfold iblk
  rw [View.read_apply]
  show V m c main_v2 _ = _
  rw [V_norm]
  refine Eq.trans ?_ (norm_at (aW m c) q)
  show broadcastInDim S1x1024 _ _ _ _ = broadcastInDim S1x1024 _ _ _ _
  congr 1
  have hi := index5 ch t
  funext a
  apply Fin.ext
  match a with
  | ⟨0, _⟩ =>
    show ((cfgA ch).win (5 : Fin 7)).index t (0 : Fin 2) * 1 + 1 * 0 = 0
    rw [hi]
    rfl
  | ⟨1, _⟩ =>
    show ((cfgA ch).win (5 : Fin 7)).index t (1 : Fin 2) * 1024 + 1 * q.val = q.val
    rw [hi]
    show 0 * 1024 + 1 * q.val = q.val
    omega

end Blocks

end Cert.MixCombine

end
-- ==== Proof.Combine.Total.lean ====
/- The combine's run at the extended reals, point by point: the accumulator after each pair holds the tile's rows so far, the output's
   buffer after a tile's last pair the finished rows; and so the output array after the run. -/
module

public import proofs.«01_k».proof.Proof.Combine.Value

@[expose] public section

set_option maxRecDepth 16384
set_option Elab.async false

noncomputable section

namespace Cert.MixCombine

open Cert.CombineIdeal Cert.CombineIdeal.Gen
open Idealize.ShloMosaic
open Idealize.ShloMosaic.TcCoe
open Idealize.SL.Sem
open Idealize.ShloMosaic.Pipeline (Dat Cfg Window)

variable (ch : Tables Ideal) (m : (ℓ : Loc nD τ sig) → Buf (Elt Ideal) ℓ)

/-! ## The trajectory, one point at a time -/

theorem traj_A (c : Dev nD) (t : Fin (cfgA ch).N) (h0 : ch.tf t.val = 1) :
    (traj0 ch m c t.val t.isLt).2 = k0_pay2 (F := Ideal) (wd ch.T2 (crd ch t)) (iblk ch m c (1 : Fin 7) t) (iblk ch m c (2 : Fin 7) t) (wd ch.T1 (crd ch t)) (iblk ch m c (0 : Fin 7) t) (k0_pay1 (F := Ideal)) := by
  rw [traj0_eq]
  by_cases h2 : ch.tl t.val = 1
  · rw [step0_E ch m c t _ ((P0_0_iff ch t).mpr h0) ((P0_2_iff ch t).mpr h2)]
    dsimp only
    rw [scratch_E]
  · rw [step0_A ch m c t _ ((P0_0_iff ch t).mpr h0) (fun h => h2 ((P0_2_iff ch t).mp h))]
    dsimp only
    rw [scratch_A]

theorem traj_B (c : Dev nD) (t : Fin (cfgA ch).N) (h0 : ch.tf t.val ≠ 1) (h1 : ch.tv t.val = 1) :
    (traj0 ch m c t.val t.isLt).2 = k0_pay2 (F := Ideal) (wd ch.T2 (crd ch t)) (iblk ch m c (1 : Fin 7) t) (iblk ch m c (2 : Fin 7) t) (wd ch.T1 (crd ch t)) (iblk ch m c (0 : Fin 7) t) (prev0 ch m c t).2 := by
  rw [traj0_eq]
  by_cases h2 : ch.tl t.val = 1
  · rw [step0_C ch m c t _ (fun h => h0 ((P0_0_iff ch t).mp h)) ((P0_1_iff ch t).mpr h1) ((P0_2_iff ch t).mpr h2)]
    dsimp only
    rw [scratch_C]
  · rw [step0_B ch m c t _ (fun h => h0 ((P0_0_iff ch t).mp h)) ((P0_1_iff ch t).mpr h1) (fun h => h2 ((P0_2_iff ch t).mp h))]
    dsimp only
    rw [scratch_B]

theorem traj_C (c : Dev nD) (t : Fin (cfgA ch).N) (h2 : ch.tl t.val = 1) :
    (traj0 ch m c t.val t.isLt).1 = k0_pay3 (F := Ideal) (iblk ch m c (3 : Fin 7) t) (mrow (F := Ideal) (iblk ch m c (4 : Fin 7) t)) (traj0 ch m c t.val t.isLt).2 (iblk ch m c (5 : Fin 7) t) := by
  have ht : t.val < 208 := Nat.lt_of_lt_of_eq t.isLt (N_eq ch)
  have h1 := tl_tv ch t.val ht h2
  by_cases h0 : ch.tf t.val = 1
  · rw [traj_A ch m c t h0, traj0_eq, step0_E ch m c t _ ((P0_0_iff ch t).mpr h0) ((P0_2_iff ch t).mpr h2)]
    dsimp only
    rw [output_E]
  · rw [traj_B ch m c t h0 h1, traj0_eq, step0_C ch m c t _ (fun h => h0 ((P0_0_iff ch t).mp h)) ((P0_1_iff ch t).mpr h1) ((P0_2_iff ch t).mpr h2)]
    dsimp only
    rw [output_C]

theorem traj_D (c : Dev nD) (t : Fin (cfgA ch).N) (h1 : ch.tv t.val ≠ 1) :
    (traj0 ch m c t.val t.isLt).1 = (prev0 ch m c t).1 := by
  have ht : t.val < 208 := Nat.lt_of_lt_of_eq t.isLt (N_eq ch)
  rw [traj0_eq, step0_D ch m c t _ (fun h => h1 (tf_tv ch t.val ht ((P0_0_iff ch t).mp h))) (fun h => h1 ((P0_1_iff ch t).mp h))]
  have hf : (cfgA ch).fresh (6 : Fin 7) t.val = false := by
    rw [freshF0_6]
    unfold frTab
    rw [decide_eq_false_iff_not]
    rintro (h | h)
    · omega
    · exact h1 h
  show (if (cfgA ch).fresh (6 : Fin 7) t.val then junk6 else (prev0 ch m c t).1) = _
  rw [hf]; rfl

theorem prev_succ (c : Dev nD) (n : ℕ) (hn : n + 1 < (cfgA ch).N) : prev0 ch m c ⟨n + 1, hn⟩ = traj0 ch m c n (Nat.lt_of_succ_lt hn) := by
  unfold prev0; exact dif_neg (Nat.succ_ne_zero n)

/-! ## What the buffers hold -/

theorem wd_nat (T : S208.Idx → BitVec 32) (t : Fin (cfgA ch).N) : (wd T (crd ch t)).toNat = ent T t.val :=
  word_nat ch T t _ (k0_off3_eq (crd ch t)) _ _

/-- One pair, read off the point's blocks. -/
theorem pair_eq (c : Dev nD) (t : Fin (cfgA ch).N) (p o : Fin 1024) (r : Fin 16384) (hr : r.val = 1024 * ch.tj t.val + p.val) (acc : Vec Ideal S1024x1024 .f32) :
    k0_pay2 (F := Ideal) (wd ch.T2 (crd ch t)) (iblk ch m c (1 : Fin 7) t) (iblk ch m c (2 : Fin 7) t) (wd ch.T1 (crd ch t)) (iblk ch m c (0 : Fin 7) t) acc (ix2 p o)
      = acc (ix2 p o) + share ch (aY m c) (aP m c) (aG m c) t.val r o := by
  have ht : t.val < 208 := Nat.lt_of_lt_of_eq t.isLt (N_eq ch)
  have he := ch.te_lt t.val ht
  have hd := ch.td_lt t.val ht
  have w2 := wd_nat ch ch.T2 t
  have w1 := wd_nat ch ch.T1 t
  refine (pay2_at (aY m c) _ _ _ _ _ acc p o ⟨ch.te t.val, he⟩ w2 (by rw [w1]; exact hd)
    (fun q r' hr' => iblk0_at ch m c t q o r' (by rw [w1] at hr'; exact hr'))).trans ?_
  rw [iblk1_at ch m c t p _ r hr, iblk2_at ch m c t p _ r hr, w1]
  unfold share
  rw [dif_pos he]

/-- The accumulator after a pair in use: the tile's pairs so far. -/
theorem acc_eq (c : Dev nD) : ∀ (n : ℕ) (hn : n < (cfgA ch).N) (hv : ch.tv n = 1) (p o : Fin 1024) (r : Fin 16384)
    (_ : r.val = 1024 * ch.tj n + p.val), (traj0 ch m c n hn).2 (ix2 p o) = sofar ch (aY m c) (aP m c) (aG m c) (n + 1) (ch.tj n) r o := by
  intro n
  induction n with
  | zero =>
    intro hn hv p o r hr
    refine (congrFun (traj_A ch m c ⟨0, hn⟩ ch.tf_0) (ix2 p o)).trans ?_
    refine (pair_eq ch m c ⟨0, hn⟩ p o r hr _).trans ?_
    rw [sofar_succ, pay1_apply, if_pos ⟨hv, rfl⟩]
    congr 1
  | succ n ih =>
    intro hn hv p o r hr
    have hn' : n + 1 < 208 := Nat.lt_of_lt_of_eq hn (N_eq ch)
    by_cases h0 : ch.tf (n + 1) = 1
    · refine (congrFun (traj_A ch m c ⟨n + 1, hn⟩ h0) (ix2 p o)).trans ?_
      refine (pair_eq ch m c ⟨n + 1, hn⟩ p o r hr _).trans ?_
      rw [sofar_succ, pay1_apply, if_pos ⟨hv, rfl⟩, sofar_first ch _ _ _ n hn' h0]
    · refine (congrFun (traj_B ch m c ⟨n + 1, hn⟩ h0 hv) (ix2 p o)).trans ?_
      refine (pair_eq ch m c ⟨n + 1, hn⟩ p o r hr _).trans ?_
      have hq : ch.tj (n + 1) = ch.tj n := by
        have e1 := ch.tf_step n hn'
        have e2 := ch.tj_step n hn'
        unfold Tables.tj Tables.tf at *
        omega
      rw [prev_succ, ih (Nat.lt_of_succ_lt hn) (ch.tv_step n hn' hv) p o r (by rw [hr, hq]), sofar_succ (n := n + 1), if_pos ⟨hv, rfl⟩, hq]

/-- The finished row. -/
def rowAt (c : Dev nD) (r : Fin 16384) (o : Fin 1024) : EReal :=
  fin (fun q => aX m c (ix3 ⟨r.val / 8192, by have := r.isLt; omega⟩ ⟨r.val % 8192, by omega⟩ q)) (fun q => aM m c (ix3 ⟨r.val / 8192, by have := r.isLt; omega⟩ 5 q))
    (fun q => sofar ch (aY m c) (aP m c) (aG m c) 208 (r.val / 1024) r q) (fun q => aW m c (ix1 q)) o

/-- The output's buffer, from a tile's last pair on: the tile's rows. -/
theorem out_eq (c : Dev nD) : ∀ (n : ℕ) (hn : n < (cfgA ch).N) (_ : ch.tl n = 1 ∨ ch.tv n ≠ 1) (p o : Fin 1024) (r : Fin 16384)
    (_ : r.val = 1024 * ch.tj n + p.val), (traj0 ch m c n hn).1 (ix2 p o) = rowAt ch m c r o := by
  have base : ∀ (n : ℕ) (hn : n < (cfgA ch).N) (_ : ch.tl n = 1) (p o : Fin 1024) (r : Fin 16384)
      (_ : r.val = 1024 * ch.tj n + p.val), (traj0 ch m c n hn).1 (ix2 p o) = rowAt ch m c r o := by
    intro n hn hl p o r hr
    have hn' : n < 208 := Nat.lt_of_lt_of_eq hn (N_eq ch)
    have hp := p.isLt
    refine (congrFun (traj_C ch m c ⟨n, hn⟩ hl) (ix2 p o)).trans ?_
    refine (pay3_at _ _ _ _ p o).trans ?_
    unfold rowAt
    have hj : r.val / 1024 = ch.tj n := by omega
    congr 1
    · funext q
      exact iblk3_at ch m c ⟨n, hn⟩ p q r hr _ _ (by show r.val = 8192 * (r.val / 8192) + r.val % 8192; omega)
    · funext q
      exact iblk4_at ch m c ⟨n, hn⟩ q _ (by show r.val / 8192 = ch.tj n / 8; omega)
    · funext q
      refine (acc_eq ch m c n hn (tl_tv ch n hn' hl) p q r hr).trans ?_
      rw [sofar_last ch _ _ _ n hn' hl, hj]
    · funext q
      exact iblk5_at ch m c ⟨n, hn⟩ q
  intro n
  induction n with
  | zero =>
    intro hn ho p o r hr
    rcases ho with ho | ho
    · exact base 0 hn ho p o r hr
    · exact absurd ch.tv_0 ho
  | succ n ih =>
    intro hn ho p o r hr
    have hn' : n + 1 < 208 := Nat.lt_of_lt_of_eq hn (N_eq ch)
    rcases ho with ho | ho
    · exact base (n + 1) hn ho p o r hr
    · refine (congrFun (traj_D ch m c ⟨n + 1, hn⟩ ho) (ix2 p o)).trans ?_
      rw [prev_succ]
      refine ih (Nat.lt_of_succ_lt hn) ?_ p o r (hr.trans (congrArg (fun x => 1024 * x + p.val) (ch.tv_stay n hn' ho)))
      by_cases hv : ch.tv n = 1
      · exact Or.inl ((ch.tl_step n hn').mpr ⟨hv, fun x => ho x.1⟩)
      · exact Or.inr hv

/-! ## The output array -/

/-- What the run leaves in the output's array. -/
def Holds (c : Dev nD) (i : S16384x1024.Idx) (v : EReal) : Prop := v = rowAt ch m c (i 0) (i 1)

theorem flushed6 (c : Dev nD) (t : Fin (cfgA ch).N) (hf : ((cfgA ch).win (6 : Fin 7)).flush t = true)
    (y : (((cfgA ch).win (6 : Fin 7)).xblock ((cfgA ch).grid.coords t)).Idx) :
    Holds ch m c ((((cfgA ch).win (6 : Fin 7)).blk t).view.emb y) ((dats ch m 0 c).flushed (6 : Fin 7) t y) := by
  have ht : t.val < 208 := Nat.lt_of_lt_of_eq t.isLt (N_eq ch)
  rw [flush6, decide_eq_true_eq] at hf
  have hi := index6 ch t
  have r0 : (((((cfgA ch).win (6 : Fin 7)).blk t).view.emb y : S16384x1024.Idx) 0).val = 1024 * ch.tj t.val + (y 0).val := by
    show ((cfgA ch).win (6 : Fin 7)).index t (0 : Fin 2) * 1024 + 1 * (y 0).val = _
    rw [hi]
    show ch.tj t.val * 1024 + 1 * (y 0).val = _
    omega
  have r1 : (((((cfgA ch).win (6 : Fin 7)).blk t).view.emb y : S16384x1024.Idx) 1) = (y 1 : Fin 1024) := by
    apply Fin.ext
    show ((cfgA ch).win (6 : Fin 7)).index t (1 : Fin 2) * 1024 + 1 * (y 1).val = (y 1).val
    rw [hi]
    show 0 * 1024 + 1 * (y 1).val = (y 1).val
    omega
  have key := out_eq ch m c t.val t.isLt (flush_end ch t.val ht hf) (y 0) (y 1) (((((cfgA ch).win (6 : Fin 7)).blk t).view.emb y : S16384x1024.Idx) 0) r0
  have hy : (y : S1024x1024.Idx) = ix2 (y 0) (y 1) := by
    funext a
    match a with
    | ⟨0, _⟩ => rfl
    | ⟨1, _⟩ => rfl
  refine (congrArg (traj0 ch m c t.val t.isLt).1 hy).trans (key.trans ?_)
  exact congrArg (fun o : Fin 1024 => rowAt ch m c _ o) r1.symm

theorem mem_blk6 (t : Fin (cfgA ch).N) (i : S16384x1024.Idx) :
    i ∈ (((cfgA ch).win (6 : Fin 7)).blk t).view.set ↔ ∀ a : Fin 2, ((cfgA ch).win (6 : Fin 7)).index t a * S1024x1024.size a ≤ (i a).val
      ∧ (i a).val < ((cfgA ch).win (6 : Fin 7)).index t a * S1024x1024.size a + S1024x1024.size a := by
  show i ∈ ((View.whole main_v3).slice (((cfgA ch).win (6 : Fin 7)).rect t)).set ↔ _
  rw [View.set_slice_whole, Rect.mem_set_unit]
  exact Iff.rfl

/-- THE OUTPUT. -/
theorem final6 (c : Dev nD) (i : S16384x1024.Idx) : Holds ch m c i ((dats ch m 0 c).arrAt (6 : Fin 7) (cfgA ch).N i) := by
  have hN := N_eq ch
  obtain ⟨t, hf, hi⟩ : ∃ t : Fin (cfgA ch).N, ((cfgA ch).win (6 : Fin 7)).flush t = true ∧ i ∈ (((cfgA ch).win (6 : Fin 7)).blk t).view.set := by
    have i0 : (i 0).val < 16384 := (i 0).isLt
    have i1 : (i 1).val < 1024 := (i 1).isLt
    have hend := ch.tj_end
    obtain ⟨t, h1, h2, h3⟩ := tile_end ch 207 (by decide) ((i 0).val / 1024) (by unfold Tables.tj; omega)
    refine ⟨⟨t, by omega⟩, ?_, ?_⟩
    · rw [flush6]; exact decide_eq_true h3
    · rw [mem_blk6, index6]
      intro a
      match a with
      | ⟨0, _⟩ =>
        show ch.tj t * 1024 ≤ (i 0).val ∧ (i 0).val < ch.tj t * 1024 + 1024
        omega
      | ⟨1, _⟩ =>
        show 0 * 1024 ≤ (i 1).val ∧ (i 1).val < 0 * 1024 + 1024
        omega
  exact (dats ch m 0 c).arrAt_forall_of_flushed (6 : Fin 7) (fun i v => Holds ch m c i v) (fun t hf y => flushed6 ch m c t hf y)
    (cfgA ch).N t i t.isLt hf hi

end Cert.MixCombine

end
-- ==== Proof.Combine.Ref.lean ====
/- The combine's plain reference read at an index: the rows gathered for each expert, gated and summed, added to the stream and
   normed. -/
module

public import proofs.«01_k».proof.Proof.Combine.Spec
public import proofs.«01_k».proof.Proof.Gen.CombineRefIdeal.Run
public import proofs.«01_k».proof.Proof.Gen.CombineRefIdeal.Read
public import Idealize.ShloMosaic.Lib.IdealHost
public import Idealize.ShloMosaic.Lib.ValueIdxCore

@[expose] public section

set_option maxRecDepth 16384
set_option Elab.async false

noncomputable section

namespace Cert.MixCombine

open Idealize.ShloMosaic
open Idealize.ShloMosaic.TcCoe
open Idealize.SL.Sem
open Cert.CombineRefIdeal Cert.CombineRefIdeal.Gen Cert.CombineRefIdeal.Facts₀
open Cert.CombineRefIdeal.Read

/-! ## The gather -/

theorem gather_at {α : Type} (x : S40960x1024.Idx → α) (idx : IVec S16384x8x1 32) (r : Fin 16384) (e : Fin 8) (o : Fin 1024) (b : Fin 40960)
    (hb : (idx (ix3 r e 0)).toInt = (b.val : ℤ)) :
    Host.gather gather_S40960x1024_S16384x8x1_S16384x8x1024_2_0_n_n_0_2_11024 x idx (ix3 r e o) = x (ix2 b o) := by
  unfold Host.gather
  congr 1
  funext a
  refine Fin.ext ?_
  have hbN : ∀ a', a' ∉ (gather_S40960x1024_S16384x8x1_S16384x8x1024_2_0_n_n_0_2_11024).operandBatchingDims := fun a' => List.not_mem_nil
  show (gather_S40960x1024_S16384x8x1_S16384x8x1024_2_0_n_n_0_2_11024).start (ix3 r e o) idx a
    + (gather_S40960x1024_S16384x8x1_S16384x8x1024_2_0_n_n_0_2_11024).batchCoord (ix3 r e o) a
    + (gather_S40960x1024_S16384x8x1_S16384x8x1024_2_0_n_n_0_2_11024).offCoord (ix3 r e o) a = _
  rw [GatherDims.batchCoord_eq_zero _ _ _ (hbN a), Nat.add_zero]
  match a with
  | ⟨0, _⟩ =>
    show (gather_S40960x1024_S16384x8x1_S16384x8x1024_2_0_n_n_0_2_11024).start (ix3 r e o) idx 0
      + (gather_S40960x1024_S16384x8x1_S16384x8x1024_2_0_n_n_0_2_11024).offCoord (ix3 r e o) 0 = b.val
    rw [GatherDims.offCoord_eq_zero _ _ _ (fun h => ((GatherDims.mem_sKept _ _).mp h).1 (List.mem_singleton.mpr rfl)), Nat.add_zero]
    unfold GatherDims.start
    rw [dif_pos (show (0 : Fin 2) ∈ (gather_S40960x1024_S16384x8x1_S16384x8x1024_2_0_n_n_0_2_11024).startIndexMap from List.mem_singleton.mpr rfl)]
    have hsi : (gather_S40960x1024_S16384x8x1_S16384x8x1024_2_0_n_n_0_2_11024).siIdx (ix3 r e o) ⟨List.idxOf (0 : Fin 2) (gather_S40960x1024_S16384x8x1_S16384x8x1024_2_0_n_n_0_2_11024).startIndexMap,
        List.idxOf_lt_length_iff.2 (List.mem_singleton.mpr rfl)⟩ = ix3 r e 0 := by
      funext b'; refine Fin.ext ?_
      match b' with
      | ⟨0, _⟩ => rfl
      | ⟨1, _⟩ => rfl
      | ⟨2, _⟩ => rfl
    have hbl := b.isLt
    rw [hsi, hb]
    show min ((b.val : Int)).toNat (40960 - 1) = b.val
    omega
  | ⟨1, _⟩ =>
    show (gather_S40960x1024_S16384x8x1_S16384x8x1024_2_0_n_n_0_2_11024).start (ix3 r e o) idx 1
      + (gather_S40960x1024_S16384x8x1_S16384x8x1024_2_0_n_n_0_2_11024).offCoord (ix3 r e o) 1 = o.val
    have hm : (1 : Fin 2) ∉ (gather_S40960x1024_S16384x8x1_S16384x8x1024_2_0_n_n_0_2_11024).startIndexMap := fun h => absurd (List.mem_singleton.1 h) (by decide)
    have hk : (1 : Fin 2) ∈ (gather_S40960x1024_S16384x8x1_S16384x8x1024_2_0_n_n_0_2_11024).sKept :=
      (GatherDims.mem_sKept _ 1).2 ⟨fun h => absurd (List.mem_singleton.1 h) (by decide), hbN 1⟩
    unfold GatherDims.start GatherDims.offCoord
    rw [dif_neg hm, dif_pos hk, Nat.zero_add]
    rfl

/-! ## One expert's rows -/

theorem word_pos (P : BitVec 32) (h : P.toNat < 2 ^ 31) : P.toInt = (P.toNat : ℤ) := by
  rw [BitVec.toInt_eq_toNat_cond]
  split <;> omega

theorem word_neg (P : BitVec 32) (h : ¬ P.toNat < 2 ^ 31) : P.toInt < 0 := by
  rw [BitVec.toInt_eq_toNat_cond]
  have := P.isLt
  split <;> omega

theorem zero_int : (0#32).toInt = 0 := by decide

theorem sge_one (P : BitVec 32) (h : P.toNat < 2 ^ 31) : IntOp.cmpi .sge P 0#32 = 1#1 := by
  show BitVec.ofBool (decide ((0#32).toInt ≤ P.toInt)) = 1#1
  rw [decide_eq_true]
  · rfl
  · rw [zero_int, word_pos P h]; omega

theorem sge_zero (P : BitVec 32) (h : ¬ P.toNat < 2 ^ 31) : IntOp.cmpi .sge P 0#32 = 0#1 := by
  show BitVec.ofBool (decide ((0#32).toInt ≤ P.toInt)) = 0#1
  rw [decide_eq_false]
  · rfl
  · have := word_neg P h
    rw [zero_int]; omega

theorem wrap_pos (P : BitVec 32) (h : P.toNat < 2 ^ 31) :
    Scalar.select (IntOp.cmpi .slt (IntOp.maxsi P 0#32) 0#32) (IntOp.addi (IntOp.maxsi P 0#32) 40960#32) (IntOp.maxsi P 0#32) = P := by
  have hp := word_pos P h
  have hm : IntOp.maxsi P 0#32 = P := by
    unfold IntOp.maxsi
    by_cases hs : (0#32).slt P = true
    · rw [if_pos hs]
    · rw [if_neg hs]
      have h0 : ¬ (0#32).toInt < P.toInt := fun x => hs (BitVec.slt_iff_toInt_lt.mpr x)
      apply BitVec.eq_of_toNat_eq
      rw [zero_int, hp] at h0
      show 0 = P.toNat
      omega
  have hc : IntOp.cmpi .slt P 0#32 = 0#1 := by
    show BitVec.ofBool (decide (P.toInt < (0#32).toInt)) = 0#1
    rw [decide_eq_false]
    · rfl
    · rw [zero_int, hp]; omega
  rw [hm, hc]
  rfl

variable (ys : Rows) (ps : Poss) (gs : Gates)

theorem ref_word (r : Fin 16384) (e : Fin 8) (h : (ps (ix2 r e)).toNat < 2 ^ 31) : val_main_v7 (F := Ideal) ps (ix3 r e 0) = ps (ix2 r e) := by
  have hi : idx_main_v7 (ix3 r e 0) = ix2 r e := by
    funext a; match a with
    | ⟨0, _⟩ => rfl
    | ⟨1, _⟩ => rfl
  rw [val_main_v7_apply, hi, val_main_v6_apply, val_main_v3_apply, val_main_v5_apply, val_main_v1_apply, val_main_v0_apply, val_main_c_apply,
    val_main_v2_apply, val_main_c_0_apply, val_main_v4_apply, val_main_c_1_apply]
  exact wrap_pos _ h

theorem ref_expert (hin : ∀ (r : Fin 16384) (e : Fin 8), (ps (ix2 r e)).toNat < 2 ^ 31 → (ps (ix2 r e)).toNat < 40960) (r : Fin 16384) (e : Fin 8) (o : Fin 1024) :
    val_main_v16 (F := Ideal) ys ps gs (ix3 r e o) = gs (ix2 r e) * given ys (ps (ix2 r e)) o := by
  have h1 : val_main_call0_v1 (F := Ideal) ps (ix3 r e o) = IntOp.cmpi .sge (ps (ix2 r e)) 0#32 := by
    unfold val_main_call0_v1 val_main_v12 val_main_v10 val_main_v11 val_main_c_2
    pointwise
  have h2 : val_main_v14 (F := Ideal) gs (ix3 r e o) = gs (ix2 r e) := by
    unfold val_main_v14 val_main_v13
    pointwise
  rw [val_main_v16_apply, h1]
  unfold given
  by_cases h : (ps (ix2 r e)).toNat < 2 ^ 31
  · rw [sge_one _ h, dif_pos (hin r e h), val_main_v15_apply, h2, val_main_v9_apply]
    have h3 : val_main_v8 (F := Ideal) ys ps (ix3 r e o) = ys (ix2 ⟨(ps (ix2 r e)).toNat, hin r e h⟩ o) := by
      unfold val_main_v8
      refine gather_at ys _ r e o ⟨(ps (ix2 r e)).toNat, hin r e h⟩ ?_
      rw [ref_word ps r e h]
      exact word_pos _ h
    rw [h3]
    rfl
  · rw [sge_zero _ h, dif_neg (by omega), mul_zero, val_main_call0_v2_apply]
    exact Ideal.ofBits_zero_f32

/-- The rows gathered, gated and summed over the experts. -/
theorem ref_sum (hin : ∀ (r : Fin 16384) (e : Fin 8), (ps (ix2 r e)).toNat < 2 ^ 31 → (ps (ix2 r e)).toNat < 40960) (r : Fin 16384) (o : Fin 1024) :
    val_main_v17 (F := Ideal) ys ps gs (ix2 r o) = ∑ e : Fin 8, gs (ix2 r e) * given ys (ps (ix2 r e)) o := by
  have hx : ∀ k : Fin 8, idx_main_v17 (ix2 r o) k = ix3 r k o := fun k => by
    funext a; match a with
    | ⟨0, _⟩ => rfl
    | ⟨1, _⟩ => rfl
    | ⟨2, _⟩ => rfl
  have hz : val_main_cst_3 (F := Ideal) (Shape.Idx.first Cert.CombineRefIdeal.Gen.h_S_) = (0 : EReal) := Ideal.ofBits_zero_f32
  rw [val_main_v17_apply, hz, zero_add]
  refine Finset.sum_congr rfl fun k _ => ?_
  rw [hx]
  exact ref_expert ys ps gs hin r k o

theorem ref_rows (b : Fin 2) (t : Fin 8192) (o : Fin 1024) (r : Fin 16384) (hr : r.val = 8192 * b.val + t.val) :
    val_main_v18 (F := Ideal) ys ps gs (ix3 b t o) = val_main_v17 (F := Ideal) ys ps gs (ix2 r o) := by
  rw [val_main_v18_apply]
  congr 1
  have ho := o.isLt
  funext a
  apply Fin.ext
  match a with
  | ⟨0, _⟩ => show ((b.val * 8192 + t.val) * 1024 + o.val) / 1024 = r.val; omega
  | ⟨1, _⟩ => show ((b.val * 8192 + t.val) * 1024 + o.val) % 1024 = o.val; omega

/-- THE REFERENCE at an index. -/
theorem ref_at (x : Stream) (md : Mods) (w : Chan) (b : Fin 2) (t : Fin 8192) (o : Fin 1024) :
    val_main_v35 (F := Ideal) ys ps gs x md w (ix3 b t o)
      = fin (fun q => x (ix3 b t q)) (fun q => md (ix3 b 5 q)) (fun q => val_main_v18 (F := Ideal) ys ps gs (ix3 b t q)) (fun q => w (ix1 q)) o := by
  unfold fin val_main_v35 val_main_v34 val_main_v33 val_main_v32 val_main_v31 val_main_v30 val_main_v29 val_main_v28 val_main_cst_6 val_main_v27 val_main_v26
    val_main_cst_5 val_main_v25 val_main_v24 val_main_cst_4 val_main_v23 val_main_v22 val_main_v21 val_main_v20 val_main_v19
  pointwise

end Cert.MixCombine

end
-- ==== Proof.Combine.Algebraic.lean ====
/- The combine's value claim: the kernel's rows, added up pair by pair, are the reference's, summed over the experts. -/
module

public import proofs.«01_k».proof.Proof.Combine.Total
public import proofs.«01_k».proof.Proof.Combine.Ref
public import proofs.«01_k».proof.Defs

@[expose] public section

set_option maxRecDepth 16384
set_option Elab.async false

noncomputable section

namespace Cert.MixCombine

open Cert.CombineIdeal Cert.CombineIdeal.Gen
open Idealize.ShloMosaic
open Idealize.ShloMosaic.TcCoe
open Idealize.SL.Sem
open Cert.CombineRefIdeal.Read

variable (ch : Tables Ideal) (m : (ℓ : Loc nD τ sig) → Buf (Elt Ideal) ℓ)

/-- The result after the run: the output array, its rows split in two batches. -/
theorem W_result (c : Dev nD) :
    Pipeline.afterTail pcfgs (fun _ => adm ch) (dats ch m) 0 (V0 m) [hostOps1] c main_v4
      = shapeCast S2x8192x1024 ((dats ch m 0 c).arrAt (6 : Fin 7) (cfgA ch).N : FVec Ideal S16384x1024 .f32) shapeCasts_S16384x1024_S2x8192x1024 := by
  have e := Pipeline.withArrays_arr spec0 (fun a b => (by decide : ∀ a b : Fin 7, Pipeline.arrRef spec0 a = Pipeline.arrRef spec0 b → a = b) a b) c (V0 m c)
    (fun w => (dats ch m 0 c).arrAt w (cfgA ch).N) (6 : Fin 7)
  unfold Pipeline.afterTail
  simp only [hostOps1, List.flatten_cons, List.flatten_nil, List.append_nil]
  after_results
  exact congrArg (fun v : FVec Ideal S16384x1024 .f32 => shapeCast S2x8192x1024 v shapeCasts_S16384x1024_S2x8192x1024) e

/-- What both programs leave. -/
def value (c : Dev nD) : S2x8192x1024.Idx → Elt Ideal .f32 :=
  val_main_v35 (F := Ideal) (aY m c) (aP m c) (aG m c) (aX m c) (aM m c) (aW m c)

theorem row_value (hP : ∀ c, Planned ch.T0 ch.T1 ch.T2 ch.T3 ch.T4 ch.T5 (aP m c)) (c : Dev nD) (b : Fin 2) (t : Fin 8192) (o : Fin 1024) (r : Fin 16384)
    (hr : r.val = 8192 * b.val + t.val) : rowAt ch m c r o = value m c (ix3 b t o) := by
  have hin : ∀ (r : Fin 16384) (e : Fin 8), (aP m c (ix2 r e)).toNat < 2 ^ 31 → (aP m c (ix2 r e)).toNat < 40960 := fun r e h => by
    obtain ⟨k, -, -, -, -, -, d⟩ := (hP c).placed r e h
    have hd := ch.td_lt k.val k.isLt
    have hk := ent_fin ch.T1 k.val k.isLt
    have hk2 : (ch.T1 (ix1 k)).toNat = ent ch.T1 k.val := hk.symm
    omega
  have hb := b.isLt
  have ht := t.isLt
  have eb : (⟨r.val / 8192, by have := r.isLt; omega⟩ : Fin 2) = b := Fin.ext (by show r.val / 8192 = b.val; omega)
  have et : (⟨r.val % 8192, by omega⟩ : Fin 8192) = t := Fin.ext (by show r.val % 8192 = t.val; omega)
  have hs : (fun q : Fin 1024 => sofar ch (aY m c) (aP m c) (aG m c) 208 (r.val / 1024) r q)
      = fun q : Fin 1024 => val_main_v18 (F := Ideal) (aY m c) (aP m c) (aG m c) (ix3 b t q) := funext fun q =>
    (all_pairs ch (aY m c) (aP m c) (aG m c) (hP c) r q).trans
      (((ref_rows (aY m c) (aP m c) (aG m c) b t q r hr).trans (ref_sum (aY m c) (aP m c) (aG m c) hin r q)).symm)
  have hx : (fun q : Fin 1024 => aX m c (ix3 (⟨r.val / 8192, by have := r.isLt; omega⟩ : Fin 2) (⟨r.val % 8192, by omega⟩ : Fin 8192) q)) = fun q => aX m c (ix3 b t q) := by
    rw [eb, et]
  have hm : (fun q : Fin 1024 => aM m c (ix3 (⟨r.val / 8192, by have := r.isLt; omega⟩ : Fin 2) 5 q)) = fun q => aM m c (ix3 b 5 q) := by
    rw [eb]
  unfold value
  rw [ref_at]
  unfold rowAt
  rw [hs, hx, hm]

theorem result_value (hP : ∀ c, Planned ch.T0 ch.T1 ch.T2 ch.T3 ch.T4 ch.T5 (aP m c)) (c : Dev nD) :
    shapeCast S2x8192x1024 ((dats ch m 0 c).arrAt (6 : Fin 7) (cfgA ch).N : FVec Ideal S16384x1024 .f32) shapeCasts_S16384x1024_S2x8192x1024 = value m c := by
  funext i
  have hi : i = ix3 (i 0 : Fin 2) (i 1 : Fin 8192) (i 2 : Fin 1024) := by
    funext a; match a with
    | ⟨0, _⟩ => rfl
    | ⟨1, _⟩ => rfl
    | ⟨2, _⟩ => rfl
  rw [hi]
  have h0 : (i 0).val < 2 := (i 0).isLt
  have h1 : (i 1).val < 8192 := (i 1).isLt
  refine (shapeCast_apply _ shapeCasts_S16384x1024_S2x8192x1024 (ix3 (i 0 : Fin 2) (i 1 : Fin 8192) (i 2 : Fin 1024))
    (ix2 (⟨8192 * (i 0).val + (i 1).val, by omega⟩ : Fin 16384) (i 2 : Fin 1024)) (by
      rewrite [Shape.rowMajor_val_two, Shape.rowMajor_val_three]
      show (8192 * (i 0).val + (i 1).val) * 1024 + (i 2).val = ((i 0).val * 8192 + (i 1).val) * 1024 + (i 2).val
      omega)).trans ?_
  refine (final6 ch m c _).trans ?_
  exact row_value ch m hP c (i 0) (i 1) (i 2) _ rfl

theorem algebraic : Cert.algebraic_CombineIdeal_CombineRefIdeal := fun m g m' g' hpre hargs => by
  obtain ⟨ch, hp, hP⟩ := exists_tables (F := Ideal) m hpre
  refine ⟨fun c => value m c, ?_, ?_⟩
  · refine (θ_run _ _ _).mono (fun r h c => ⟨?_, (h.2 c)⟩) (θ_run_and (run_main ch m g hp) (unchanged ch m g hp))
    exact ((h.1 c).2 main_v4 (Pipeline.mem_restRefs_of main_v4 (by decide) (by exact (by decide : ∀ w : Fin 7, (spec0 w).arr.view.ref ≠ main_v4)))).trans
      ((W_result ch m c).trans (result_value ch m hP c))
  · refine (θ_run _ _ _).mono (fun r h c => ⟨?_, (h c).2⟩) (Cert.CombineRefIdeal.Value.run (F := Ideal) m' g')
    obtain ⟨-, -, -, -, -, -, e6, e7, e8, e9, e10, e11⟩ := hargs c
    have e := (h c).1.trans (val_main_v35_eq m' c)
    rw [e6, e7, e8, e9, e10, e11] at e
    exact e

end Cert.MixCombine

end
-- ==== Proof.Inproj.Runs.lean ====
/- The input projection's body at a grid point, as two runs: at the first column tile of a row tile the rows are normed, kept and
   multiplied by the step columns; at every column tile the kept rows are multiplied by the tile. -/
module

public import proofs.«01_k».proof.Proof.Gen.InprojIdeal.Frame
public import proofs.«01_k».proof.Proof.Gen.InprojIdeal.Skeleton
public import proofs.«01_k».proof.Proof.Gen.InprojIdeal.Points
public import Idealize.ShloMosaic.Lib.Pipeline.Value
public import Idealize.ShloMosaic.Lib.Pointwise

@[expose] public section

set_option maxRecDepth 16384
set_option Elab.async false

noncomputable section

namespace Cert.MixInproj

open Cert.InprojIdeal Cert.InprojIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions' model. -/
local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A store through a whole view, last, leaves its payload. -/
theorem read_whole_store1 {sig : RefSig} {κ : Kind} {sp : Space} {S : Shape} {e : EltTy} (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  subst h
  funext y
  have hr := View.read_writes_cons_emb (v := v) (f := f) (Rect.whole S) w L y
  rw [Rect.emb_whole_apply] at hr
  exact hr

/-- A row of the modulation block. -/
def mrow (k : Fin 8) (x : Vec F S1x8x1024 .f32) : Vec F S1x1x1024 .f32 := fun y => x (ix3 0 k (y 2))

theorem ld_mrow (k : Fin 8) (inb : ∀ a, (![0, k.val, 0] : Fin 3 → ℕ) a + S1x1x1024.size a ≤ S1x8x1024.size a) (x : Vec F S1x8x1024 .f32) :
    View.ld x (Rect.unit (s := S1x8x1024) ![0, k.val, 0] S1x1x1024.size inb) = mrow k x := by
  funext y
  unfold mrow View.ld
  congr 1
  funext a
  apply Fin.ext
  have h0 : (y 0).val < 1 := (y 0).isLt
  have h1 : (y 1).val < 1 := (y 1).isLt
  match a with
  | ⟨0, _⟩ => show 0 + 1 * (y 0).val = 0; omega
  | ⟨1, _⟩ => show k.val + 1 * (y 1).val = k.val; omega
  | ⟨2, _⟩ => show 0 + 1 * (y 2).val = (y 2).val; omega

/-- What the first column tile leaves in the kept rows. -/
abbrev rowsOf (x0 : Vec F S1x1024x1024 .f32) (x1 : Vec F S1x8x1024 .f32) (x2 : Vec F S1x1024 .f32) : Vec F S1024x1024 .bf16 := k0_pay3 x0 x2 (mrow 0 x1) (mrow 1 x1)
/-- What it stores of the step columns. -/
abbrev dtOf (x0 : Vec F S1x1024x1024 .f32) (x1 : Vec F S1x8x1024 .f32) (x2 : Vec F S1x1024 .f32) (x4 : Vec F S1024x128 .bf16) : Vec F S1x1024x128 .f32 := k0_pay4 x0 x2 (mrow 0 x1) (mrow 1 x1) x4

set_option maxHeartbeats 1000000 in
theorem run_A (c : Dev nD) (i : grid0.Coords) (arg3 : Memref sig .tc .vmem S1x1024x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1024x2304 .bf16) (harg6 : arg6.IsWhole) (arg7 : Memref sig .tc .vmem S1024x128 .bf16) (harg7 : arg7.IsWhole) (arg8 : Memref sig .tc .vmem S1x1024x2304 .bf16) (harg8 : arg8.IsWhole) (arg9 : Memref sig .tc .vmem S1x1024x128 .f32) (harg9 : arg9.IsWhole) (arg10 : Memref sig .tc .vmem S1024x1024 .bf16) (harg10 : arg10.IsWhole) (hc0 : k0_cond1 i = 1#1) (x0 : Vec F S1x1024x1024 .f32) (x1 : Vec F S1x8x1024 .f32) (x2 : Vec F S1x1024 .f32) (x3 : Vec F S1024x2304 .bf16) (x4 : Vec F S1024x128 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay1 (rowsOf x0 x1 x2) x3) ∗ owns (c : Thread nD τ) arg9 fullShare (dtOf x0 x1 x2 x4) ∗ owns (c : Thread nD τ) arg10 fullShare (rowsOf x0 x1 x2)) -∗ K ⟨⟩))
      ⊢ wp frame (wpE (defs₀ (F := F)) Variants.none c none) E (cc0_inproj i arg3 harg3 arg4 harg4 arg5 harg5 arg6 harg6 arg7 harg7 arg8 harg8 arg9 harg9 arg10 harg10) K := by
  have em0 := ld_mrow (F := F) 0 inb_S1x8x1024_S1x1x1024_0_0_0 x1
  have em1 := ld_mrow (F := F) 1 inb_S1x8x1024_S1x1x1024_0_1_0 x1
  simp only [cc0_inproj_eq_skeleton, k0_part1_eq_skeleton]; unfold cc0_inproj_skel; simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap
    · iexact H5
    ipureintro
    sl_unfold_words
    refine (read_whole_store1 _ _ hz3 _ _ _).trans ?_
    rw [View.readCov_unit_zero (S := S1024x1024) _ hz2]
    simp only [View.readAt_eq_ld, Memref.IsWhole.read_unread, View.ld_unit_zero (S := S1024x2304) hz2, View.ld_unit_zero (S := S1x1024) hz2, View.ld_unit_zero (S := S1x1024x1024) hz3]
    unfold rowsOf; rw [← em0, ← em1]
    rfl
  isplitl [H6]
  · iexists _; isplitr; swap
    · iexact H6
    ipureintro
    sl_unfold_words
    refine (read_whole_store1 _ _ hz3 _ _ _).trans ?_
    simp only [View.readAt_eq_ld, Memref.IsWhole.read_unread, View.ld_unit_zero (S := S1024x128) hz2, View.ld_unit_zero (S := S1x1024) hz2, View.ld_unit_zero (S := S1x1024x1024) hz3]
    unfold dtOf; rw [← em0, ← em1]
    rfl
  iexists _; isplitr; swap
  · iexact H7
  ipureintro
  sl_unfold_words
  refine (read_whole_store1 _ _ hz2 _ _ _).trans ?_
  simp only [View.readAt_eq_ld, Memref.IsWhole.read_unread, View.ld_unit_zero (S := S1x1024) hz2, View.ld_unit_zero (S := S1x1024x1024) hz3]
  unfold rowsOf; rw [← em0, ← em1]
  rfl

set_option maxHeartbeats 1000000 in
theorem run_B (c : Dev nD) (i : grid0.Coords) (arg3 : Memref sig .tc .vmem S1x1024x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1024x2304 .bf16) (harg6 : arg6.IsWhole) (arg7 : Memref sig .tc .vmem S1024x128 .bf16) (harg7 : arg7.IsWhole) (arg8 : Memref sig .tc .vmem S1x1024x2304 .bf16) (harg8 : arg8.IsWhole) (arg9 : Memref sig .tc .vmem S1x1024x128 .f32) (harg9 : arg9.IsWhole) (arg10 : Memref sig .tc .vmem S1024x1024 .bf16) (harg10 : arg10.IsWhole) (hc0 : ¬k0_cond1 i = 1#1) (x0 : Vec F S1x1024x1024 .f32) (x1 : Vec F S1x8x1024 .f32) (x2 : Vec F S1x1024 .f32) (x3 : Vec F S1024x2304 .bf16) (x4 : Vec F S1024x128 .bf16) (x6 : Vec F S1x1024x128 .f32) (xs0 : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare x6 ∗ owns (c : Thread nD τ) arg10 fullShare xs0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay1 xs0 x3) ∗ owns (c : Thread nD τ) arg9 fullShare x6 ∗ owns (c : Thread nD τ) arg10 fullShare xs0) -∗ K ⟨⟩))
      ⊢ wp frame (wpE (defs₀ (F := F)) Variants.none c none) E (cc0_inproj i arg3 harg3 arg4 harg4 arg5 harg5 arg6 harg6 arg7 harg7 arg8 harg8 arg9 harg9 arg10 harg10) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hf7
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap
    · iexact H5
    ipureintro
    sl_unfold_words
    refine (read_whole_store1 _ _ hz3 _ _ _).trans ?_
    simp only [View.readAt_eq_ld, Memref.IsWhole.read_unread, View.ld_unit_zero (S := S1024x2304) hz2, View.ld_unit_zero (S := S1024x1024) hz2]
  isplitl [H6]
  · iexists _; isplitr; · ipureintro; exact harg9.read_unread _
    iexact H6
  iexists _; isplitr; · ipureintro; exact harg10.read_unread _
  iexact H7

end Cert.MixInproj

end
-- ==== Proof.Inproj.Frame.lean ====
/- The input projection's launch: what the buffers hold after each grid point, the body's obligation there, and the run of the whole
   program, for any floats. Both frame claims and the value claim read this one run. -/
module

public import Idealize.ShloMosaic.Lib.Claim
public import Idealize.ShloMosaic.Lib.Pipeline.TableIdle
public import proofs.«01_k».proof.Proof.Inproj.Runs
public import proofs.«01_k».proof.Proof.Gen.InprojIdeal.Launch

@[expose] public section

set_option maxRecDepth 16384
set_option Elab.async false

noncomputable section

namespace Cert.MixInproj

open Cert.InprojIdeal Cert.InprojIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions' model. -/
local notation "𝕄" => MT nD τ sig Unit (Elt F) ℕ (UR sig nD τ) ℕ

variable (m : (ℓ : Loc nD τ sig) → Buf (Elt F) ℓ) (ρ : Dev nD → PrngReg)

/-- The body's branch is taken at the first column tile. -/
theorem hcond : ∀ t : Fin cfg0.N, k0_cond1 (grid0.coords t) = 1#1 ↔ t.val % 4 = 0 := (by decide +kernel : ∀ t : Fin grid0.N, _)

theorem live5 : ∀ t : Fin cfg0.N, cfg0.idle 5 (grid0.coords t) = false := (by decide +kernel : ∀ t : Fin grid0.N, _)
theorem live6 : ∀ t : Fin cfg0.N, t.val % 4 = 0 → cfg0.idle 6 (grid0.coords t) = false := (by decide +kernel : ∀ t : Fin grid0.N, _)
theorem idle6 : ∀ t : Fin cfg0.N, ¬t.val % 4 = 0 → cfg0.idle 6 (grid0.coords t) = true := (by decide +kernel : ∀ t : Fin grid0.N, _)
theorem fresh6 : ∀ t : Fin cfg0.N, ¬t.val % 4 = 0 → cfg0.fresh 6 t.val = false := (by decide +kernel : ∀ t : Fin grid0.N, _)

/-- The first point of `t`'s row tile. -/
def base (t : Fin cfg0.N) : Fin cfg0.N := ⟨4 * (t.val / 4), Nat.lt_of_le_of_lt (Nat.mul_div_le _ _) t.isLt⟩

theorem base_self (t : Fin cfg0.N) (h : t.val % 4 = 0) : base t = t := Fin.ext (by show 4 * (t.val / 4) = t.val; omega)
theorem base_pred (t : Fin cfg0.N) (h : ¬t.val % 4 = 0) : base ⟨t.val - 1, by have := t.isLt; omega⟩ = base t := Fin.ext (by show 4 * ((t.val - 1) / 4) = 4 * (t.val / 4); omega)

/-- The kept rows at point `t`. -/
def rowsAt (c : Dev nD) (t : Fin cfg0.N) : Vec F S1024x1024 .bf16 := rowsOf (iblk m c 0 (base t)) (iblk m c 1 (base t)) (iblk m c 2 (base t))
/-- The column tile's output at point `t`. -/
def pAt (c : Dev nD) (t : Fin cfg0.N) : Vec F S1x1024x2304 .bf16 := k0_pay1 (rowsAt m c t) (iblk m c 3 t)
/-- The step columns' output at point `t`. -/
def dtAt (c : Dev nD) (t : Fin cfg0.N) : Vec F S1x1024x128 .f32 := dtOf (iblk m c 0 (base t)) (iblk m c 1 (base t)) (iblk m c 2 (base t)) (iblk m c 4 (base t))

theorem rowsAt_pred (c : Dev nD) (t : Fin cfg0.N) (h : ¬t.val % 4 = 0) : rowsAt m c ⟨t.val - 1, by have := t.isLt; omega⟩ = rowsAt m c t := by
  unfold rowsAt; rw [base_pred t h]
theorem dtAt_pred (c : Dev nD) (t : Fin cfg0.N) (h : ¬t.val % 4 = 0) : dtAt m c t = dtAt m c ⟨t.val - 1, by have := t.isLt; omega⟩ := by
  unfold dtAt; rw [base_pred t h]
theorem rowsAt_self (c : Dev nD) (t : Fin cfg0.N) (h : t.val % 4 = 0) : rowsAt m c t = rowsOf (iblk m c 0 t) (iblk m c 1 t) (iblk m c 2 t) := by
  unfold rowsAt; rw [base_self t h]
theorem dtAt_self (c : Dev nD) (t : Fin cfg0.N) (h : t.val % 4 = 0) : dtAt m c t = dtOf (iblk m c 0 t) (iblk m c 1 t) (iblk m c 2 t) (iblk m c 4 t) := by
  unfold dtAt; rw [base_self t h]

abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2304 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x2304 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x128 .f32 := win0_6.stage (cfg0.slots t 6)
abbrev hs0_6 (t : Fin cfg0.N) : (ms0_6 t).IsWhole := hstage0_6 ((cfg0.slots t 6).cast nbuf0_6)
/-- The scratch the kept rows lie in. -/
abbrev scM0_0 : Memref sig .tc .vmem S1024x1024 .bf16 := Memref.whole cc0_scratch0

theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- The invariant before position `n`: the scratch at anything before the first point, at the kept rows after. -/
def PhiS (c : Dev nD) : (n : ℕ) → n ≤ cfg0.N → sProp 𝕄
  | 0, _ => Pipeline.ΦA spec0 c
  | n + 1, hn => iprop(owns (c : Thread nD τ) scM0_0 fullShare (rowsAt m c ⟨n, hn⟩) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(owns (c : Thread nD τ) scM0_0 fullShare (rowsAt m c ⟨n, hn⟩) ∗ (∃ r, prngReg c r)) := rfl
theorem PhiS_pos (c : Dev nD) (n : ℕ) (h : n ≤ cfg0.N) (hz : n ≠ 0) :
    PhiS m c n h = iprop(owns (c : Thread nD τ) scM0_0 fullShare (rowsAt m c ⟨n - 1, by omega⟩) ∗ (∃ r, prngReg c r)) := by
  cases n with
  | zero => exact absurd rfl hz
  | succ n => rfl

/-- At any point the scratch holds something. -/
theorem PhiS_any (c : Dev nD) (n : ℕ) (h : n ≤ cfg0.N) : PhiS m c n h ⊢ iprop((∃ d, owns (c : Thread nD τ) scM0_0 fullShare d) ∗ (∃ r, prngReg c r)) := by
  by_cases hz : n = 0
  · rw [PhiS_zero m c n h hz, PhiA0_eq]
    try exact Idealize.SL.BI.Entails.refl _
  · rw [PhiS_pos m c n h hz]
    iintro ⟨HS, Hg⟩
    isplitl [HS]
    · iexists _; iexact HS
    iexact Hg

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => pAt m c t
    | ⟨6, _⟩ => dtAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = pAt m c t := by dsimp only [dats]
theorem after0_6 (c : Dev nD) (t : Fin cfg0.N) : (dats m 0 c).after 6 t = dtAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Away from the first column tile the step columns' buffer still holds what the first left. -/
theorem before0_6 (c : Dev nD) (t : Fin cfg0.N) (h : ¬t.val % 4 = 0) (d) : (dats m 0 c).before 6 t d = dtAt m c t := by
  refine ((dats m 0 c).before_out_traj 6 rfl (fun _ _ => rfl) (fun t ht hi hf => ?_) t.val t rfl d).trans ?_
  · have h4 : ¬t.val % 4 = 0 := fun h4 => by
      have e := live6 t h4
      rw [show cfg0.idle 6 (cfg0.grid.coords t) = cfg0.idle 6 (grid0.coords t) from rfl, e] at hi
      exact Bool.false_ne_true hi
    rw [after0_6, after0_6]
    exact dtAt_pred m c t h4
  · rw [fresh6 t h]
    simp only [Bool.false_eq_true, ↓reduceIte, after0_6]
    exact (dtAt_pred m c t h).symm

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0_0 (c : Dev nD) (t : Fin cfg0.N) : (dats m 0 c).leavesExact 0 t = owns (c : Thread nD τ) (ms0_0 t) fullShare (iblk m c 0 t) := by
  unfold Dat.leavesExact
  rw [show cfg0.idle 0 (cfg0.grid.coords t) = false from rfl, after0_0]
theorem leaves0_1 (c : Dev nD) (t : Fin cfg0.N) : (dats m 0 c).leavesExact 1 t = owns (c : Thread nD τ) (ms0_1 t) fullShare (iblk m c 1 t) := by
  unfold Dat.leavesExact
  rw [show cfg0.idle 1 (cfg0.grid.coords t) = false from rfl, after0_1]
theorem leaves0_2 (c : Dev nD) (t : Fin cfg0.N) : (dats m 0 c).leavesExact 2 t = owns (c : Thread nD τ) (ms0_2 t) fullShare (iblk m c 2 t) := by
  unfold Dat.leavesExact
  rw [show cfg0.idle 2 (cfg0.grid.coords t) = false from rfl, after0_2]
theorem leaves0_3 (c : Dev nD) (t : Fin cfg0.N) : (dats m 0 c).leavesExact 3 t = owns (c : Thread nD τ) (ms0_3 t) fullShare (iblk m c 3 t) := by
  unfold Dat.leavesExact
  rw [show cfg0.idle 3 (cfg0.grid.coords t) = false from rfl, after0_3]
theorem leaves0_4 (c : Dev nD) (t : Fin cfg0.N) : (dats m 0 c).leavesExact 4 t = owns (c : Thread nD τ) (ms0_4 t) fullShare (iblk m c 4 t) := by
  unfold Dat.leavesExact
  rw [show cfg0.idle 4 (cfg0.grid.coords t) = false from rfl, after0_4]
theorem leaves0_5 (c : Dev nD) (t : Fin cfg0.N) : (dats m 0 c).leavesExact 5 t = owns (c : Thread nD τ) (ms0_5 t) fullShare (pAt m c t) := by
  unfold Dat.leavesExact
  rw [show cfg0.idle 5 (cfg0.grid.coords t) = false from live5 t, after0_5]
theorem leaves0_6 (c : Dev nD) (t : Fin cfg0.N) : owns (c : Thread nD τ) (ms0_6 t) fullShare (dtAt m c t) ⊢ (dats m 0 c).leavesExact 6 t := by
  unfold Dat.leavesExact
  by_cases h : t.val % 4 = 0
  · rw [show cfg0.idle 6 (cfg0.grid.coords t) = false from live6 t h, after0_6]
  · rw [show cfg0.idle 6 (cfg0.grid.coords t) = true from idle6 t h, after0_6]
    cases hf : (cfg0.win 6).flush t
    · simp only [before0_6 m c t h]
      iintro H
      iexists (dtAt m c t)
      iexact H
    · exact Idealize.SL.BI.Entails.refl _

set_option maxHeartbeats 1000000 in
/-- THE BODY'S OBLIGATION at point `t`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4, leaves0_5]
  rw [show (dats m 0 c).owesAt () t.succ = (dats m 0 c).owesAt () t.castSucc from rfl]
  rw [show (dats m 0 c).Φ t.succ = PhiS m c (t.val + 1) t.isLt from rfl, PhiS_succ, PhiS_castSucc m c t]
  by_cases h : t.val % 4 = 0
  · iintro ⟨HP, Ho, ⟨%d0, H0⟩, ⟨%d1, H1⟩, ⟨%d2, H2⟩, ⟨%d3, H3⟩, ⟨%d4, H4⟩, ⟨%d5, H5⟩, ⟨%d6, H6⟩⟩
    ihave HQ := (PhiS_any m c t.val _) $$ HP
    icases HQ with ⟨HS, Hg⟩
    iapply (run_A c (grid0.coords t) _ _ _ _ _ _ _ _ _ _ _ _ _ _ _ _ ((hcond t).mpr h) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    unfold pAt; rw [rowsAt_self m c t h]
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves0_6 m c t); rw [dtAt_self m c t h]; iexact H6
  · have hz : t.val ≠ 0 := fun hz => h (by rw [hz])
    rw [PhiS_pos m c _ _ hz, rowsAt_pred m c t h]
    simp only [before0_6 m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_B c (grid0.coords t) _ _ _ _ _ _ _ _ _ _ _ _ _ _ _ _ (fun e => h ((hcond t).mp e)) (iblk m c 0 t) (iblk m c 1 t) (iblk m c 2 t) (iblk m c 3 t) (iblk m c 4 t) (dtAt m c t) (rowsAt m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexact HS
    unfold pAt
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves0_6 m c t); iexact H6

/-- The body table's row at point `t` is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [PhiA0_eq]
  exact PhiS_any m c cfg0.N (Nat.le_refl _)

set_option backward.isDefEq.respectTransparency.types false in
/-- THE RUN: every execution ends with the pipeline's arrays at what the proof data says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.MixInproj

end
-- ==== Proof.Inproj.Pre.lean ====
/- The input projection's frames: at the machine's floats and at the reals, from the run over any floats. -/
module

public import proofs.«01_k».proof.Proof.Inproj.Frame
public import proofs.«01_k».proof.Proof.Gen.Inproj
public import proofs.«01_k».proof.Defs

@[expose] public section

set_option maxRecDepth 16384

noncomputable section

namespace Cert.MixInproj

open Cert.InprojIdeal Cert.InprojIdeal.Gen
open Idealize.ShloMosaic
open Idealize.ShloMosaic.TcCoe
open Idealize.SL.Sem

/-- The two printed programs have the same body, -/
theorem bodies_eq : Cert.Inproj.defs₀ (F := Bits) = Cert.InprojIdeal.defs₀ (F := Bits) := by
  unfold Cert.Inproj.defs₀ Cert.InprojIdeal.defs₀
  apply congrArg Defs.onTc
  funext l a
  obtain ⟨l, hl⟩ := l
  obtain rfl : l = 0 := by
    have : l < 1 := hl
    omega
  rfl

/-- and the same pipeline around it. -/
theorem defs_eq : Cert.Inproj.defs (F := Bits) = Cert.InprojIdeal.defs (F := Bits) := by
  unfold Cert.Inproj.defs Cert.InprojIdeal.defs
  exact congrArg (Pipeline.defs (Cert.InprojIdeal.pcfgs (F := Bits))) bodies_eq

theorem frame_ideal : Cert.quiescent_InprojIdeal := fun m ρ _ => frame (F := Ideal) m ρ

theorem frame_bits : Cert.quiescent_Inproj := fun m ρ _ => by
  rw [defs_eq]
  exact frame (F := Bits) m ρ

end Cert.MixInproj

end
-- ==== Proof.Inproj.Value.lean ====
/- The input projection at the extended reals: the normed and modulated rows, the weights' columns as the host places them, and the
   kernel's two outputs at an index. -/
module

public import proofs.«01_k».proof.Proof.Inproj.Frame
public import Idealize.ShloMosaic.Lib.KernelVsHost
public import Idealize.ShloMosaic.Lib.Claim

@[expose] public section

set_option maxRecDepth 16384
set_option Elab.async false

noncomputable section

namespace Cert.MixInproj

open Cert.InprojIdeal Cert.InprojIdeal.Gen
open Idealize.ShloMosaic
open Idealize.ShloMosaic.TcCoe
open Idealize.SL.Sem

/-! ## The arrays -/

abbrev Stream := S2x8192x1024.Idx → Elt Ideal .f32
abbrev Mods := S2x6x1024.Idx → Elt Ideal .f32
abbrev Chan := S1024.Idx → Elt Ideal .f32
abbrev Win := S1024x8976.Idx → Elt Ideal .f32

/-- The normed and modulated row at channel `k`. -/
def nrm (x : Stream) (md : Mods) (nw : Chan) (b : Fin 2) (t : Fin 8192) (k : Fin 1024) : EReal :=
  x (ix3 b t k) * Ideal.rsqrt (Ideal.div (∑ q : Fin 1024, x (ix3 b t q) * x (ix3 b t q)) (Ideal.ofBits FTy.f32 1149239296#32)
      + Ideal.ofBits FTy.f32 897988541#32) * nw (ix1 k) * (1 + md (ix3 b 1 k)) + md (ix3 b 0 k)

/-- The row times column `j` of the weights. -/
def full (x : Stream) (md : Mods) (nw : Chan) (w : Win) (b : Fin 2) (t : Fin 8192) (j : Fin 8976) : EReal :=
  ∑ k : Fin 1024, nrm x md nw b t k * w (ix2 k j)

/-- A value per column of the weights, placed as the wide result holds the columns: 256 zeros after the first 768, the 16 step columns left out. -/
def place (f : Fin 8976 → EReal) (j : Fin 9216) : EReal :=
  if h0 : j.val < 768 then f ⟨j.val, by omega⟩
  else if h1 : j.val < 1024 then 0
  else if h2 : j.val < 6144 then f ⟨j.val - 256, by omega⟩
  else f ⟨j.val - 240, by have := j.isLt; omega⟩

/-- A value per column of the weights, the 16 step columns kept and 112 zeros after them. -/
def placeDt (f : Fin 8976 → EReal) (j : Fin 128) : EReal :=
  if h0 : j.val < 16 then f ⟨5888 + j.val, by omega⟩ else 0

theorem place_sum (h : Fin 1024 → EReal) (w : Win) (j : Fin 9216) :
    ∑ k : Fin 1024, h k * place (fun q => w (ix2 k q)) j = place (fun q => ∑ k : Fin 1024, h k * w (ix2 k q)) j := by
  unfold place
  by_cases h0 : j.val < 768
  · simp only [dif_pos h0]
  · by_cases h1 : j.val < 1024
    · simp only [dif_neg h0, dif_pos h1, mul_zero, Finset.sum_const_zero]
    · by_cases h2 : j.val < 6144
      · simp only [dif_neg h0, dif_neg h1, dif_pos h2]
      · simp only [dif_neg h0, dif_neg h1, dif_neg h2]

theorem placeDt_sum (h : Fin 1024 → EReal) (w : Win) (j : Fin 128) :
    ∑ k : Fin 1024, h k * placeDt (fun q => w (ix2 k q)) j = placeDt (fun q => ∑ k : Fin 1024, h k * w (ix2 k q)) j := by
  unfold placeDt
  by_cases h0 : j.val < 16
  · simp only [dif_pos h0]
  · simp only [dif_neg h0, mul_zero, Finset.sum_const_zero]

/-! ## The payloads at an index -/

theorem rows_pay_at (xb : Vec Ideal S1x1024x1024 .f32) (mb : Vec Ideal S1x8x1024 .f32) (nb : Vec Ideal S1x1024 .f32) (p k : Fin 1024) :
    k0_pay2 xb nb (mrow 0 mb) (mrow 1 mb) (ix2 p k) = xb (ix3 0 p k) * Ideal.rsqrt (Ideal.div (∑ q : Fin 1024, xb (ix3 0 p q) * xb (ix3 0 p q)) (Ideal.ofBits FTy.f32 1149239296#32)
      + Ideal.ofBits FTy.f32 897988541#32) * nb (ix2 0 k) * (1 + mb (ix3 0 1 k)) + mb (ix3 0 0 k) := by
  have e3 : mrow 0 mb (ix3 0 0 k) = mb (ix3 0 0 k) := rfl
  have e4 : mrow 1 mb (ix3 0 0 k) = mb (ix3 0 1 k) := rfl
  rw [← e3, ← e4]
  unfold k0_pay2
  pointwise

theorem pay3_at (xb : Vec Ideal S1x1024x1024 .f32) (nb : Vec Ideal S1x1024 .f32) (a b : Vec Ideal S1x1x1024 .f32) (p k : Fin 1024) :
    k0_pay3 xb nb a b (ix2 p k) = k0_pay2 xb nb a b (ix2 p k) := by
  unfold k0_pay3
  pointwise

theorem pay1_at (h : Vec Ideal S1024x1024 .bf16) (w : Vec Ideal S1024x2304 .bf16) (p : Fin 1024) (q : Fin 2304) :
    k0_pay1 h w (ix3 0 p q) = ∑ k : Fin 1024, h (ix2 p k) * w (ix2 k q) := by
  unfold k0_pay1
  pointwise

theorem pay4_at (xb : Vec Ideal S1x1024x1024 .f32) (nb : Vec Ideal S1x1024 .f32) (a b : Vec Ideal S1x1x1024 .f32) (w : Vec Ideal S1024x128 .bf16) (p : Fin 1024) (q : Fin 128) :
    k0_pay4 xb nb a b w (ix3 0 p q) = ∑ k : Fin 1024, k0_pay2 xb nb a b (ix2 p k) * w (ix2 k q) := by
  unfold k0_pay4
  generalize k0_pay2 xb nb a b = h
  pointwise

/-! ## The weights' columns as the host places them -/

abbrev wMain (w : Win) : FVec Ideal S1024x9216 .f32 :=
  concatenate S1024x9216 1 [⟨S1024x768, (extractStridedSlice S1024x768 ![0, 0] w slices_S1024x8976_S1024x768_0_0 : (⟨S1024x768, .f32⟩ : BufTy).Contents (Elt Ideal))⟩,
    ⟨S1024x256, (broadcastInDim S1024x256 ![] bcast_S_S1024x256 (constant (F := Ideal) S_ .f32 0x00000000#32) : (⟨S1024x256, .f32⟩ : BufTy).Contents (Elt Ideal))⟩,
    ⟨S1024x5120, (extractStridedSlice S1024x5120 ![0, 768] w slices_S1024x8976_S1024x5120_0_768 : (⟨S1024x5120, .f32⟩ : BufTy).Contents (Elt Ideal))⟩,
    ⟨S1024x3072, (extractStridedSlice S1024x3072 ![0, 5904] w slices_S1024x8976_S1024x3072_0_5904 : (⟨S1024x3072, .f32⟩ : BufTy).Contents (Elt Ideal))⟩]
    concatenates_S1024x768_S1024x256_S1024x5120_S1024x3072_S1024x9216_d1

theorem wMain_at (w : Win) (k : Fin 1024) (j : Fin 9216) : wMain w (ix2 k j) = place (fun q => w (ix2 k q)) j := by
  have hj := j.isLt
  unfold place
  by_cases h0 : j.val < 768
  · rw [dif_pos h0]
    refine (concatenate_apply_piece 1 _ _ (ix2 k j) 0 (by show 0 < 4; decide) S1024x768 _ rfl rfl 0 rfl (ix2 k ⟨j.val, h0⟩) (fun b hb => ?_) ?_).trans ?_
    · match b with
      | ⟨0, _⟩ => rfl
      | ⟨1, _⟩ => exact absurd rfl hb
    · show 0 + j.val = j.val; omega
    · exact extractStridedSlice_apply ![0, 0] w slices_S1024x8976_S1024x768_0_0 _ (ix2 k ⟨j.val, by omega⟩) (fun a => match a with
        | ⟨0, _⟩ => by show k.val = 0 + k.val; omega
        | ⟨1, _⟩ => by show j.val = 0 + j.val; omega)
  · rw [dif_neg h0]
    by_cases h1 : j.val < 1024
    · rw [dif_pos h1]
      refine (concatenate_apply_piece 1 _ _ (ix2 k j) 1 (by show 1 < 4; decide) S1024x256 _ rfl rfl 768 rfl (ix2 k ⟨j.val - 768, by omega⟩) (fun b hb => ?_) ?_).trans ?_
      · match b with
        | ⟨0, _⟩ => rfl
        | ⟨1, _⟩ => exact absurd rfl hb
      · show 768 + (j.val - 768) = j.val; omega
      · pointwise
    · rw [dif_neg h1]
      by_cases h2 : j.val < 6144
      · rw [dif_pos h2]
        refine (concatenate_apply_piece 1 _ _ (ix2 k j) 2 (by show 2 < 4; decide) S1024x5120 _ rfl rfl 1024 rfl (ix2 k ⟨j.val - 1024, by omega⟩) (fun b hb => ?_) ?_).trans ?_
        · match b with
          | ⟨0, _⟩ => rfl
          | ⟨1, _⟩ => exact absurd rfl hb
        · show 1024 + (j.val - 1024) = j.val; omega
        · exact extractStridedSlice_apply ![0, 768] w slices_S1024x8976_S1024x5120_0_768 _ (ix2 k ⟨j.val - 256, by omega⟩) (fun a => match a with
            | ⟨0, _⟩ => by show k.val = 0 + k.val; omega
            | ⟨1, _⟩ => by show j.val - 256 = 768 + (j.val - 1024); omega)
      · rw [dif_neg h2]
        refine (concatenate_apply_piece 1 _ _ (ix2 k j) 3 (by show 3 < 4; decide) S1024x3072 _ rfl rfl 6144 rfl (ix2 k ⟨j.val - 6144, by omega⟩) (fun b hb => ?_) ?_).trans ?_
        · match b with
          | ⟨0, _⟩ => rfl
          | ⟨1, _⟩ => exact absurd rfl hb
        · show 6144 + (j.val - 6144) = j.val; omega
        · exact extractStridedSlice_apply ![0, 5904] w slices_S1024x8976_S1024x3072_0_5904 _ (ix2 k ⟨j.val - 240, by omega⟩) (fun a => match a with
            | ⟨0, _⟩ => by show k.val = 0 + k.val; omega
            | ⟨1, _⟩ => by show j.val - 240 = 5904 + (j.val - 6144); omega)

abbrev wDt (w : Win) : FVec Ideal S1024x128 .f32 :=
  pad S1024x128 ![0, 0] ![0, 112] ![0, 0] (extractStridedSlice S1024x16 ![0, 5888] w slices_S1024x8976_S1024x16_0_5888 : FVec Ideal S1024x16 .f32)
    (sitofp (F := Ideal) .f32 (constantI S_ 32 0#32)) pads_S1024x16_S1024x128_000_01120 h_S_

theorem wDt_at (w : Win) (k : Fin 1024) (j : Fin 128) : wDt w (ix2 k j) = placeDt (fun q => w (ix2 k q)) j := by
  have hj := j.isLt
  unfold placeDt
  by_cases h0 : j.val < 16
  · rw [dif_pos h0]
    refine (pad_apply_of_inside _ _ _ _ _ _ _ (ix2 k j) (ix2 k ⟨j.val, h0⟩) (fun a => ?_)).trans ?_
    · match a with
      | ⟨0, _⟩ => show k.val = 0 + k.val * (0 + 1); omega
      | ⟨1, _⟩ => show j.val = 0 + j.val * (0 + 1); omega
    · exact extractStridedSlice_apply ![0, 5888] w slices_S1024x8976_S1024x16_0_5888 _ (ix2 k ⟨5888 + j.val, by omega⟩) (fun a => match a with
        | ⟨0, _⟩ => by show k.val = 0 + k.val; omega
        | ⟨1, _⟩ => by show 5888 + j.val = 5888 + j.val; omega)
  · rw [dif_neg h0]
    refine (pad_apply_of_not_inside _ _ _ _ _ _ _ (ix2 k j) (1 : Fin 2) (fun hh => ?_)).trans ?_
    · have h3 : (j.val - 0) / (0 + 1) < 16 := hh.2.2
      rw [Nat.sub_zero, Nat.zero_add, Nat.div_one] at h3
      exact h0 h3
    · show (((0#32 : BitVec 32).toInt : ℝ) : EReal) = 0
      norm_num

/-! ## The kernel's arrays as the grid finds them -/

variable (m : (ℓ : Loc nD τ sig) → Buf (Elt Ideal) ℓ)

abbrev aX (c : Dev nD) : Stream := m ((c : Thread nD τ).loc main_arg0)
abbrev aM (c : Dev nD) : Mods := m ((c : Thread nD τ).loc main_arg1)
abbrev aN (c : Dev nD) : Chan := m ((c : Thread nD τ).loc main_arg2)
abbrev aW (c : Dev nD) : Win := m ((c : Thread nD τ).loc main_arg3)

theorem V_mods (c : Dev nD) : V m c main_v0 = pad S2x8x1024 ![0, 0, 0] ![0, 2, 0] ![0, 0, 0] (m ((c : Thread nD τ).loc main_arg1) : FVec Ideal S2x6x1024 .f32) (sitofp (F := Ideal) .f32 (constantI S_ 32 0#32)) pads_S2x6x1024_S2x8x1024_000_020_000 h_S_ := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results

theorem V_norm (c : Dev nD) : V m c main_v10 = broadcastInDim S1x1024 ![1] bcast_S1024_S1x1024_1 (m ((c : Thread nD τ).loc main_arg2)) := by
  unfold V
  simp only [hostOps0, hostOps0_1, hostOps0_2, hostOps0_3, hostOps0_4, List.flatten_cons, List.flatten_nil, List.append_nil, List.cons_append, List.nil_append]
  after_results

theorem V_w (c : Dev nD) : V m c main_v6 = (truncf .bf16 (wMain (aW m c)) bitsLt_bf16_f32 : FVec Ideal S1024x9216 .bf16) := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

theorem V_wdt (c : Dev nD) : V m c main_v9 = (truncf .bf16 (wDt (aW m c)) bitsLt_bf16_f32 : FVec Ideal S1024x128 .bf16) := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results

theorem mods_at (x : FVec Ideal S2x6x1024 .f32) (b : Fin 2) (k : Fin 1024) :
    let y : FVec Ideal S2x8x1024 .f32 := pad S2x8x1024 ![0, 0, 0] ![0, 2, 0] ![0, 0, 0] x (sitofp (F := Ideal) .f32 (constantI S_ 32 0#32)) pads_S2x6x1024_S2x8x1024_000_020_000 h_S_
    y (ix3 b 0 k) = x (ix3 b 0 k) ∧ y (ix3 b 1 k) = x (ix3 b 1 k) := by
  refine ⟨?_, ?_⟩
  · pointwise
  · pointwise

theorem idx0 : ∀ t : Fin cfg0.N, win0_0.index t = ![t.val / 32, t.val / 4 % 8, 0] := (by decide +kernel : ∀ t : Fin grid0.N, _)
theorem idx1 : ∀ t : Fin cfg0.N, win0_1.index t = ![t.val / 32, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, t.val % 4] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 32, t.val / 4 % 8, t.val % 4] := (by decide +kernel : ∀ t : Fin grid0.N, _)
theorem idx6 : ∀ t : Fin cfg0.N, win0_6.index t = ![t.val / 32, t.val / 4 % 8, 0] := (by decide +kernel : ∀ t : Fin grid0.N, _)

theorem blk_x (c : Dev nD) (t : Fin cfg0.N) (p k : Fin 1024) (b : Fin 2) (r : Fin 8192) (hb : b.val = t.val / 32) (hr : r.val = 1024 * (t.val / 4 % 8) + p.val) :
    (iblk m c 0 t : S1x1024x1024.Idx → Elt Ideal .f32) (ix3 0 p k) = aX m c (ix3 b r k) := by
  unfold iblk
  rw [View.read_apply]
  show V m c main_arg0 _ = _
  rw [V_main_arg0]
  show m (c.tc.loc main_arg0) _ = m (c.tc.loc main_arg0) _
  congr 1
  have hi := idx0 t
  funext a
  apply Fin.ext
  match a with
  | ⟨0, _⟩ =>
    show win0_0.index t (0 : Fin 3) * 1 + 1 * 0 = b.val
    rw [hi]
    show t.val / 32 * 1 + 1 * 0 = b.val
    omega
  | ⟨1, _⟩ =>
    show win0_0.index t (1 : Fin 3) * 1024 + 1 * p.val = r.val
    rw [hi]
    show t.val / 4 % 8 * 1024 + 1 * p.val = r.val
    omega
  | ⟨2, _⟩ =>
    show win0_0.index t (2 : Fin 3) * 1024 + 1 * k.val = k.val
    rw [hi]
    show 0 * 1024 + 1 * k.val = k.val
    omega

theorem blk_m (c : Dev nD) (t : Fin cfg0.N) (q : Fin 8) (k : Fin 1024) (b : Fin 2) (hb : b.val = t.val / 32) :
    (iblk m c 1 t : S1x8x1024.Idx → Elt Ideal .f32) (ix3 0 q k)
      = (pad S2x8x1024 ![0, 0, 0] ![0, 2, 0] ![0, 0, 0] (aM m c) (sitofp (F := Ideal) .f32 (constantI S_ 32 0#32)) pads_S2x6x1024_S2x8x1024_000_020_000 h_S_ : FVec Ideal S2x8x1024 .f32) (ix3 b q k) := by
  unfold iblk
  rw [View.read_apply]
  show V m c main_v0 _ = _
  rw [V_mods]
  congr 1
  have hi := idx1 t
  funext a
  apply Fin.ext
  match a with
  | ⟨0, _⟩ =>
    show win0_1.index t (0 : Fin 3) * 1 + 1 * 0 = b.val
    rw [hi]
    show t.val / 32 * 1 + 1 * 0 = b.val
    omega
  | ⟨1, _⟩ =>
    show win0_1.index t (1 : Fin 3) * 8 + 1 * q.val = q.val
    rw [hi]
    show 0 * 8 + 1 * q.val = q.val
    omega
  | ⟨2, _⟩ =>
    show win0_1.index t (2 : Fin 3) * 1024 + 1 * k.val = k.val
    rw [hi]
    show 0 * 1024 + 1 * k.val = k.val
    omega

theorem norm_at (x : FVec Ideal S1024 .f32) (k : Fin 1024) : broadcastInDim S1x1024 ![1] bcast_S1024_S1x1024_1 x (ix2 0 k) = x (ix1 k) := by
  pointwise

theorem blk_n (c : Dev nD) (t : Fin cfg0.N) (k : Fin 1024) :
    (iblk m c 2 t : S1x1024.Idx → Elt Ideal .f32) (ix2 0 k) = aN m c (ix1 k) := by
  unfold iblk
  rw [View.read_apply]
  show V m c main_v10 _ = _
  rw [V_norm]
  refine Eq.trans ?_ (norm_at (aN m c) k)
  show broadcastInDim S1x1024 ![1] bcast_S1024_S1x1024_1 (aN m c) _ = _
  congr 1
  have hi := idx2 t
  funext a
  apply Fin.ext
  match a with
  | ⟨0, _⟩ =>
    show win0_2.index t (0 : Fin 2) * 1 + 1 * 0 = 0
    rw [hi]
    rfl
  | ⟨1, _⟩ =>
    show win0_2.index t (1 : Fin 2) * 1024 + 1 * k.val = k.val
    rw [hi]
    show 0 * 1024 + 1 * k.val = k.val
    omega

theorem blk_w (c : Dev nD) (t : Fin cfg0.N) (k : Fin 1024) (q : Fin 2304) (j : Fin 9216) (hj : j.val = 2304 * (t.val % 4) + q.val) :
    (iblk m c 3 t : S1024x2304.Idx → Elt Ideal .bf16) (ix2 k q) = place (fun q => aW m c (ix2 k q)) j := by
  unfold iblk
  rw [View.read_apply]
  show V m c main_v6 _ = _
  rw [V_w]
  refine Eq.trans ?_ (wMain_at (aW m c) k j)
  show wMain (aW m c) _ = wMain (aW m c) _
  congr 1
  have hi := idx3 t
  funext a
  apply Fin.ext
  match a with
  | ⟨0, _⟩ =>
    show win0_3.index t (0 : Fin 2) * 1024 + 1 * k.val = k.val
    rw [hi]
    show 0 * 1024 + 1 * k.val = k.val
    omega
  | ⟨1, _⟩ =>
    show win0_3.index t (1 : Fin 2) * 2304 + 1 * q.val = j.val
    rw [hi]
    show t.val % 4 * 2304 + 1 * q.val = j.val
    omega

theorem blk_wdt (c : Dev nD) (t : Fin cfg0.N) (k : Fin 1024) (q : Fin 128) :
    (iblk m c 4 t : S1024x128.Idx → Elt Ideal .bf16) (ix2 k q) = placeDt (fun q => aW m c (ix2 k q)) q := by
  unfold iblk
  rw [View.read_apply]
  show V m c main_v9 _ = _
  rw [V_wdt]
  refine Eq.trans ?_ (wDt_at (aW m c) k q)
  show wDt (aW m c) _ = wDt (aW m c) _
  congr 1
  have hi := idx4 t
  funext a
  apply Fin.ext
  match a with
  | ⟨0, _⟩ =>
    show win0_4.index t (0 : Fin 2) * 1024 + 1 * k.val = k.val
    rw [hi]
    show 0 * 1024 + 1 * k.val = k.val
    omega
  | ⟨1, _⟩ =>
    show win0_4.index t (1 : Fin 2) * 128 + 1 * q.val = q.val
    rw [hi]
    show 0 * 128 + 1 * q.val = q.val
    omega

/-! ## The outputs -/

theorem pay2_blk (c : Dev nD) (t : Fin cfg0.N) (p k : Fin 1024) (b : Fin 2) (r : Fin 8192) (hb : b.val = t.val / 32) (hr : r.val = 1024 * (t.val / 4 % 8) + p.val) :
    k0_pay2 (F := Ideal) (iblk m c 0 t) (iblk m c 2 t) (mrow 0 (iblk m c 1 t)) (mrow 1 (iblk m c 1 t)) (ix2 p k) = nrm (aX m c) (aM m c) (aN m c) b r k := by
  refine (rows_pay_at _ _ _ p k).trans ?_
  have s := Finset.sum_congr (s₁ := Finset.univ) rfl fun q (_ : q ∈ (Finset.univ : Finset (Fin 1024))) => congrArg (fun a : EReal => a * a) (blk_x m c t p q b r hb hr)
  obtain ⟨g0, g1⟩ := mods_at (aM m c) b k
  have m0 := (blk_m m c t 0 k b hb).trans g0
  have m1 := (blk_m m c t 1 k b hb).trans g1
  unfold nrm
  exact congrArg₂ (fun a b : EReal => a + b) (congrArg₂ (fun a b : EReal => a * b) (congrArg₂ (fun a b : EReal => a * b) (congrArg₂ (fun a b : EReal => a * b) (blk_x m c t p k b r hb hr)
    (congrArg (fun a : EReal => Ideal.rsqrt (Ideal.div a (Ideal.ofBits FTy.f32 1149239296#32) + Ideal.ofBits FTy.f32 897988541#32)) s)) (blk_n m c t k))
    (congrArg (fun a : EReal => 1 + a) m1)) m0

/-- What both programs leave in the wide result. -/
def result (x : Stream) (md : Mods) (nw : Chan) (w : Win) (b : Fin 2) (r : Fin 8192) (j : Fin 9216) : EReal := place (fun q => full x md nw w b r q) j
/-- What both leave in the step result. -/
def resultDt (x : Stream) (md : Mods) (nw : Chan) (w : Win) (b : Fin 2) (r : Fin 8192) (j : Fin 128) : EReal := placeDt (fun q => full x md nw w b r q) j

theorem p_at (c : Dev nD) (t : Fin cfg0.N) (p : Fin 1024) (q : Fin 2304) (b : Fin 2) (r : Fin 8192) (j : Fin 9216) (hb : b.val = t.val / 32) (hr : r.val = 1024 * (t.val / 4 % 8) + p.val)
    (hj : j.val = 2304 * (t.val % 4) + q.val) : pAt m c t (ix3 0 p q) = result (aX m c) (aM m c) (aN m c) (aW m c) b r j := by
  unfold pAt rowsAt
  refine (pay1_at _ _ p q).trans ?_
  unfold result full
  rw [← place_sum]
  have hb' : b.val = (base t).val / 32 := by show b.val = 4 * (t.val / 4) / 32; omega
  have hr' : r.val = 1024 * ((base t).val / 4 % 8) + p.val := by show r.val = 1024 * (4 * (t.val / 4) / 4 % 8) + p.val; omega
  refine Finset.sum_congr rfl fun k _ => ?_
  exact congrArg₂ (fun a b : EReal => a * b) ((pay3_at _ _ _ _ p k).trans (pay2_blk m c (base t) p k b r hb' hr')) (blk_w m c t k q j hj)

theorem dt_at (c : Dev nD) (t : Fin cfg0.N) (p : Fin 1024) (q : Fin 128) (b : Fin 2) (r : Fin 8192) (hb : b.val = t.val / 32) (hr : r.val = 1024 * (t.val / 4 % 8) + p.val) :
    dtAt m c t (ix3 0 p q) = resultDt (aX m c) (aM m c) (aN m c) (aW m c) b r q := by
  unfold dtAt
  refine (pay4_at _ _ _ _ _ p q).trans ?_
  unfold resultDt full
  rw [← placeDt_sum]
  have hb' : b.val = (base t).val / 32 := by show b.val = 4 * (t.val / 4) / 32; omega
  have hr' : r.val = 1024 * ((base t).val / 4 % 8) + p.val := by show r.val = 1024 * (4 * (t.val / 4) / 4 % 8) + p.val; omega
  refine Finset.sum_congr rfl fun k _ => ?_
  exact congrArg₂ (fun a b : EReal => a * b) (pay2_blk m c (base t) p k b r hb' hr') (blk_wdt m c (base t) k q)

end Cert.MixInproj

end
-- ==== Proof.Inproj.Ref.lean ====
/- The input projection's plain reference read at an index: the row times the weights' columns, placed as the results hold them. -/
module

public import proofs.«01_k».proof.Proof.Inproj.Value
public import proofs.«01_k».proof.Proof.Gen.InprojRefIdeal.Run
public import proofs.«01_k».proof.Proof.Gen.InprojRefIdeal.Read
public import Idealize.ShloMosaic.Lib.IdealHost

@[expose] public section

set_option maxRecDepth 16384
set_option Elab.async false

noncomputable section

namespace Cert.MixInproj

open Cert.InprojRefIdeal Cert.InprojRefIdeal.Gen
open Idealize.ShloMosaic
open Idealize.ShloMosaic.TcCoe
open Idealize.SL.Sem
open Cert.InprojRefIdeal.Read

theorem ref_rows (x : Stream) (md : Mods) (nw : Chan) (b : Fin 2) (t : Fin 8192) (k : Fin 1024) :
    val_main_v20 (F := Ideal) x md nw (ix3 b t k) = nrm x md nw b t k := by
  unfold nrm val_main_v20 val_main_v19 val_main_v18 val_main_v17 val_main_v16 val_main_v15 val_main_v14 val_main_cst_2 val_main_v13
    val_main_v12 val_main_v11 val_main_v10 val_main_v9 val_main_v8 val_main_v7 val_main_v6 val_main_v5 val_main_cst_1 val_main_v4 val_main_v3 val_main_cst_0
    val_main_v2 val_main_v1 val_main_cst val_main_v0
  pointwise

theorem ref_full (x : Stream) (md : Mods) (nw : Chan) (w : Win) (b : Fin 2) (t : Fin 8192) (j : Fin 8976) :
    val_main_v21 (F := Ideal) x md nw w (ix3 b t j) = full x md nw w b t j := by
  unfold full
  simp only [← ref_rows]
  unfold val_main_v21
  generalize val_main_v20 (F := Ideal) x md nw = h
  pointwise

theorem zeros_main (i : S2x8192x256.Idx) : val_main_v26 (F := Ideal) i = (0 : EReal) := by
  rw [val_main_v26_apply, val_main_cst_3_apply]
  exact Ideal.ofBits_zero _
theorem zeros_dt (i : S2x8192x112.Idx) : val_main_v29 (F := Ideal) i = (0 : EReal) := by
  rw [val_main_v29_apply, val_main_cst_4_apply]
  exact Ideal.ofBits_zero _

theorem ref_at (x : Stream) (md : Mods) (nw : Chan) (w : Win) (b : Fin 2) (t : Fin 8192) (j : Fin 9216) :
    val_main_v28 (F := Ideal) x md nw w (ix3 b t j) = result x md nw w b t j := by
  have hj := j.isLt
  unfold result
  simp only [← ref_full]
  refine Eq.trans (show val_main_v28 (F := Ideal) x md nw w (ix3 b t j) = val_main_v27 (F := Ideal) x md nw w (ix3 b t j) from rfl) ?_
  unfold val_main_v27 place val_main_v22 val_main_v23 val_main_v25
  generalize val_main_v21 (F := Ideal) x md nw w = f
  by_cases h0 : j.val < 768
  · rw [dif_pos h0]
    refine (concatenate_apply_piece 2 _ _ (ix3 b t j) 0 (by show 0 < 4; decide) S2x8192x768 _ rfl rfl 0 rfl (ix3 b t ⟨j.val, h0⟩) (fun a ha => ?_) ?_).trans ?_
    · match a with
      | ⟨0, _⟩ => rfl
      | ⟨1, _⟩ => rfl
      | ⟨2, _⟩ => exact absurd rfl ha
    · show 0 + j.val = j.val; omega
    · exact extractStridedSlice_apply ![0, 0, 0] f slices_S2x8192x8976_S2x8192x768_0_0_0 _ (ix3 b t ⟨j.val, by omega⟩) (fun a => match a with
        | ⟨0, _⟩ => by show b.val = 0 + b.val; omega
        | ⟨1, _⟩ => by show t.val = 0 + t.val; omega
        | ⟨2, _⟩ => by show j.val = 0 + j.val; omega)
  · rw [dif_neg h0]
    by_cases h1 : j.val < 1024
    · rw [dif_pos h1]
      refine (concatenate_apply_piece 2 _ _ (ix3 b t j) 1 (by show 1 < 4; decide) S2x8192x256 _ rfl rfl 768 rfl (ix3 b t ⟨j.val - 768, by omega⟩) (fun a ha => ?_) ?_).trans ?_
      · match a with
        | ⟨0, _⟩ => rfl
        | ⟨1, _⟩ => rfl
        | ⟨2, _⟩ => exact absurd rfl ha
      · show 768 + (j.val - 768) = j.val; omega
      · exact zeros_main _
    · rw [dif_neg h1]
      by_cases h2 : j.val < 6144
      · rw [dif_pos h2]
        refine (concatenate_apply_piece 2 _ _ (ix3 b t j) 2 (by show 2 < 4; decide) S2x8192x5120 _ rfl rfl 1024 rfl (ix3 b t ⟨j.val - 1024, by omega⟩) (fun a ha => ?_) ?_).trans ?_
        · match a with
          | ⟨0, _⟩ => rfl
          | ⟨1, _⟩ => rfl
          | ⟨2, _⟩ => exact absurd rfl ha
        · show 1024 + (j.val - 1024) = j.val; omega
        · exact extractStridedSlice_apply ![0, 0, 768] f slices_S2x8192x8976_S2x8192x5120_0_0_768 _ (ix3 b t ⟨j.val - 256, by omega⟩) (fun a => match a with
            | ⟨0, _⟩ => by show b.val = 0 + b.val; omega
            | ⟨1, _⟩ => by show t.val = 0 + t.val; omega
            | ⟨2, _⟩ => by show j.val - 256 = 768 + (j.val - 1024); omega)
      · rw [dif_neg h2]
        refine (concatenate_apply_piece 2 _ _ (ix3 b t j) 3 (by show 3 < 4; decide) S2x8192x3072 _ rfl rfl 6144 rfl (ix3 b t ⟨j.val - 6144, by omega⟩) (fun a ha => ?_) ?_).trans ?_
        · match a with
          | ⟨0, _⟩ => rfl
          | ⟨1, _⟩ => rfl
          | ⟨2, _⟩ => exact absurd rfl ha
        · show 6144 + (j.val - 6144) = j.val; omega
        · exact extractStridedSlice_apply ![0, 0, 5904] f slices_S2x8192x8976_S2x8192x3072_0_0_5904 _ (ix3 b t ⟨j.val - 240, by omega⟩) (fun a => match a with
            | ⟨0, _⟩ => by show b.val = 0 + b.val; omega
            | ⟨1, _⟩ => by show t.val = 0 + t.val; omega
            | ⟨2, _⟩ => by show j.val - 240 = 5904 + (j.val - 6144); omega)

theorem ref_dt_at (x : Stream) (md : Mods) (nw : Chan) (w : Win) (b : Fin 2) (t : Fin 8192) (j : Fin 128) :
    val_main_v30 (F := Ideal) x md nw w (ix3 b t j) = resultDt x md nw w b t j := by
  have hj := j.isLt
  unfold resultDt
  simp only [← ref_full]
  unfold val_main_v30 placeDt val_main_v24
  generalize val_main_v21 (F := Ideal) x md nw w = f
  by_cases h0 : j.val < 16
  · rw [dif_pos h0]
    refine (concatenate_apply_piece 2 _ _ (ix3 b t j) 0 (by show 0 < 2; decide) S2x8192x16 _ rfl rfl 0 rfl (ix3 b t ⟨j.val, h0⟩) (fun a ha => ?_) ?_).trans ?_
    · match a with
      | ⟨0, _⟩ => rfl
      | ⟨1, _⟩ => rfl
      | ⟨2, _⟩ => exact absurd rfl ha
    · show 0 + j.val = j.val; omega
    · exact extractStridedSlice_apply ![0, 0, 5888] f slices_S2x8192x8976_S2x8192x16_0_0_5888 _ (ix3 b t ⟨5888 + j.val, by omega⟩) (fun a => match a with
        | ⟨0, _⟩ => by show b.val = 0 + b.val; omega
        | ⟨1, _⟩ => by show t.val = 0 + t.val; omega
        | ⟨2, _⟩ => by show 5888 + j.val = 5888 + j.val; omega)
  · rw [dif_neg h0]
    refine (concatenate_apply_piece 2 _ _ (ix3 b t j) 1 (by show 1 < 2; decide) S2x8192x112 _ rfl rfl 16 rfl (ix3 b t ⟨j.val - 16, by omega⟩) (fun a ha => ?_) ?_).trans ?_
    · match a with
      | ⟨0, _⟩ => rfl
      | ⟨1, _⟩ => rfl
      | ⟨2, _⟩ => exact absurd rfl ha
    · show 16 + (j.val - 16) = j.val; omega
    · exact zeros_dt _

end Cert.MixInproj

end
-- ==== Proof.Inproj.Algebraic.lean ====
/- The input projection's value claim: both outputs after the run are the plain reference's two results. -/
module

public import proofs.«01_k».proof.Proof.Inproj.Ref
public import proofs.«01_k».proof.Defs

@[expose] public section

set_option maxRecDepth 16384
set_option Elab.async false

noncomputable section

namespace Cert.MixInproj

open Cert.InprojIdeal Cert.InprojIdeal.Gen
open Idealize.ShloMosaic
open Idealize.ShloMosaic.TcCoe
open Idealize.SL.Sem
open Idealize.ShloMosaic.Pipeline (Dat Cfg Window)
open Cert.InprojRefIdeal.Read

variable (m : (ℓ : Loc nD τ sig) → Buf (Elt Ideal) ℓ)

/-! ## The wide output -/

theorem flushed5 (c : Dev nD) (t : Fin cfg0.N) (y : ((cfg0.win 5).xblock (cfg0.grid.coords t)).Idx) :
    (dats m 0 c).flushed 5 t y = result (aX m c) (aM m c) (aN m c) (aW m c) ((((cfg0.win 5).blk t).view.emb y : S2x8192x9216.Idx) 0)
      ((((cfg0.win 5).blk t).view.emb y : S2x8192x9216.Idx) 1) ((((cfg0.win 5).blk t).view.emb y : S2x8192x9216.Idx) 2) := by
  have hi := idx5 t
  have y0 : (y 0).val < 1 := (y 0).isLt
  have r0 : ((((cfg0.win 5).blk t).view.emb y : S2x8192x9216.Idx) 0).val = t.val / 32 := by
    show win0_5.index t (0 : Fin 3) * 1 + 1 * (y 0).val = _
    rw [hi]
    show t.val / 32 * 1 + 1 * (y 0).val = _
    omega
  have r1 : ((((cfg0.win 5).blk t).view.emb y : S2x8192x9216.Idx) 1).val = 1024 * (t.val / 4 % 8) + (y 1).val := by
    show win0_5.index t (1 : Fin 3) * 1024 + 1 * (y 1).val = _
    rw [hi]
    show t.val / 4 % 8 * 1024 + 1 * (y 1).val = _
    omega
  have r2 : ((((cfg0.win 5).blk t).view.emb y : S2x8192x9216.Idx) 2).val = 2304 * (t.val % 4) + (y 2).val := by
    show win0_5.index t (2 : Fin 3) * 2304 + 1 * (y 2).val = _
    rw [hi]
    show t.val % 4 * 2304 + 1 * (y 2).val = _
    omega
  have hy : (y : S1x1024x2304.Idx) = ix3 0 (y 1 : Fin 1024) (y 2 : Fin 2304) := by
    funext a
    match a with
    | ⟨0, _⟩ => exact Fin.ext (by show (y 0).val = 0; omega)
    | ⟨1, _⟩ => rfl
    | ⟨2, _⟩ => rfl
  exact (congrArg (pAt m c t) hy).trans (p_at m c t (y 1) (y 2) _ _ _ r0 r1 r2)

theorem mem_blk5 (t : Fin cfg0.N) (i : S2x8192x9216.Idx) :
    i ∈ ((cfg0.win 5).blk t).view.set ↔ ∀ a : Fin 3, win0_5.index t a * S1x1024x2304.size a ≤ (i a).val
      ∧ (i a).val < win0_5.index t a * S1x1024x2304.size a + S1x1024x2304.size a := by
  show i ∈ ((View.whole main_v11_0).slice ((cfg0.win 5).rect t)).set ↔ _
  rw [View.set_slice_whole, Rect.mem_set_unit]
  exact Iff.rfl

theorem final5 (c : Dev nD) (i : S2x8192x9216.Idx) :
    ((dats m 0 c).arrAt 5 cfg0.N : S2x8192x9216.Idx → EReal) i = result (aX m c) (aM m c) (aN m c) (aW m c) (i 0) (i 1) (i 2) := by
  have i0 : (i 0).val < 2 := (i 0).isLt
  have i1 : (i 1).val < 8192 := (i 1).isLt
  have i2 : (i 2).val < 9216 := (i 2).isLt
  have hN : cfg0.N = 64 := rfl
  let t : Fin cfg0.N := ⟨32 * (i 0).val + 4 * ((i 1).val / 1024) + (i 2).val / 2304, by omega⟩
  have ht : t.val = 32 * (i 0).val + 4 * ((i 1).val / 1024) + (i 2).val / 2304 := rfl
  have hi : i ∈ ((cfg0.win 5).blk t).view.set := by
    rw [mem_blk5, idx5]
    intro a
    match a with
    | ⟨0, _⟩ =>
      show t.val / 32 * 1 ≤ (i 0).val ∧ (i 0).val < t.val / 32 * 1 + 1
      omega
    | ⟨1, _⟩ =>
      show t.val / 4 % 8 * 1024 ≤ (i 1).val ∧ (i 1).val < t.val / 4 % 8 * 1024 + 1024
      omega
    | ⟨2, _⟩ =>
      show t.val % 4 * 2304 ≤ (i 2).val ∧ (i 2).val < t.val % 4 * 2304 + 2304
      omega
  exact (dats m 0 c).arrAt_forall_of_flushed 5 (fun i v => (v : EReal) = result (aX m c) (aM m c) (aN m c) (aW m c) ((i : S2x8192x9216.Idx) 0) ((i : S2x8192x9216.Idx) 1) ((i : S2x8192x9216.Idx) 2))
    (fun t hf y => flushed5 m c t y) cfg0.N t i t.isLt (flush0_5 t) hi

/-! ## The step output -/

theorem flushed6 (c : Dev nD) (t : Fin cfg0.N) (y : ((cfg0.win 6).xblock (cfg0.grid.coords t)).Idx) :
    (dats m 0 c).flushed 6 t y = resultDt (aX m c) (aM m c) (aN m c) (aW m c) ((((cfg0.win 6).blk t).view.emb y : S2x8192x128.Idx) 0)
      ((((cfg0.win 6).blk t).view.emb y : S2x8192x128.Idx) 1) ((((cfg0.win 6).blk t).view.emb y : S2x8192x128.Idx) 2) := by
  have hi := idx6 t
  have y0 : (y 0).val < 1 := (y 0).isLt
  have r0 : ((((cfg0.win 6).blk t).view.emb y : S2x8192x128.Idx) 0).val = t.val / 32 := by
    show win0_6.index t (0 : Fin 3) * 1 + 1 * (y 0).val = _
    rw [hi]
    show t.val / 32 * 1 + 1 * (y 0).val = _
    omega
  have r1 : ((((cfg0.win 6).blk t).view.emb y : S2x8192x128.Idx) 1).val = 1024 * (t.val / 4 % 8) + (y 1).val := by
    show win0_6.index t (1 : Fin 3) * 1024 + 1 * (y 1).val = _
    rw [hi]
    show t.val / 4 % 8 * 1024 + 1 * (y 1).val = _
    omega
  have r2 : ((((cfg0.win 6).blk t).view.emb y : S2x8192x128.Idx) 2) = (y 2 : Fin 128) := by
    apply Fin.ext
    show win0_6.index t (2 : Fin 3) * 128 + 1 * (y 2).val = (y 2).val
    rw [hi]
    show 0 * 128 + 1 * (y 2).val = (y 2).val
    omega
  have hy : (y : S1x1024x128.Idx) = ix3 0 (y 1 : Fin 1024) (y 2 : Fin 128) := by
    funext a
    match a with
    | ⟨0, _⟩ => exact Fin.ext (by show (y 0).val = 0; omega)
    | ⟨1, _⟩ => rfl
    | ⟨2, _⟩ => rfl
  refine (congrArg (dtAt m c t) hy).trans ((dt_at m c t (y 1) (y 2) _ _ r0 r1).trans ?_)
  exact congrArg (fun o : Fin 128 => resultDt (aX m c) (aM m c) (aN m c) (aW m c) _ _ o) r2.symm

theorem mem_blk6 (t : Fin cfg0.N) (i : S2x8192x128.Idx) :
    i ∈ ((cfg0.win 6).blk t).view.set ↔ ∀ a : Fin 3, win0_6.index t a * S1x1024x128.size a ≤ (i a).val
      ∧ (i a).val < win0_6.index t a * S1x1024x128.size a + S1x1024x128.size a := by
  show i ∈ ((View.whole main_v11_1).slice ((cfg0.win 6).rect t)).set ↔ _
  rw [View.set_slice_whole, Rect.mem_set_unit]
  exact Iff.rfl

theorem final6 (c : Dev nD) (i : S2x8192x128.Idx) :
    ((dats m 0 c).arrAt 6 cfg0.N : S2x8192x128.Idx → EReal) i = resultDt (aX m c) (aM m c) (aN m c) (aW m c) (i 0) (i 1) (i 2) := by
  have i0 : (i 0).val < 2 := (i 0).isLt
  have i1 : (i 1).val < 8192 := (i 1).isLt
  have i2 : (i 2).val < 128 := (i 2).isLt
  have hN : cfg0.N = 64 := rfl
  let t : Fin cfg0.N := ⟨32 * (i 0).val + 4 * ((i 1).val / 1024) + 3, by omega⟩
  have ht : t.val = 32 * (i 0).val + 4 * ((i 1).val / 1024) + 3 := rfl
  have hi : i ∈ ((cfg0.win 6).blk t).view.set := by
    rw [mem_blk6, idx6]
    intro a
    match a with
    | ⟨0, _⟩ =>
      show t.val / 32 * 1 ≤ (i 0).val ∧ (i 0).val < t.val / 32 * 1 + 1
      omega
    | ⟨1, _⟩ =>
      show t.val / 4 % 8 * 1024 ≤ (i 1).val ∧ (i 1).val < t.val / 4 % 8 * 1024 + 1024
      omega
    | ⟨2, _⟩ =>
      show 0 * 128 ≤ (i 2).val ∧ (i 2).val < 0 * 128 + 128
      omega
  exact (dats m 0 c).arrAt_forall_of_flushed 6 (fun i v => (v : EReal) = resultDt (aX m c) (aM m c) (aN m c) (aW m c) ((i : S2x8192x128.Idx) 0) ((i : S2x8192x128.Idx) 1) ((i : S2x8192x128.Idx) 2))
    (fun t hf y => flushed6 m c t y) cfg0.N t i t.isLt ((flush0_6 t).mpr (by omega)) hi

/-! ## The claim -/

theorem ix3_self {n0 n1 n2 : ℕ} (i : (⟨3, ![n0, n1, n2]⟩ : Shape).Idx) : i = ix3 (i 0 : Fin n0) (i 1 : Fin n1) (i 2 : Fin n2) := by
  funext a
  match a with
  | ⟨0, _⟩ => rfl
  | ⟨1, _⟩ => rfl
  | ⟨2, _⟩ => rfl

theorem wide_eq (c : Dev nD) : ((dats m 0 c).arrAt 5 cfg0.N : S2x8192x9216.Idx → EReal) = val_main_v28 (F := Ideal) (aX m c) (aM m c) (aN m c) (aW m c) := by
  funext i
  refine (final5 m c i).trans ?_
  exact (ref_at _ _ _ _ _ _ _).symm.trans (congrArg (val_main_v28 (F := Ideal) (aX m c) (aM m c) (aN m c) (aW m c)) (ix3_self i).symm)

theorem step_eq (c : Dev nD) : ((dats m 0 c).arrAt 6 cfg0.N : S2x8192x128.Idx → EReal) = val_main_v30 (F := Ideal) (aX m c) (aM m c) (aN m c) (aW m c) := by
  funext i
  refine (final6 m c i).trans ?_
  exact (ref_dt_at _ _ _ _ _ _ _).symm.trans (congrArg (val_main_v30 (F := Ideal) (aX m c) (aM m c) (aN m c) (aW m c)) (ix3_self i).symm)

theorem algebraic : Cert.algebraic_InprojIdeal_InprojRefIdeal := fun m g m' g' _ hargs => by
  refine ⟨fun c => val_main_v28 (F := Ideal) (aX m c) (aM m c) (aN m c) (aW m c), fun c => val_main_v30 (F := Ideal) (aX m c) (aM m c) (aN m c) (aW m c), ?_, ?_⟩
  · exact (θ_run _ _ _).mono (fun r h c => ⟨((h.1 c).1 5).trans (wide_eq m c), ((h.1 c).1 6).trans (step_eq m c), h.2.1 c⟩)
      (θ_run_and (run_main m g) (frame m g))
  · refine (θ_run _ _ _).mono (fun r h c => ⟨?_, ?_, (h c).2.2⟩) (Cert.InprojRefIdeal.Value.run (F := Ideal) m' g')
    · obtain ⟨e0, e1, e2, e3⟩ := hargs c
      have e := (h c).1.trans (val_main_v28_eq m' c)
      rw [e0, e1, e2, e3] at e
      exact e
    · obtain ⟨e0, e1, e2, e3⟩ := hargs c
      have e := (h c).2.1.trans (val_main_v30_eq _ _ _ _)
      rw [e0, e1, e2, e3] at e
      exact e

end Cert.MixInproj

end
-- ==== Proof.lean ====
/- The certificate's claim, assembled: the experts' frames and value (Proof/Experts), the dense channel mixer's
   (Proof/Ffn), the combine's (Proof/Combine), the input projection's (Proof/Inproj), and the frames of the four references. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Pre_routed
public import proofs.«01_k».proof.Proof.Gen.Pre_planned
public import proofs.«01_k».proof.Proof.Gen.On_used_rows
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.ReferenceIdeal.Run
public import proofs.«01_k».proof.Proof.Gen.ReferenceIdeal.Read
public import proofs.«01_k».proof.Proof.Gen.Combine
public import proofs.«01_k».proof.Proof.Gen.Combine.Skeleton
public import proofs.«01_k».proof.Proof.Gen.Combine.Launch
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineRefIdeal
public import proofs.«01_k».proof.Proof.Gen.CombineRefIdeal.Run
public import proofs.«01_k».proof.Proof.Gen.CombineRefIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojRefIdeal.Run
public import proofs.«01_k».proof.Proof.Gen.InprojRefIdeal.Read
public import Idealize.ShloMosaic.Adequacy
public import Idealize.ShloMosaic.Init
public import proofs.«01_k».proof.Proof.Experts.Pre
public import proofs.«01_k».proof.Proof.Experts.Algebraic
public import proofs.«01_k».proof.Proof.Ffn.Algebraic
public import proofs.«01_k».proof.Proof.Combine.Pre
public import proofs.«01_k».proof.Proof.Combine.Algebraic
public import proofs.«01_k».proof.Proof.Inproj.Pre
public import proofs.«01_k».proof.Proof.Inproj.Algebraic

@[expose] public section

noncomputable section

namespace Cert.Proof

open Idealize.ShloMosaic Idealize.SL.Sem

/-- The experts' reference leaves its arguments unchanged; it declares no semaphore. -/
theorem frame_experts_ref : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same under the routing tables' precondition. -/
theorem frame_experts_ref_routed : Cert.quiescent_ReferenceIdeal_pre_routed := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The dense channel mixer's reference leaves its arguments unchanged; it declares no semaphore. -/
theorem frame_ffn_ref : Cert.quiescent_FfnRefIdeal := fun m ρ _ =>
  (θ_run Cert.FfnRefIdeal.defs _ _).mono
    (fun r h => ⟨fun c => (h c).2, sem_eq_zero_of_no_sems (by decide) r.2⟩)
    (Cert.FfnRefIdeal.Value.run (F := Ideal) m ρ)

/-- The combine's reference leaves its arguments unchanged; it declares no semaphore. -/
theorem frame_combine_ref : Cert.quiescent_CombineRefIdeal := fun m ρ _ =>
  (θ_run Cert.CombineRefIdeal.defs _ _).mono
    (fun r h => ⟨fun c => (h c).2, sem_eq_zero_of_no_sems (by decide) r.2⟩)
    (Cert.CombineRefIdeal.Value.run (F := Ideal) m ρ)

/-- The same under the pair tables' precondition. -/
theorem frame_combine_ref_planned : Cert.quiescent_CombineRefIdeal_pre_planned := fun m ρ _ =>
  (θ_run Cert.CombineRefIdeal.defs _ _).mono
    (fun r h => ⟨fun c => (h c).2, sem_eq_zero_of_no_sems (by decide) r.2⟩)
    (Cert.CombineRefIdeal.Value.run (F := Ideal) m ρ)

/-- The input projection's reference leaves its arguments unchanged; it declares no semaphore. -/
theorem frame_inproj_ref : Cert.quiescent_InprojRefIdeal := fun m ρ _ =>
  (θ_run Cert.InprojRefIdeal.defs _ _).mono
    (fun r h => ⟨fun c => (h c).2.2, sem_eq_zero_of_no_sems (by decide) r.2⟩)
    (Cert.InprojRefIdeal.Value.run (F := Ideal) m ρ)

theorem claim : Cert.Claim :=
  ⟨Cert.Kernel.Gen.facts, Cert.KernelIdeal.Gen.facts, Cert.ReferenceIdeal.Gen.facts, Cert.Ffn.Gen.facts,
    Cert.FfnIdeal.Gen.facts, Cert.FfnRefIdeal.Gen.facts, Cert.Combine.Gen.facts, Cert.CombineIdeal.Gen.facts,
    Cert.CombineRefIdeal.Gen.facts, Cert.Inproj.Gen.facts, Cert.InprojIdeal.Gen.facts, Cert.InprojRefIdeal.Gen.facts,
    Cert.Pre_routed.Gen.facts, Cert.Pre_planned.Gen.facts, Cert.On_used_rows.Gen.facts,
    Cert.Experts.frame_bits, Cert.Experts.frame_ideal, frame_experts_ref, frame_experts_ref_routed,
    fun m ρ _ => Cert.Ffn.Gen.frame m ρ, fun m ρ _ => Cert.FfnIdeal.Gen.frame m ρ, frame_ffn_ref,
    Cert.MixCombine.frame_bits, Cert.MixCombine.frame_ideal, frame_combine_ref, frame_combine_ref_planned,
    Cert.MixInproj.frame_bits, Cert.MixInproj.frame_ideal, frame_inproj_ref,
    trivial, Cert.Experts.algebraic, trivial, Cert.MixFfn.algebraic, trivial, Cert.MixCombine.algebraic, trivial, Cert.MixInproj.algebraic⟩

end Cert.Proof

end
